-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![8, 2048, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x1024 : Shape := ⟨2, ![2048, 1024]⟩
abbrev S3x3x384x1024 : Shape := ⟨4, ![3, 3, 384, 1024]⟩
abbrev S1024x1024 : Shape := ⟨2, ![1024, 1024]⟩
abbrev S3x12 : Shape := ⟨2, ![3, 12]⟩
abbrev S1x384x1024 : Shape := ⟨3, ![1, 384, 1024]⟩
abbrev S384x1024 : Shape := ⟨2, ![384, 1024]⟩
abbrev S1x320x1024 : Shape := ⟨3, ![1, 320, 1024]⟩
abbrev S320x1024 : Shape := ⟨2, ![320, 1024]⟩
abbrev S_ : Shape := ⟨0, ![]⟩
abbrev S1x1 : Shape := ⟨2, ![1, 1]⟩
abbrev S1x1x192x1024 : Shape := ⟨4, ![1, 1, 192, 1024]⟩
abbrev S192x1024 : Shape := ⟨2, ![192, 1024]⟩
abbrev S1x1x160x1024 : Shape := ⟨4, ![1, 1, 160, 1024]⟩
abbrev S160x1024 : Shape := ⟨2, ![160, 1024]⟩
abbrev S1x192x1024 : Shape := ⟨3, ![1, 192, 1024]⟩
abbrev S1x1x96x1024 : Shape := ⟨4, ![1, 1, 96, 1024]⟩
abbrev S96x1024 : Shape := ⟨2, ![96, 1024]⟩
abbrev S1x160x1024 : Shape := ⟨3, ![1, 160, 1024]⟩
abbrev S1x1x80x1024 : Shape := ⟨4, ![1, 1, 80, 1024]⟩
abbrev S80x1024 : Shape := ⟨2, ![80, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .bf16⟩
  | .hbm, ⟨1, _⟩ => ⟨S2048x1024, .bf16⟩
  | .local _ .vmem, ⟨0, _⟩ => ⟨S1x2048x1024, .bf16⟩
  | .local _ .vmem, ⟨1, _⟩ => ⟨S2048x1024, .bf16⟩
  | .local _ .vmem, ⟨2, _⟩ => ⟨S3x3x384x1024, .bf16⟩
  | .local _ .vmem, ⟨3, _⟩ => ⟨S1024x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0 : Index := 0#32
  let c0_i32_9 : BitVec 32 := 0#32
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v27 : BitVec 32 := Scalar.subi c1_i32_7 v8
  let c384_i32_8 : BitVec 32 := 384#32
  let v28 : BitVec 32 := Scalar.muli v27 c384_i32_8
  let v29 : BitVec 32 := Scalar.addi c0_i32_9 v28
  let v30 : Index := Scalar.indexCast v29
  let c0_10 : Index := 0#32
  ![0, v30.toNat, 0]
def k0_off2 (d0 : Dev nD) (c768_i32_15 : BitVec 32) (c1_i32_1 : BitVec 32) : Fin 3 → Nat :=
  let c0_16 : Index := 0#32
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4 : BitVec 32 := Scalar.shrsi v2 c1_i32_1
  let c1_i32_2 : BitVec 32 := 1#32
  let v5 : BitVec 32 := Scalar.andi v4 c1_i32_2
  let v36 : BitVec 32 := Scalar.subi c1_i32_13 v5
  let c320_i32_14 : BitVec 32 := 320#32
  let v37 : BitVec 32 := Scalar.muli v36 c320_i32_14
  let v38 : BitVec 32 := Scalar.addi c768_i32_15 v37
  let v39 : Index := Scalar.indexCast v38
  let c0_17 : Index := 0#32
  ![0, v39.toNat, 0]
def k0_off2_at (r : Fin 2) : BitVec 32 × BitVec 32 :=
  if r.val < 1 then
    (768#32, 1#32)
  else
    (1408#32, 2#32)
def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v55 : BitVec 32 := Scalar.xori v2 c1_i32_25
  let c1_i32_27 : BitVec 32 := 1#32
  let v56 : BitVec 32 := Scalar.muli v55 c1_i32_27
  let v57 : BitVec 32 := Scalar.addi c0_i32_28 v56
  v57.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v58 : BitVec 32 := Scalar.xori v2 c3_i32
  let c1_i32_30 : BitVec 32 := 1#32
  let v59 : BitVec 32 := Scalar.muli v58 c1_i32_30
  let v60 : BitVec 32 := Scalar.addi c0_i32_31 v59
  v60.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v61 : BitVec 32 := Scalar.xori v2 c4_i32
  let c1_i32_33 : BitVec 32 := 1#32
  let v62 : BitVec 32 := Scalar.muli v61 c1_i32_33
  let v63 : BitVec 32 := Scalar.addi c0_i32_34 v62
  v63.toNat
def k0_off3 (d0 : Dev nD) : Fin 4 → Nat :=
  let c0_i32_40 : BitVec 32 := 0#32
  let c0_i32_41 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v64 : BitVec 32 := Scalar.subi c1_i32_36 v5
  let c192_i32_37 : BitVec 32 := 192#32
  let v65 : BitVec 32 := Scalar.muli v64 c192_i32_37
  let c0_i32_48 : BitVec 32 := 0#32
  ![0, 0, v65.toNat, 0]
def k0_off4 (d0 : Dev nD) : Fin 2 → Nat :=
  let c0_i32_38 : BitVec 32 := 0#32
  let c1_i32_36 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v64 : BitVec 32 := Scalar.subi c1_i32_36 v5
  let c192_i32_37 : BitVec 32 := 192#32
  let v65 : BitVec 32 := Scalar.muli v64 c192_i32_37
  let v66 : BitVec 32 := Scalar.addi c0_i32_38 v65
  let c0_i32_49 : BitVec 32 := 0#32
  ![v66.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v67 : BitVec 32 := Scalar.xori v2 c1_i32_39
  let c1_i32_46 : BitVec 32 := 1#32
  let v68 : BitVec 32 := Scalar.muli v67 c1_i32_46
  let v69 : BitVec 32 := Scalar.addi c0_i32_47 v68
  v69.toNat
def k0_off5 (d0 : Dev nD) : Fin 4 → Nat :=
  let c0_i32_53 : BitVec 32 := 0#32
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_50 : BitVec 32 := 192#32
  let v77 : BitVec 32 := Scalar.muli v5 c192_i32_50
  let c0_i32_61 : BitVec 32 := 0#32
  ![0, 0, v77.toNat, 0]
def k0_off6 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_50 : BitVec 32 := 192#32
  let v77 : BitVec 32 := Scalar.muli v5 c192_i32_50
  let v78 : BitVec 32 := Scalar.addi c0_i32_51 v77
  let c0_i32_62 : BitVec 32 := 0#32
  ![v78.toNat, 0]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_52 : BitVec 32 := 1#32
  let v79 : BitVec 32 := Scalar.xori v2 c1_i32_52
  let c1_i32_59 : BitVec 32 := 1#32
  let v80 : BitVec 32 := Scalar.muli v79 c1_i32_59
  let v81 : BitVec 32 := Scalar.addi c0_i32_60 v80
  v81.toNat
def k0_off7 (d0 : Dev nD) : Fin 4 → Nat :=
  let c1_i32_67 : BitVec 32 := 1#32
  let c0_i32_68 : BitVec 32 := 0#32
  let c1_i32_63 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v89 : BitVec 32 := Scalar.subi c1_i32_63 v7
  let c160_i32_64 : BitVec 32 := 160#32
  let v90 : BitVec 32 := Scalar.muli v89 c160_i32_64
  let c0_i32_75 : BitVec 32 := 0#32
  ![1, 0, v90.toNat, 0]
def k0_off8 (d0 : Dev nD) : Fin 2 → Nat :=
  let c384_i32_65 : BitVec 32 := 384#32
  let c1_i32_63 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v89 : BitVec 32 := Scalar.subi c1_i32_63 v7
  let c160_i32_64 : BitVec 32 := 160#32
  let v90 : BitVec 32 := Scalar.muli v89 c160_i32_64
  let v91 : BitVec 32 := Scalar.addi c384_i32_65 v90
  let c0_i32_76 : BitVec 32 := 0#32
  ![v91.toNat, 0]
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_66 : BitVec 32 := 3#32
  let v92 : BitVec 32 := Scalar.xori v2 c3_i32_66
  let c1_i32_73 : BitVec 32 := 1#32
  let v93 : BitVec 32 := Scalar.muli v92 c1_i32_73
  let v94 : BitVec 32 := Scalar.addi c0_i32_74 v93
  v94.toNat
def k0_off9 (d0 : Dev nD) : Fin 4 → Nat :=
  let c1_i32_80 : BitVec 32 := 1#32
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_77 : BitVec 32 := 160#32
  let v102 : BitVec 32 := Scalar.muli v7 c160_i32_77
  let c0_i32_88 : BitVec 32 := 0#32
  ![1, 0, v102.toNat, 0]
def k0_off10 (d0 : Dev nD) : Fin 2 → Nat :=
  let c384_i32_78 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_77 : BitVec 32 := 160#32
  let v102 : BitVec 32 := Scalar.muli v7 c160_i32_77
  let v103 : BitVec 32 := Scalar.addi c384_i32_78 v102
  let c0_i32_89 : BitVec 32 := 0#32
  ![v103.toNat, 0]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v104 : BitVec 32 := Scalar.xori v2 c3_i32_79
  let c1_i32_86 : BitVec 32 := 1#32
  let v105 : BitVec 32 := Scalar.muli v104 c1_i32_86
  let v106 : BitVec 32 := Scalar.addi c0_i32_87 v105
  v106.toNat
def k0_off11 (d0 : Dev nD) : Fin 4 → Nat :=
  let c2_i32_93 : BitVec 32 := 2#32
  let c0_i32_94 : BitVec 32 := 0#32
  let c1_i32_90 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v114 : BitVec 32 := Scalar.subi c1_i32_90 v8
  let c160_i32_91 : BitVec 32 := 160#32
  let v115 : BitVec 32 := Scalar.muli v114 c160_i32_91
  let c0_i32_101 : BitVec 32 := 0#32
  ![2, 0, v115.toNat, 0]
def k0_off12 (d0 : Dev nD) : Fin 2 → Nat :=
  let c704_i32 : BitVec 32 := 704#32
  let c1_i32_90 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v114 : BitVec 32 := Scalar.subi c1_i32_90 v8
  let c160_i32_91 : BitVec 32 := 160#32
  let v115 : BitVec 32 := Scalar.muli v114 c160_i32_91
  let v116 : BitVec 32 := Scalar.addi c704_i32 v115
  let c0_i32_102 : BitVec 32 := 0#32
  ![v116.toNat, 0]
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_92 : BitVec 32 := 4#32
  let v117 : BitVec 32 := Scalar.xori v2 c4_i32_92
  let c1_i32_99 : BitVec 32 := 1#32
  let v118 : BitVec 32 := Scalar.muli v117 c1_i32_99
  let v119 : BitVec 32 := Scalar.addi c0_i32_100 v118
  v119.toNat
def k0_off13 (d0 : Dev nD) : Fin 4 → Nat :=
  let c2_i32_106 : BitVec 32 := 2#32
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_103 : BitVec 32 := 160#32
  let v127 : BitVec 32 := Scalar.muli v8 c160_i32_103
  let c0_i32_114 : BitVec 32 := 0#32
  ![2, 0, v127.toNat, 0]
def k0_off14 (d0 : Dev nD) : Fin 2 → Nat :=
  let c704_i32_104 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_103 : BitVec 32 := 160#32
  let v127 : BitVec 32 := Scalar.muli v8 c160_i32_103
  let v128 : BitVec 32 := Scalar.addi c704_i32_104 v127
  let c0_i32_115 : BitVec 32 := 0#32
  ![v128.toNat, 0]
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_105 : BitVec 32 := 4#32
  let v129 : BitVec 32 := Scalar.xori v2 c4_i32_105
  let c1_i32_112 : BitVec 32 := 1#32
  let v130 : BitVec 32 := Scalar.muli v129 c1_i32_112
  let v131 : BitVec 32 := Scalar.addi c0_i32_113 v130
  v131.toNat
def k0_off15 (d0 : Dev nD) : Fin 3 → Nat :=
  let c0_137 : Index := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c1_i32_116 : BitVec 32 := 1#32
  let v139 : BitVec 32 := Scalar.subi c1_i32_116 v5
  let c192_i32_117 : BitVec 32 := 192#32
  let v140 : BitVec 32 := Scalar.muli v139 c192_i32_117
  let v153 : BitVec 32 := Scalar.addi v10 v140
  let v154 : Index := Scalar.indexCast v153
  let c0_138 : Index := 0#32
  ![0, v154.toNat, 0]
def k0_off16 (d0 : Dev nD) : Fin 4 → Nat :=
  let c0_139 : Index := 0#32
  let c0_140 : Index := 0#32
  let c1_i32_116 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v139 : BitVec 32 := Scalar.subi c1_i32_116 v5
  let c192_i32_117 : BitVec 32 := 192#32
  let v140 : BitVec 32 := Scalar.muli v139 c192_i32_117
  let v157 : Index := Scalar.indexCast v140
  let c0_141 : Index := 0#32
  ![0, 0, v157.toNat, 0]
def k0_off17 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c1_i32_116 : BitVec 32 := 1#32
  let v139 : BitVec 32 := Scalar.subi c1_i32_116 v5
  let c192_i32_117 : BitVec 32 := 192#32
  let v140 : BitVec 32 := Scalar.muli v139 c192_i32_117
  let v161 : BitVec 32 := Scalar.addi v10 v140
  let v162 : Index := Scalar.indexCast v161
  let c0_142 : Index := 0#32
  ![v162.toNat, 0]
def k0_off18 (d0 : Dev nD) : Fin 4 → Nat :=
  let c0_i32_148 : BitVec 32 := 0#32
  let c1_i32_149 : BitVec 32 := 1#32
  let c1_i32_145 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v167 : BitVec 32 := Scalar.subi c1_i32_145 v7
  let c96_i32_146 : BitVec 32 := 96#32
  let v168 : BitVec 32 := Scalar.muli v167 c96_i32_146
  let c0_i32_156 : BitVec 32 := 0#32
  ![0, 1, v168.toNat, 0]
def k0_off19 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c1_i32_143 : BitVec 32 := 1#32
  let v164 : BitVec 32 := Scalar.subi c1_i32_143 v5
  let c192_i32_144 : BitVec 32 := 192#32
  let v165 : BitVec 32 := Scalar.muli v164 c192_i32_144
  let v166 : BitVec 32 := Scalar.addi v10 v165
  let c1_i32_145 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v167 : BitVec 32 := Scalar.subi c1_i32_145 v7
  let c96_i32_146 : BitVec 32 := 96#32
  let v168 : BitVec 32 := Scalar.muli v167 c96_i32_146
  let v169 : BitVec 32 := Scalar.addi v166 v168
  let c0_i32_157 : BitVec 32 := 0#32
  ![v169.toNat, 0]
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v170 : BitVec 32 := Scalar.xori v2 c3_i32_147
  let c1_i32_154 : BitVec 32 := 1#32
  let v171 : BitVec 32 := Scalar.muli v170 c1_i32_154
  let v172 : BitVec 32 := Scalar.addi c0_i32_155 v171
  v172.toNat
def k0_off20 (d0 : Dev nD) : Fin 4 → Nat :=
  let c0_i32_160 : BitVec 32 := 0#32
  let c1_i32_161 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c96_i32_158 : BitVec 32 := 96#32
  let v180 : BitVec 32 := Scalar.muli v7 c96_i32_158
  let c0_i32_168 : BitVec 32 := 0#32
  ![0, 1, v180.toNat, 0]
def k0_off21 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c1_i32_143 : BitVec 32 := 1#32
  let v164 : BitVec 32 := Scalar.subi c1_i32_143 v5
  let c192_i32_144 : BitVec 32 := 192#32
  let v165 : BitVec 32 := Scalar.muli v164 c192_i32_144
  let v166 : BitVec 32 := Scalar.addi v10 v165
  let c2_i32 : BitVec 32 := 2#32
  let v6 : BitVec 32 := Scalar.shrsi v2 c2_i32
  let c1_i32_3 : BitVec 32 := 1#32
  let v7 : BitVec 32 := Scalar.andi v6 c1_i32_3
  let c96_i32_158 : BitVec 32 := 96#32
  let v180 : BitVec 32 := Scalar.muli v7 c96_i32_158
  let v181 : BitVec 32 := Scalar.addi v166 v180
  let c0_i32_169 : BitVec 32 := 0#32
  ![v181.toNat, 0]
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_159 : BitVec 32 := 3#32
  let v182 : BitVec 32 := Scalar.xori v2 c3_i32_159
  let c1_i32_166 : BitVec 32 := 1#32
  let v183 : BitVec 32 := Scalar.muli v182 c1_i32_166
  let v184 : BitVec 32 := Scalar.addi c0_i32_167 v183
  v184.toNat
def k0_off22 (d0 : Dev nD) : Fin 3 → Nat :=
  let c0_191 : Index := 0#32
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c1_i32_170 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v192 : BitVec 32 := Scalar.subi c1_i32_170 v7
  let c160_i32_171 : BitVec 32 := 160#32
  let v193 : BitVec 32 := Scalar.muli v192 c160_i32_171
  let v206 : BitVec 32 := Scalar.addi v16 v193
  let v207 : Index := Scalar.indexCast v206
  let c0_192 : Index := 0#32
  ![0, v207.toNat, 0]
def k0_off23 (d0 : Dev nD) : Fin 4 → Nat :=
  let c1 : Index := 1#32
  let c0_193 : Index := 0#32
  let c1_i32_170 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v192 : BitVec 32 := Scalar.subi c1_i32_170 v7
  let c160_i32_171 : BitVec 32 := 160#32
  let v193 : BitVec 32 := Scalar.muli v192 c160_i32_171
  let v210 : Index := Scalar.indexCast v193
  let c0_194 : Index := 0#32
  ![1, 0, v210.toNat, 0]
def k0_off24 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c1_i32_170 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v192 : BitVec 32 := Scalar.subi c1_i32_170 v7
  let c160_i32_171 : BitVec 32 := 160#32
  let v193 : BitVec 32 := Scalar.muli v192 c160_i32_171
  let v214 : BitVec 32 := Scalar.addi v16 v193
  let v215 : Index := Scalar.indexCast v214
  let c0_195 : Index := 0#32
  ![v215.toNat, 0]
def k0_off25 (d0 : Dev nD) : Fin 4 → Nat :=
  let c1_i32_201 : BitVec 32 := 1#32
  let c1_i32_202 : BitVec 32 := 1#32
  let c1_i32_198 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v220 : BitVec 32 := Scalar.subi c1_i32_198 v8
  let c80_i32_199 : BitVec 32 := 80#32
  let v221 : BitVec 32 := Scalar.muli v220 c80_i32_199
  let c0_i32_209 : BitVec 32 := 0#32
  ![1, 1, v221.toNat, 0]
def k0_off26 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c1_i32_196 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v217 : BitVec 32 := Scalar.subi c1_i32_196 v7
  let c160_i32_197 : BitVec 32 := 160#32
  let v218 : BitVec 32 := Scalar.muli v217 c160_i32_197
  let v219 : BitVec 32 := Scalar.addi v16 v218
  let c1_i32_198 : BitVec 32 := 1#32
  let c1_i32_0 : BitVec 32 := 1#32
  let v3 : BitVec 32 := Scalar.andi v2 c1_i32_0
  let v8 : BitVec 32 := Scalar.xori v3 v5
  let v220 : BitVec 32 := Scalar.subi c1_i32_198 v8
  let c80_i32_199 : BitVec 32 := 80#32
  let v221 : BitVec 32 := Scalar.muli v220 c80_i32_199
  let v222 : BitVec 32 := Scalar.addi v219 v221
  let c0_i32_210 : BitVec 32 := 0#32
  ![v222.toNat, 0]
def k0_dev12 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_200 : BitVec 32 := 4#32
  let v223 : BitVec 32 := Scalar.xori v2 c4_i32_200
  let c1_i32_207 : BitVec 32 := 1#32
  let v224 : BitVec 32 := Scalar.muli v223 c1_i32_207
  let v225 : BitVec 32 := Scalar.addi c0_i32_208 v224
  v225.toNat
def k0_off27 (d0 : Dev nD) : Fin 4 → Nat :=
  let c1_i32_213 : BitVec 32 := 1#32
  let c1_i32_214 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_211 : BitVec 32 := 80#32
  let v233 : BitVec 32 := Scalar.muli v8 c80_i32_211
  let c0_i32_221 : BitVec 32 := 0#32
  ![1, 1, v233.toNat, 0]
def k0_off28 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c1_i32_196 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v217 : BitVec 32 := Scalar.subi c1_i32_196 v7
  let c160_i32_197 : BitVec 32 := 160#32
  let v218 : BitVec 32 := Scalar.muli v217 c160_i32_197
  let v219 : BitVec 32 := Scalar.addi v16 v218
  let c1_i32_0 : BitVec 32 := 1#32
  let v3 : BitVec 32 := Scalar.andi v2 c1_i32_0
  let v8 : BitVec 32 := Scalar.xori v3 v5
  let c80_i32_211 : BitVec 32 := 80#32
  let v233 : BitVec 32 := Scalar.muli v8 c80_i32_211
  let v234 : BitVec 32 := Scalar.addi v219 v233
  let c0_i32_222 : BitVec 32 := 0#32
  ![v234.toNat, 0]
def k0_dev13 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_212 : BitVec 32 := 4#32
  let v235 : BitVec 32 := Scalar.xori v2 c4_i32_212
  let c1_i32_219 : BitVec 32 := 1#32
  let v236 : BitVec 32 := Scalar.muli v235 c1_i32_219
  let v237 : BitVec 32 := Scalar.addi c0_i32_220 v236
  v237.toNat
def k0_off29 (d0 : Dev nD) : Fin 3 → Nat :=
  let c0_244 : Index := 0#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_223 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v245 : BitVec 32 := Scalar.subi c1_i32_223 v8
  let c160_i32_224 : BitVec 32 := 160#32
  let v246 : BitVec 32 := Scalar.muli v245 c160_i32_224
  let v259 : BitVec 32 := Scalar.addi v22 v246
  let v260 : Index := Scalar.indexCast v259
  let c0_245 : Index := 0#32
  ![0, v260.toNat, 0]
def k0_off30 (d0 : Dev nD) : Fin 4 → Nat :=
  let c2 : Index := 2#32
  let c0_246 : Index := 0#32
  let c1_i32_223 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v245 : BitVec 32 := Scalar.subi c1_i32_223 v8
  let c160_i32_224 : BitVec 32 := 160#32
  let v246 : BitVec 32 := Scalar.muli v245 c160_i32_224
  let v263 : Index := Scalar.indexCast v246
  let c0_247 : Index := 0#32
  ![2, 0, v263.toNat, 0]
def k0_off31 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_223 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v245 : BitVec 32 := Scalar.subi c1_i32_223 v8
  let c160_i32_224 : BitVec 32 := 160#32
  let v246 : BitVec 32 := Scalar.muli v245 c160_i32_224
  let v267 : BitVec 32 := Scalar.addi v22 v246
  let v268 : Index := Scalar.indexCast v267
  let c0_248 : Index := 0#32
  ![v268.toNat, 0]
def k0_off32 (d0 : Dev nD) : Fin 4 → Nat :=
  let c2_i32_254 : BitVec 32 := 2#32
  let c1_i32_255 : BitVec 32 := 1#32
  let c1_i32_251 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v273 : BitVec 32 := Scalar.subi c1_i32_251 v5
  let c80_i32_252 : BitVec 32 := 80#32
  let v274 : BitVec 32 := Scalar.muli v273 c80_i32_252
  let c0_i32_262 : BitVec 32 := 0#32
  ![2, 1, v274.toNat, 0]
def k0_off33 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_249 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v270 : BitVec 32 := Scalar.subi c1_i32_249 v8
  let c160_i32_250 : BitVec 32 := 160#32
  let v271 : BitVec 32 := Scalar.muli v270 c160_i32_250
  let v272 : BitVec 32 := Scalar.addi v22 v271
  let c1_i32_251 : BitVec 32 := 1#32
  let v273 : BitVec 32 := Scalar.subi c1_i32_251 v5
  let c80_i32_252 : BitVec 32 := 80#32
  let v274 : BitVec 32 := Scalar.muli v273 c80_i32_252
  let v275 : BitVec 32 := Scalar.addi v272 v274
  let c0_i32_263 : BitVec 32 := 0#32
  ![v275.toNat, 0]
def k0_dev14 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_253 : BitVec 32 := 1#32
  let v276 : BitVec 32 := Scalar.xori v2 c1_i32_253
  let c1_i32_260 : BitVec 32 := 1#32
  let v277 : BitVec 32 := Scalar.muli v276 c1_i32_260
  let v278 : BitVec 32 := Scalar.addi c0_i32_261 v277
  v278.toNat
def k0_off34 (d0 : Dev nD) : Fin 4 → Nat :=
  let c2_i32_266 : BitVec 32 := 2#32
  let c1_i32_267 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c80_i32_264 : BitVec 32 := 80#32
  let v286 : BitVec 32 := Scalar.muli v5 c80_i32_264
  let c0_i32_274 : BitVec 32 := 0#32
  ![2, 1, v286.toNat, 0]
def k0_off35 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_249 : BitVec 32 := 1#32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v270 : BitVec 32 := Scalar.subi c1_i32_249 v8
  let c160_i32_250 : BitVec 32 := 160#32
  let v271 : BitVec 32 := Scalar.muli v270 c160_i32_250
  let v272 : BitVec 32 := Scalar.addi v22 v271
  let c80_i32_264 : BitVec 32 := 80#32
  let v286 : BitVec 32 := Scalar.muli v5 c80_i32_264
  let v287 : BitVec 32 := Scalar.addi v272 v286
  let c0_i32_275 : BitVec 32 := 0#32
  ![v287.toNat, 0]
def k0_dev15 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_265 : BitVec 32 := 1#32
  let v288 : BitVec 32 := Scalar.xori v2 c1_i32_265
  let c1_i32_272 : BitVec 32 := 1#32
  let v289 : BitVec 32 := Scalar.muli v288 c1_i32_272
  let v290 : BitVec 32 := Scalar.addi c0_i32_273 v289
  v290.toNat
def k0_off36 (d0 : Dev nD) : Fin 3 → Nat :=
  let c0_296 : Index := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32_276 : BitVec 32 := 192#32
  let v298 : BitVec 32 := Scalar.muli v5 c192_i32_276
  let v311 : BitVec 32 := Scalar.addi v10 v298
  let v312 : Index := Scalar.indexCast v311
  let c0_297 : Index := 0#32
  ![0, v312.toNat, 0]
def k0_off37 (d0 : Dev nD) : Fin 4 → Nat :=
  let c0_298 : Index := 0#32
  let c0_299 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c192_i32_276 : BitVec 32 := 192#32
  let v298 : BitVec 32 := Scalar.muli v5 c192_i32_276
  let v315 : Index := Scalar.indexCast v298
  let c0_300 : Index := 0#32
  ![0, 0, v315.toNat, 0]
def k0_off38 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32_276 : BitVec 32 := 192#32
  let v298 : BitVec 32 := Scalar.muli v5 c192_i32_276
  let v319 : BitVec 32 := Scalar.addi v10 v298
  let v320 : Index := Scalar.indexCast v319
  let c0_301 : Index := 0#32
  ![v320.toNat, 0]
def k0_off39 (d0 : Dev nD) : Fin 3 → Nat :=
  let c0_322 : Index := 0#32
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32_302 : BitVec 32 := 160#32
  let v322 : BitVec 32 := Scalar.muli v7 c160_i32_302
  let v335 : BitVec 32 := Scalar.addi v16 v322
  let v336 : Index := Scalar.indexCast v335
  let c0_323 : Index := 0#32
  ![0, v336.toNat, 0]
def k0_off40 (d0 : Dev nD) : Fin 4 → Nat :=
  let c1_324 : Index := 1#32
  let c0_325 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c160_i32_302 : BitVec 32 := 160#32
  let v322 : BitVec 32 := Scalar.muli v7 c160_i32_302
  let v339 : Index := Scalar.indexCast v322
  let c0_326 : Index := 0#32
  ![1, 0, v339.toNat, 0]
def k0_off41 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32_302 : BitVec 32 := 160#32
  let v322 : BitVec 32 := Scalar.muli v7 c160_i32_302
  let v343 : BitVec 32 := Scalar.addi v16 v322
  let v344 : Index := Scalar.indexCast v343
  let c0_327 : Index := 0#32
  ![v344.toNat, 0]
def k0_off42 (d0 : Dev nD) : Fin 3 → Nat :=
  let c0_348 : Index := 0#32
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_328 : BitVec 32 := 160#32
  let v346 : BitVec 32 := Scalar.muli v8 c160_i32_328
  let v359 : BitVec 32 := Scalar.addi v22 v346
  let v360 : Index := Scalar.indexCast v359
  let c0_349 : Index := 0#32
  ![0, v360.toNat, 0]
def k0_off43 (d0 : Dev nD) : Fin 4 → Nat :=
  let c2_350 : Index := 2#32
  let c0_351 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_328 : BitVec 32 := 160#32
  let v346 : BitVec 32 := Scalar.muli v8 c160_i32_328
  let v363 : Index := Scalar.indexCast v346
  let c0_352 : Index := 0#32
  ![2, 0, v363.toNat, 0]
def k0_off44 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_328 : BitVec 32 := 160#32
  let v346 : BitVec 32 := Scalar.muli v8 c160_i32_328
  let v367 : BitVec 32 := Scalar.addi v22 v346
  let v368 : Index := Scalar.indexCast v367
  let c0_353 : Index := 0#32
  ![v368.toNat, 0]
def k0_off45 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c1_i32_354 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v370 : BitVec 32 := Scalar.subi c1_i32_354 v7
  let c96_i32_355 : BitVec 32 := 96#32
  let v371 : BitVec 32 := Scalar.muli v370 c96_i32_355
  let v384 : BitVec 32 := Scalar.addi v12 v371
  let v385 : Index := Scalar.indexCast v384
  let c0_375 : Index := 0#32
  ![v385.toNat, 0]
def k0_off46 (d0 : Dev nD) : Fin 4 → Nat :=
  let c0_376 : Index := 0#32
  let c1_377 : Index := 1#32
  let c1_i32_354 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let v370 : BitVec 32 := Scalar.subi c1_i32_354 v7
  let c96_i32_355 : BitVec 32 := 96#32
  let v371 : BitVec 32 := Scalar.muli v370 c96_i32_355
  let v388 : Index := Scalar.indexCast v371
  let c0_378 : Index := 0#32
  ![0, 1, v388.toNat, 0]
def k0_off47 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c1_i32_380 : BitVec 32 := 1#32
  let c2_i32 : BitVec 32 := 2#32
  let v6 : BitVec 32 := Scalar.shrsi v2 c2_i32
  let c1_i32_3 : BitVec 32 := 1#32
  let v7 : BitVec 32 := Scalar.andi v6 c1_i32_3
  let v395 : BitVec 32 := Scalar.subi c1_i32_380 v7
  let c96_i32_381 : BitVec 32 := 96#32
  let v396 : BitVec 32 := Scalar.muli v395 c96_i32_381
  let v397 : BitVec 32 := Scalar.addi v12 v396
  let c0_i32_393 : BitVec 32 := 0#32
  ![v397.toNat, 0]
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_382 : BitVec 32 := 4#32
  let v398 : BitVec 32 := Scalar.xori v2 c4_i32_382
  let c1_i32_389 : BitVec 32 := 1#32
  let v399 : BitVec 32 := Scalar.muli v398 c1_i32_389
  let v400 : BitVec 32 := Scalar.addi c0_i32_390 v399
  v400.toNat
def k0_off48 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_394 : BitVec 32 := 1#32
  let c1_i32_0 : BitVec 32 := 1#32
  let v3 : BitVec 32 := Scalar.andi v2 c1_i32_0
  let v8 : BitVec 32 := Scalar.xori v3 v5
  let v408 : BitVec 32 := Scalar.subi c1_i32_394 v8
  let c80_i32_395 : BitVec 32 := 80#32
  let v409 : BitVec 32 := Scalar.muli v408 c80_i32_395
  let v422 : BitVec 32 := Scalar.addi v18 v409
  let v423 : Index := Scalar.indexCast v422
  let c0_415 : Index := 0#32
  ![v423.toNat, 0]
def k0_off49 (d0 : Dev nD) : Fin 4 → Nat :=
  let c1_416 : Index := 1#32
  let c1_417 : Index := 1#32
  let c1_i32_394 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let v408 : BitVec 32 := Scalar.subi c1_i32_394 v8
  let c80_i32_395 : BitVec 32 := 80#32
  let v409 : BitVec 32 := Scalar.muli v408 c80_i32_395
  let v426 : Index := Scalar.indexCast v409
  let c0_418 : Index := 0#32
  ![1, 1, v426.toNat, 0]
def k0_off50 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_420 : BitVec 32 := 1#32
  let c1_i32_0 : BitVec 32 := 1#32
  let v3 : BitVec 32 := Scalar.andi v2 c1_i32_0
  let v8 : BitVec 32 := Scalar.xori v3 v5
  let v433 : BitVec 32 := Scalar.subi c1_i32_420 v8
  let c80_i32_421 : BitVec 32 := 80#32
  let v434 : BitVec 32 := Scalar.muli v433 c80_i32_421
  let v435 : BitVec 32 := Scalar.addi v18 v434
  let c0_i32_433 : BitVec 32 := 0#32
  ![v435.toNat, 0]
def k0_dev17 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_422 : BitVec 32 := 1#32
  let v436 : BitVec 32 := Scalar.xori v2 c1_i32_422
  let c1_i32_429 : BitVec 32 := 1#32
  let v437 : BitVec 32 := Scalar.muli v436 c1_i32_429
  let v438 : BitVec 32 := Scalar.addi c0_i32_430 v437
  v438.toNat
def k0_off51 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c1_i32_434 : BitVec 32 := 1#32
  let v446 : BitVec 32 := Scalar.subi c1_i32_434 v5
  let c80_i32_435 : BitVec 32 := 80#32
  let v447 : BitVec 32 := Scalar.muli v446 c80_i32_435
  let v460 : BitVec 32 := Scalar.addi v24 v447
  let v461 : Index := Scalar.indexCast v460
  let c0_455 : Index := 0#32
  ![v461.toNat, 0]
def k0_off52 (d0 : Dev nD) : Fin 4 → Nat :=
  let c2_456 : Index := 2#32
  let c1_457 : Index := 1#32
  let c1_i32_434 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let v446 : BitVec 32 := Scalar.subi c1_i32_434 v5
  let c80_i32_435 : BitVec 32 := 80#32
  let v447 : BitVec 32 := Scalar.muli v446 c80_i32_435
  let v464 : Index := Scalar.indexCast v447
  let c0_458 : Index := 0#32
  ![2, 1, v464.toNat, 0]
def k0_off53 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c1_i32_460 : BitVec 32 := 1#32
  let v471 : BitVec 32 := Scalar.subi c1_i32_460 v5
  let c80_i32_461 : BitVec 32 := 80#32
  let v472 : BitVec 32 := Scalar.muli v471 c80_i32_461
  let v473 : BitVec 32 := Scalar.addi v24 v472
  let c0_i32_473 : BitVec 32 := 0#32
  ![v473.toNat, 0]
def k0_dev18 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v474 : BitVec 32 := Scalar.xori v2 c3_i32_462
  let c1_i32_469 : BitVec 32 := 1#32
  let v475 : BitVec 32 := Scalar.muli v474 c1_i32_469
  let v476 : BitVec 32 := Scalar.addi c0_i32_470 v475
  v476.toNat
def k0_off54 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c2_i32 : BitVec 32 := 2#32
  let v6 : BitVec 32 := Scalar.shrsi v2 c2_i32
  let c1_i32_3 : BitVec 32 := 1#32
  let v7 : BitVec 32 := Scalar.andi v6 c1_i32_3
  let c96_i32_474 : BitVec 32 := 96#32
  let v484 : BitVec 32 := Scalar.muli v7 c96_i32_474
  let v497 : BitVec 32 := Scalar.addi v12 v484
  let v498 : Index := Scalar.indexCast v497
  let c0_494 : Index := 0#32
  ![v498.toNat, 0]
def k0_off55 (d0 : Dev nD) : Fin 4 → Nat :=
  let c0_495 : Index := 0#32
  let c1_496 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c96_i32_474 : BitVec 32 := 96#32
  let v484 : BitVec 32 := Scalar.muli v7 c96_i32_474
  let v501 : Index := Scalar.indexCast v484
  let c0_497 : Index := 0#32
  ![0, 1, v501.toNat, 0]
def k0_off56 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_0 : BitVec 32 := 1#32
  let v3 : BitVec 32 := Scalar.andi v2 c1_i32_0
  let v8 : BitVec 32 := Scalar.xori v3 v5
  let c80_i32_499 : BitVec 32 := 80#32
  let v508 : BitVec 32 := Scalar.muli v8 c80_i32_499
  let v521 : BitVec 32 := Scalar.addi v18 v508
  let v522 : Index := Scalar.indexCast v521
  let c0_519 : Index := 0#32
  ![v522.toNat, 0]
def k0_off57 (d0 : Dev nD) : Fin 4 → Nat :=
  let c1_520 : Index := 1#32
  let c1_521 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c80_i32_499 : BitVec 32 := 80#32
  let v508 : BitVec 32 := Scalar.muli v8 c80_i32_499
  let v525 : Index := Scalar.indexCast v508
  let c0_522 : Index := 0#32
  ![1, 1, v525.toNat, 0]
def k0_off58 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c80_i32_524 : BitVec 32 := 80#32
  let v532 : BitVec 32 := Scalar.muli v5 c80_i32_524
  let v545 : BitVec 32 := Scalar.addi v24 v532
  let v546 : Index := Scalar.indexCast v545
  let c0_544 : Index := 0#32
  ![v546.toNat, 0]
def k0_off59 (d0 : Dev nD) : Fin 4 → Nat :=
  let c2_545 : Index := 2#32
  let c1_546 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c80_i32_524 : BitVec 32 := 80#32
  let v532 : BitVec 32 := Scalar.muli v5 c80_i32_524
  let v549 : Index := Scalar.indexCast v532
  let c0_547 : Index := 0#32
  ![2, 1, v549.toNat, 0]
def k0_off60 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c2_i32 : BitVec 32 := 2#32
  let v6 : BitVec 32 := Scalar.shrsi v2 c2_i32
  let c1_i32_3 : BitVec 32 := 1#32
  let v7 : BitVec 32 := Scalar.andi v6 c1_i32_3
  let c96_i32 : BitVec 32 := 96#32
  let v13 : BitVec 32 := Scalar.muli v7 c96_i32
  let v14 : BitVec 32 := Scalar.addi v12 v13
  let c0_i32_582 : BitVec 32 := 0#32
  ![v14.toNat, 0]
def k0_dev19 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_576 : BitVec 32 := 4#32
  let v576 : BitVec 32 := Scalar.xori v2 c4_i32_576
  let c1_i32_580 : BitVec 32 := 1#32
  let v577 : BitVec 32 := Scalar.muli v576 c1_i32_580
  let v578 : BitVec 32 := Scalar.addi c0_i32_581 v577
  v578.toNat
def k0_dev20 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_584 : BitVec 32 := 3#32
  let v585 : BitVec 32 := Scalar.xori v2 c3_i32_584
  let c1_i32_589 : BitVec 32 := 1#32
  let v586 : BitVec 32 := Scalar.muli v585 c1_i32_589
  let v587 : BitVec 32 := Scalar.addi c0_i32_590 v586
  v587.toNat
def k0_off61 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_0 : BitVec 32 := 1#32
  let v3 : BitVec 32 := Scalar.andi v2 c1_i32_0
  let v8 : BitVec 32 := Scalar.xori v3 v5
  let c80_i32 : BitVec 32 := 80#32
  let v19 : BitVec 32 := Scalar.muli v8 c80_i32
  let v20 : BitVec 32 := Scalar.addi v18 v19
  let c0_i32_627 : BitVec 32 := 0#32
  ![v20.toNat, 0]
def k0_dev21 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_620 : BitVec 32 := 1#32
  let v614 : BitVec 32 := Scalar.xori v2 c1_i32_620
  let c1_i32_625 : BitVec 32 := 1#32
  let v615 : BitVec 32 := Scalar.muli v614 c1_i32_625
  let v616 : BitVec 32 := Scalar.addi c0_i32_626 v615
  v616.toNat
def k0_dev22 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_629 : BitVec 32 := 4#32
  let v623 : BitVec 32 := Scalar.xori v2 c4_i32_629
  let c1_i32_634 : BitVec 32 := 1#32
  let v624 : BitVec 32 := Scalar.muli v623 c1_i32_634
  let v625 : BitVec 32 := Scalar.addi c0_i32_635 v624
  v625.toNat
def k0_off62 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c80_i32_6 : BitVec 32 := 80#32
  let v25 : BitVec 32 := Scalar.muli v5 c80_i32_6
  let v26 : BitVec 32 := Scalar.addi v24 v25
  let c0_i32_672 : BitVec 32 := 0#32
  ![v26.toNat, 0]
def k0_dev23 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_665 : BitVec 32 := 3#32
  let v652 : BitVec 32 := Scalar.xori v2 c3_i32_665
  let c1_i32_670 : BitVec 32 := 1#32
  let v653 : BitVec 32 := Scalar.muli v652 c1_i32_670
  let v654 : BitVec 32 := Scalar.addi c0_i32_671 v653
  v654.toNat
def k0_dev24 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_674 : BitVec 32 := 1#32
  let v661 : BitVec 32 := Scalar.xori v2 c1_i32_674
  let c1_i32_679 : BitVec 32 := 1#32
  let v662 : BitVec 32 := Scalar.muli v661 c1_i32_679
  let v663 : BitVec 32 := Scalar.addi c0_i32_680 v662
  v663.toNat
def k0_off63 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c2_i32 : BitVec 32 := 2#32
  let v6 : BitVec 32 := Scalar.shrsi v2 c2_i32
  let c1_i32_3 : BitVec 32 := 1#32
  let v7 : BitVec 32 := Scalar.andi v6 c1_i32_3
  let c96_i32 : BitVec 32 := 96#32
  let v13 : BitVec 32 := Scalar.muli v7 c96_i32
  let v14 : BitVec 32 := Scalar.addi v12 v13
  let c96_i32_683 : BitVec 32 := 96#32
  let v670 : BitVec 32 := Scalar.muli v7 c96_i32_683
  let v671 : BitVec 32 := Scalar.subi v14 v670
  let c1_i32_684 : BitVec 32 := 1#32
  let v672 : BitVec 32 := Scalar.subi c1_i32_684 v7
  let c96_i32_685 : BitVec 32 := 96#32
  let v673 : BitVec 32 := Scalar.muli v672 c96_i32_685
  let v674 : BitVec 32 := Scalar.addi v671 v673
  let c0_i32_707 : BitVec 32 := 0#32
  ![v674.toNat, 0]
def k0_dev25 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_701 : BitVec 32 := 3#32
  let v685 : BitVec 32 := Scalar.xori v2 c3_i32_701
  let c1_i32_705 : BitVec 32 := 1#32
  let v686 : BitVec 32 := Scalar.muli v685 c1_i32_705
  let v687 : BitVec 32 := Scalar.addi c0_i32_706 v686
  v687.toNat
def k0_off64 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c2_i32 : BitVec 32 := 2#32
  let v6 : BitVec 32 := Scalar.shrsi v2 c2_i32
  let c1_i32_3 : BitVec 32 := 1#32
  let v7 : BitVec 32 := Scalar.andi v6 c1_i32_3
  let c96_i32 : BitVec 32 := 96#32
  let v13 : BitVec 32 := Scalar.muli v7 c96_i32
  let v14 : BitVec 32 := Scalar.addi v12 v13
  let c96_i32_683 : BitVec 32 := 96#32
  let v670 : BitVec 32 := Scalar.muli v7 c96_i32_683
  let v671 : BitVec 32 := Scalar.subi v14 v670
  let c0_i32_715 : BitVec 32 := 0#32
  ![v671.toNat, 0]
def k0_dev26 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_709 : BitVec 32 := 1#32
  let v694 : BitVec 32 := Scalar.xori v2 c1_i32_709
  let c1_i32_713 : BitVec 32 := 1#32
  let v695 : BitVec 32 := Scalar.muli v694 c1_i32_713
  let v696 : BitVec 32 := Scalar.addi c0_i32_714 v695
  v696.toNat
def k0_off65 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_0 : BitVec 32 := 1#32
  let v3 : BitVec 32 := Scalar.andi v2 c1_i32_0
  let v8 : BitVec 32 := Scalar.xori v3 v5
  let c80_i32 : BitVec 32 := 80#32
  let v19 : BitVec 32 := Scalar.muli v8 c80_i32
  let v20 : BitVec 32 := Scalar.addi v18 v19
  let c80_i32_717 : BitVec 32 := 80#32
  let v703 : BitVec 32 := Scalar.muli v8 c80_i32_717
  let v704 : BitVec 32 := Scalar.subi v20 v703
  let c1_i32_718 : BitVec 32 := 1#32
  let v705 : BitVec 32 := Scalar.subi c1_i32_718 v8
  let c80_i32_719 : BitVec 32 := 80#32
  let v706 : BitVec 32 := Scalar.muli v705 c80_i32_719
  let v707 : BitVec 32 := Scalar.addi v704 v706
  let c0_i32_742 : BitVec 32 := 0#32
  ![v707.toNat, 0]
def k0_dev27 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_735 : BitVec 32 := 4#32
  let v718 : BitVec 32 := Scalar.xori v2 c4_i32_735
  let c1_i32_740 : BitVec 32 := 1#32
  let v719 : BitVec 32 := Scalar.muli v718 c1_i32_740
  let v720 : BitVec 32 := Scalar.addi c0_i32_741 v719
  v720.toNat
def k0_off66 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_0 : BitVec 32 := 1#32
  let v3 : BitVec 32 := Scalar.andi v2 c1_i32_0
  let v8 : BitVec 32 := Scalar.xori v3 v5
  let c80_i32 : BitVec 32 := 80#32
  let v19 : BitVec 32 := Scalar.muli v8 c80_i32
  let v20 : BitVec 32 := Scalar.addi v18 v19
  let c80_i32_717 : BitVec 32 := 80#32
  let v703 : BitVec 32 := Scalar.muli v8 c80_i32_717
  let v704 : BitVec 32 := Scalar.subi v20 v703
  let c0_i32_751 : BitVec 32 := 0#32
  ![v704.toNat, 0]
def k0_dev28 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_744 : BitVec 32 := 3#32
  let v727 : BitVec 32 := Scalar.xori v2 c3_i32_744
  let c1_i32_749 : BitVec 32 := 1#32
  let v728 : BitVec 32 := Scalar.muli v727 c1_i32_749
  let v729 : BitVec 32 := Scalar.addi c0_i32_750 v728
  v729.toNat
def k0_off67 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c80_i32_6 : BitVec 32 := 80#32
  let v25 : BitVec 32 := Scalar.muli v5 c80_i32_6
  let v26 : BitVec 32 := Scalar.addi v24 v25
  let c80_i32_753 : BitVec 32 := 80#32
  let v736 : BitVec 32 := Scalar.muli v5 c80_i32_753
  let v737 : BitVec 32 := Scalar.subi v26 v736
  let c1_i32_754 : BitVec 32 := 1#32
  let v738 : BitVec 32 := Scalar.subi c1_i32_754 v5
  let c80_i32_755 : BitVec 32 := 80#32
  let v739 : BitVec 32 := Scalar.muli v738 c80_i32_755
  let v740 : BitVec 32 := Scalar.addi v737 v739
  let c0_i32_778 : BitVec 32 := 0#32
  ![v740.toNat, 0]
def k0_dev29 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_771 : BitVec 32 := 1#32
  let v751 : BitVec 32 := Scalar.xori v2 c1_i32_771
  let c1_i32_776 : BitVec 32 := 1#32
  let v752 : BitVec 32 := Scalar.muli v751 c1_i32_776
  let v753 : BitVec 32 := Scalar.addi c0_i32_777 v752
  v753.toNat
def k0_off68 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c80_i32_6 : BitVec 32 := 80#32
  let v25 : BitVec 32 := Scalar.muli v5 c80_i32_6
  let v26 : BitVec 32 := Scalar.addi v24 v25
  let c80_i32_753 : BitVec 32 := 80#32
  let v736 : BitVec 32 := Scalar.muli v5 c80_i32_753
  let v737 : BitVec 32 := Scalar.subi v26 v736
  let c0_i32_787 : BitVec 32 := 0#32
  ![v737.toNat, 0]
def k0_dev30 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_780 : BitVec 32 := 4#32
  let v760 : BitVec 32 := Scalar.xori v2 c4_i32_780
  let c1_i32_785 : BitVec 32 := 1#32
  let v761 : BitVec 32 := Scalar.muli v760 c1_i32_785
  let v762 : BitVec 32 := Scalar.addi c0_i32_786 v761
  v762.toNat
def k0_off69 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c384_i32 : BitVec 32 := 384#32
  let v9 : BitVec 32 := Scalar.muli v8 c384_i32
  let v10 : BitVec 32 := Scalar.addi c0_i32 v9
  let c192_i32 : BitVec 32 := 192#32
  let v11 : BitVec 32 := Scalar.muli v5 c192_i32
  let v12 : BitVec 32 := Scalar.addi v10 v11
  let c2_i32 : BitVec 32 := 2#32
  let v6 : BitVec 32 := Scalar.shrsi v2 c2_i32
  let c1_i32_3 : BitVec 32 := 1#32
  let v7 : BitVec 32 := Scalar.andi v6 c1_i32_3
  let c96_i32 : BitVec 32 := 96#32
  let v13 : BitVec 32 := Scalar.muli v7 c96_i32
  let v14 : BitVec 32 := Scalar.addi v12 v13
  let c96_i32_789 : BitVec 32 := 96#32
  let v769 : BitVec 32 := Scalar.muli v7 c96_i32_789
  let v770 : BitVec 32 := Scalar.subi v14 v769
  let c2_i32_790 : BitVec 32 := 2#32
  let v771 : BitVec 32 := Scalar.muli v5 c2_i32_790
  let c96_i32_791 : BitVec 32 := 96#32
  let v772 : BitVec 32 := Scalar.muli v771 c96_i32_791
  let v773 : BitVec 32 := Scalar.subi v770 v772
  let c1_i32_792 : BitVec 32 := 1#32
  let v774 : BitVec 32 := Scalar.subi c1_i32_792 v5
  let c2_i32_793 : BitVec 32 := 2#32
  let v775 : BitVec 32 := Scalar.muli v774 c2_i32_793
  let c96_i32_794 : BitVec 32 := 96#32
  let v776 : BitVec 32 := Scalar.muli v775 c96_i32_794
  let v777 : BitVec 32 := Scalar.addi v773 v776
  let c0_i32_831 : BitVec 32 := 0#32
  ![v777.toNat, 0]
def k0_dev31 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_825 : BitVec 32 := 1#32
  let v798 : BitVec 32 := Scalar.xori v2 c1_i32_825
  let c1_i32_829 : BitVec 32 := 1#32
  let v799 : BitVec 32 := Scalar.muli v798 c1_i32_829
  let v800 : BitVec 32 := Scalar.addi c0_i32_830 v799
  v800.toNat
def k0_off70 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v4 : BitVec 32 := Scalar.shrsi v2 c1_i32_1
  let c1_i32_2 : BitVec 32 := 1#32
  let v5 : BitVec 32 := Scalar.andi v4 c1_i32_2
  let c320_i32 : BitVec 32 := 320#32
  let v15 : BitVec 32 := Scalar.muli v5 c320_i32
  let v16 : BitVec 32 := Scalar.addi c768_i32 v15
  let c2_i32 : BitVec 32 := 2#32
  let v6 : BitVec 32 := Scalar.shrsi v2 c2_i32
  let c1_i32_3 : BitVec 32 := 1#32
  let v7 : BitVec 32 := Scalar.andi v6 c1_i32_3
  let c160_i32 : BitVec 32 := 160#32
  let v17 : BitVec 32 := Scalar.muli v7 c160_i32
  let v18 : BitVec 32 := Scalar.addi v16 v17
  let c1_i32_0 : BitVec 32 := 1#32
  let v3 : BitVec 32 := Scalar.andi v2 c1_i32_0
  let v8 : BitVec 32 := Scalar.xori v3 v5
  let c80_i32 : BitVec 32 := 80#32
  let v19 : BitVec 32 := Scalar.muli v8 c80_i32
  let v20 : BitVec 32 := Scalar.addi v18 v19
  let c80_i32_833 : BitVec 32 := 80#32
  let v807 : BitVec 32 := Scalar.muli v8 c80_i32_833
  let v808 : BitVec 32 := Scalar.subi v20 v807
  let c2_i32_834 : BitVec 32 := 2#32
  let v809 : BitVec 32 := Scalar.muli v7 c2_i32_834
  let c80_i32_835 : BitVec 32 := 80#32
  let v810 : BitVec 32 := Scalar.muli v809 c80_i32_835
  let v811 : BitVec 32 := Scalar.subi v808 v810
  let c1_i32_836 : BitVec 32 := 1#32
  let v812 : BitVec 32 := Scalar.subi c1_i32_836 v7
  let c2_i32_837 : BitVec 32 := 2#32
  let v813 : BitVec 32 := Scalar.muli v812 c2_i32_837
  let c80_i32_838 : BitVec 32 := 80#32
  let v814 : BitVec 32 := Scalar.muli v813 c80_i32_838
  let v815 : BitVec 32 := Scalar.addi v811 v814
  let c0_i32_876 : BitVec 32 := 0#32
  ![v815.toNat, 0]
def k0_dev32 (d0 : Dev nD) : Nat :=
  let c0_i32_875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_869 : BitVec 32 := 3#32
  let v836 : BitVec 32 := Scalar.xori v2 c3_i32_869
  let c1_i32_874 : BitVec 32 := 1#32
  let v837 : BitVec 32 := Scalar.muli v836 c1_i32_874
  let v838 : BitVec 32 := Scalar.addi c0_i32_875 v837
  v838.toNat
def k0_off71 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v6 : BitVec 32 := Scalar.shrsi v2 c2_i32
  let c1_i32_3 : BitVec 32 := 1#32
  let v7 : BitVec 32 := Scalar.andi v6 c1_i32_3
  let c320_i32_4 : BitVec 32 := 320#32
  let v21 : BitVec 32 := Scalar.muli v7 c320_i32_4
  let v22 : BitVec 32 := Scalar.addi c1408_i32 v21
  let c1_i32_0 : BitVec 32 := 1#32
  let v3 : BitVec 32 := Scalar.andi v2 c1_i32_0
  let c1_i32_1 : BitVec 32 := 1#32
  let v4 : BitVec 32 := Scalar.shrsi v2 c1_i32_1
  let c1_i32_2 : BitVec 32 := 1#32
  let v5 : BitVec 32 := Scalar.andi v4 c1_i32_2
  let v8 : BitVec 32 := Scalar.xori v3 v5
  let c160_i32_5 : BitVec 32 := 160#32
  let v23 : BitVec 32 := Scalar.muli v8 c160_i32_5
  let v24 : BitVec 32 := Scalar.addi v22 v23
  let c80_i32_6 : BitVec 32 := 80#32
  let v25 : BitVec 32 := Scalar.muli v5 c80_i32_6
  let v26 : BitVec 32 := Scalar.addi v24 v25
  let c80_i32_878 : BitVec 32 := 80#32
  let v845 : BitVec 32 := Scalar.muli v5 c80_i32_878
  let v846 : BitVec 32 := Scalar.subi v26 v845
  let c2_i32_879 : BitVec 32 := 2#32
  let v847 : BitVec 32 := Scalar.muli v8 c2_i32_879
  let c80_i32_880 : BitVec 32 := 80#32
  let v848 : BitVec 32 := Scalar.muli v847 c80_i32_880
  let v849 : BitVec 32 := Scalar.subi v846 v848
  let c1_i32_881 : BitVec 32 := 1#32
  let v850 : BitVec 32 := Scalar.subi c1_i32_881 v8
  let c2_i32_882 : BitVec 32 := 2#32
  let v851 : BitVec 32 := Scalar.muli v850 c2_i32_882
  let c80_i32_883 : BitVec 32 := 80#32
  let v852 : BitVec 32 := Scalar.muli v851 c80_i32_883
  let v853 : BitVec 32 := Scalar.addi v849 v852
  let c0_i32_921 : BitVec 32 := 0#32
  ![v853.toNat, 0]
def k0_dev33 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_914 : BitVec 32 := 4#32
  let v874 : BitVec 32 := Scalar.xori v2 c4_i32_914
  let c1_i32_919 : BitVec 32 := 1#32
  let v875 : BitVec 32 := Scalar.muli v874 c1_i32_919
  let v876 : BitVec 32 := Scalar.addi c0_i32_920 v875
  v876.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x2048x1024 : Shape := ⟨3, ![8, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Groups.lean ====
/-
# The mesh and the row blocks

Eight devices are numbered by three bits. The rows of the result are cut into three groups, and every group
halves its rows three times, each time across another direction of the mesh: group `g` uses direction `g + k`
(modulo three) at its step `k`. This module names the directions (`bt`, `pr`), a group's block sizes and first rows
(`sz`, `kp0`, `kp1`, `kp2`, `rv1`, `rv0`) and gives every offset and every peer of the kernel in these terms.
-/
module

public import proofs.«01_k».proof.Proof.Gen.KernelIdeal

@[expose] public section

noncomputable section

namespace Cert.Butterfly

open Cert.KernelIdeal Cert.KernelIdeal.Gen
open Idealize.ShloMosaic Idealize.SL.Sem

/-- The bit of device `c` that direction `d` flips. -/
def bt (d : Fin 3) (c : Dev nD) : ℕ := match d with
  | 0 => (c.val + c.val / 2) % 2
  | 1 => c.val / 2 % 2
  | 2 => c.val / 4 % 2

/-- The device on the other side of direction `d`. -/
def pr (d : Fin 3) (c : Dev nD) : Dev nD := match d with
  | 0 => ⟨Nat.xor c.val 1 % 8, Nat.mod_lt _ (by decide)⟩
  | 1 => ⟨Nat.xor c.val 3 % 8, Nat.mod_lt _ (by decide)⟩
  | 2 => ⟨Nat.xor c.val 4 % 8, Nat.mod_lt _ (by decide)⟩

/-- The bit and the peer of group `g` at its step `k`. -/
def bb (g k : Fin 3) (c : Dev nD) : ℕ := bt (g + k) c
def px (g k : Fin 3) (c : Dev nD) : Dev nD := pr (g + k) c

/-- The rows a device of group `g` keeps after step `k`. -/
def sz (g k : Fin 3) : ℕ := match g, k with
  | 0, 0 => 384 | 0, 1 => 192 | 0, 2 => 96
  | _, 0 => 320 | _, 1 => 160 | _, 2 => 80

/-- The first row of group `g` in the result, and in the first copy buffer. -/
def st (g : Fin 3) : ℕ := match g with | 0 => 0 | 1 => 768 | 2 => 1408
def zs (g : Fin 3) : ℕ := match g with | 0 => 0 | 1 => 384 | 2 => 704

/-- First rows: of the half kept at step 0 and of the half given away, -/
def kp0 (g : Fin 3) (c : Dev nD) : ℕ := st g + bb g 0 c * sz g 0
def nk (g : Fin 3) (c : Dev nD) : ℕ := st g + (1 - bb g 0 c) * sz g 0
/-- of the quarter kept at step 1 and of the one given away, -/
def kp1 (g : Fin 3) (c : Dev nD) : ℕ := kp0 g c + bb g 1 c * sz g 1
def rv1 (g : Fin 3) (c : Dev nD) : ℕ := kp0 g c + (1 - bb g 1 c) * sz g 1
/-- and of the eighth kept at step 2 and of the one given away. -/
def kp2 (g : Fin 3) (c : Dev nD) : ℕ := kp1 g c + bb g 2 c * sz g 2
def rv0 (g : Fin 3) (c : Dev nD) : ℕ := kp1 g c + (1 - bb g 2 c) * sz g 2

theorem pr_pr (d : Fin 3) (c : Dev nD) : pr d (pr d c) = c := by revert d c; decide
theorem px_px (g k : Fin 3) (c : Dev nD) : px g k (px g k c) = c := pr_pr _ c
theorem bt_or (d : Fin 3) (c : Dev nD) : bt d c = 0 ∨ bt d c = 1 := by revert d c; decide
theorem bb_or (g k : Fin 3) (c : Dev nD) : bb g k c = 0 ∨ bb g k c = 1 := bt_or _ c
/-- A direction flips its own bit and no other. -/
theorem bb_px (g k k' : Fin 3) (c : Dev nD) : bb g k (px g k' c) = if k = k' then 1 - bb g k c else bb g k c := by
  revert g k k' c; decide
theorem sz_succ0 (g : Fin 3) : sz g 0 = sz g 1 + sz g 1 := by revert g; decide
theorem sz_succ1 (g : Fin 3) : sz g 1 = sz g 2 + sz g 2 := by revert g; decide

/-- Which device pays which duty, as a permutation. -/
def across (d : Fin 3) : Dev nD ≃ Dev nD := ⟨pr d, pr d, pr_pr d, pr_pr d⟩

/-! ## A peer's rows in a device's own terms -/

section Peers
variable (g : Fin 3) (c : Dev nD)
theorem bb1_px0 : bb g 1 (px g 0 c) = bb g 1 c := by rw [bb_px]; rfl
theorem bb2_px0 : bb g 2 (px g 0 c) = bb g 2 c := by rw [bb_px]; rfl
theorem bb2_px1 : bb g 2 (px g 1 c) = bb g 2 c := by rw [bb_px]; rfl
theorem kp0_px0 : kp0 g (px g 0 c) = nk g c := by unfold kp0 nk; rw [bb_px]; rfl
theorem nk_px0 : nk g (px g 0 c) = kp0 g c := by revert g c; decide
theorem kp0_px1 : kp0 g (px g 1 c) = kp0 g c := by unfold kp0; rw [bb_px]; rfl
theorem kp1_px1 : kp1 g (px g 1 c) = rv1 g c := by unfold kp1 rv1; rw [kp0_px1, bb_px]; rfl
theorem rv1_px1 : rv1 g (px g 1 c) = kp1 g c := by revert g c; decide
theorem kp1_px2 : kp1 g (px g 2 c) = kp1 g c := by unfold kp1 kp0; rw [bb_px, bb_px]; rfl
theorem kp2_px2 : kp2 g (px g 2 c) = rv0 g c := by unfold kp2 rv0; rw [kp1_px2, bb_px]; rfl
theorem rv0_px2 : rv0 g (px g 2 c) = kp2 g c := by revert g c; decide
end Peers

/-! ## The kernel's offsets and peers -/

theorem off1 (c : Dev nD) : k0_off1 c = ![0, nk 0 c, 0] := by revert c; decide
theorem off2_2 (c : Dev nD) : k0_off2 c 1408#32 2#32 = ![0, nk 2 c, 0] := by revert c; decide
theorem off2_1 (c : Dev nD) : k0_off2 c 768#32 1#32 = ![0, nk 1 c, 0] := by revert c; decide
theorem off3 (c : Dev nD) : k0_off3 c = ![0, 0, (1 - bb 0 1 c) * sz 0 1, 0] := by revert c; decide
theorem off4 (c : Dev nD) : k0_off4 c = ![zs 0 + (1 - bb 0 1 c) * sz 0 1, 0] := by revert c; decide
theorem off5 (c : Dev nD) : k0_off5 c = ![0, 0, bb 0 1 c * sz 0 1, 0] := by revert c; decide
theorem off6 (c : Dev nD) : k0_off6 c = ![zs 0 + bb 0 1 c * sz 0 1, 0] := by revert c; decide
theorem off7 (c : Dev nD) : k0_off7 c = ![1, 0, (1 - bb 1 1 c) * sz 1 1, 0] := by revert c; decide
theorem off8 (c : Dev nD) : k0_off8 c = ![zs 1 + (1 - bb 1 1 c) * sz 1 1, 0] := by revert c; decide
theorem off9 (c : Dev nD) : k0_off9 c = ![1, 0, bb 1 1 c * sz 1 1, 0] := by revert c; decide
theorem off10 (c : Dev nD) : k0_off10 c = ![zs 1 + bb 1 1 c * sz 1 1, 0] := by revert c; decide
theorem off11 (c : Dev nD) : k0_off11 c = ![2, 0, (1 - bb 2 1 c) * sz 2 1, 0] := by revert c; decide
theorem off12 (c : Dev nD) : k0_off12 c = ![zs 2 + (1 - bb 2 1 c) * sz 2 1, 0] := by revert c; decide
theorem off13 (c : Dev nD) : k0_off13 c = ![2, 0, bb 2 1 c * sz 2 1, 0] := by revert c; decide
theorem off14 (c : Dev nD) : k0_off14 c = ![zs 2 + bb 2 1 c * sz 2 1, 0] := by revert c; decide
theorem off15 (c : Dev nD) : k0_off15 c = ![0, rv1 0 c, 0] := by revert c; decide
theorem off16 (c : Dev nD) : k0_off16 c = ![0, 0, (1 - bb 0 1 c) * sz 0 1, 0] := by revert c; decide
theorem off17 (c : Dev nD) : k0_off17 c = ![rv1 0 c, 0] := by revert c; decide
theorem off18 (c : Dev nD) : k0_off18 c = ![0, 1, (1 - bb 0 2 c) * sz 0 2, 0] := by revert c; decide
theorem off19 (c : Dev nD) : k0_off19 c = ![rv1 0 c + (1 - bb 0 2 c) * sz 0 2, 0] := by revert c; decide
theorem off20 (c : Dev nD) : k0_off20 c = ![0, 1, bb 0 2 c * sz 0 2, 0] := by revert c; decide
theorem off21 (c : Dev nD) : k0_off21 c = ![rv1 0 c + bb 0 2 c * sz 0 2, 0] := by revert c; decide
theorem off22 (c : Dev nD) : k0_off22 c = ![0, rv1 1 c, 0] := by revert c; decide
theorem off23 (c : Dev nD) : k0_off23 c = ![1, 0, (1 - bb 1 1 c) * sz 1 1, 0] := by revert c; decide
theorem off24 (c : Dev nD) : k0_off24 c = ![rv1 1 c, 0] := by revert c; decide
theorem off25 (c : Dev nD) : k0_off25 c = ![1, 1, (1 - bb 1 2 c) * sz 1 2, 0] := by revert c; decide
theorem off26 (c : Dev nD) : k0_off26 c = ![rv1 1 c + (1 - bb 1 2 c) * sz 1 2, 0] := by revert c; decide
theorem off27 (c : Dev nD) : k0_off27 c = ![1, 1, bb 1 2 c * sz 1 2, 0] := by revert c; decide
theorem off28 (c : Dev nD) : k0_off28 c = ![rv1 1 c + bb 1 2 c * sz 1 2, 0] := by revert c; decide
theorem off29 (c : Dev nD) : k0_off29 c = ![0, rv1 2 c, 0] := by revert c; decide
theorem off30 (c : Dev nD) : k0_off30 c = ![2, 0, (1 - bb 2 1 c) * sz 2 1, 0] := by revert c; decide
theorem off31 (c : Dev nD) : k0_off31 c = ![rv1 2 c, 0] := by revert c; decide
theorem off32 (c : Dev nD) : k0_off32 c = ![2, 1, (1 - bb 2 2 c) * sz 2 2, 0] := by revert c; decide
theorem off33 (c : Dev nD) : k0_off33 c = ![rv1 2 c + (1 - bb 2 2 c) * sz 2 2, 0] := by revert c; decide
theorem off34 (c : Dev nD) : k0_off34 c = ![2, 1, bb 2 2 c * sz 2 2, 0] := by revert c; decide
theorem off35 (c : Dev nD) : k0_off35 c = ![rv1 2 c + bb 2 2 c * sz 2 2, 0] := by revert c; decide
theorem off36 (c : Dev nD) : k0_off36 c = ![0, kp1 0 c, 0] := by revert c; decide
theorem off37 (c : Dev nD) : k0_off37 c = ![0, 0, bb 0 1 c * sz 0 1, 0] := by revert c; decide
theorem off38 (c : Dev nD) : k0_off38 c = ![kp1 0 c, 0] := by revert c; decide
theorem off39 (c : Dev nD) : k0_off39 c = ![0, kp1 1 c, 0] := by revert c; decide
theorem off40 (c : Dev nD) : k0_off40 c = ![1, 0, bb 1 1 c * sz 1 1, 0] := by revert c; decide
theorem off41 (c : Dev nD) : k0_off41 c = ![kp1 1 c, 0] := by revert c; decide
theorem off42 (c : Dev nD) : k0_off42 c = ![0, kp1 2 c, 0] := by revert c; decide
theorem off43 (c : Dev nD) : k0_off43 c = ![2, 0, bb 2 1 c * sz 2 1, 0] := by revert c; decide
theorem off44 (c : Dev nD) : k0_off44 c = ![kp1 2 c, 0] := by revert c; decide
theorem off45 (c : Dev nD) : k0_off45 c = ![rv0 0 c, 0] := by revert c; decide
theorem off46 (c : Dev nD) : k0_off46 c = ![0, 1, (1 - bb 0 2 c) * sz 0 2, 0] := by revert c; decide
theorem off47 (c : Dev nD) : k0_off47 c = ![rv0 0 c, 0] := by revert c; decide
theorem off48 (c : Dev nD) : k0_off48 c = ![rv0 1 c, 0] := by revert c; decide
theorem off49 (c : Dev nD) : k0_off49 c = ![1, 1, (1 - bb 1 2 c) * sz 1 2, 0] := by revert c; decide
theorem off50 (c : Dev nD) : k0_off50 c = ![rv0 1 c, 0] := by revert c; decide
theorem off51 (c : Dev nD) : k0_off51 c = ![rv0 2 c, 0] := by revert c; decide
theorem off52 (c : Dev nD) : k0_off52 c = ![2, 1, (1 - bb 2 2 c) * sz 2 2, 0] := by revert c; decide
theorem off53 (c : Dev nD) : k0_off53 c = ![rv0 2 c, 0] := by revert c; decide
theorem off54 (c : Dev nD) : k0_off54 c = ![kp2 0 c, 0] := by revert c; decide
theorem off55 (c : Dev nD) : k0_off55 c = ![0, 1, bb 0 2 c * sz 0 2, 0] := by revert c; decide
theorem off56 (c : Dev nD) : k0_off56 c = ![kp2 1 c, 0] := by revert c; decide
theorem off57 (c : Dev nD) : k0_off57 c = ![1, 1, bb 1 2 c * sz 1 2, 0] := by revert c; decide
theorem off58 (c : Dev nD) : k0_off58 c = ![kp2 2 c, 0] := by revert c; decide
theorem off59 (c : Dev nD) : k0_off59 c = ![2, 1, bb 2 2 c * sz 2 2, 0] := by revert c; decide
theorem off60 (c : Dev nD) : k0_off60 c = ![kp2 0 c, 0] := by revert c; decide
theorem off61 (c : Dev nD) : k0_off61 c = ![kp2 1 c, 0] := by revert c; decide
theorem off62 (c : Dev nD) : k0_off62 c = ![kp2 2 c, 0] := by revert c; decide
theorem off63 (c : Dev nD) : k0_off63 c = ![rv0 0 c, 0] := by revert c; decide
theorem off64 (c : Dev nD) : k0_off64 c = ![kp1 0 c, 0] := by revert c; decide
theorem off65 (c : Dev nD) : k0_off65 c = ![rv0 1 c, 0] := by revert c; decide
theorem off66 (c : Dev nD) : k0_off66 c = ![kp1 1 c, 0] := by revert c; decide
theorem off67 (c : Dev nD) : k0_off67 c = ![rv0 2 c, 0] := by revert c; decide
theorem off68 (c : Dev nD) : k0_off68 c = ![kp1 2 c, 0] := by revert c; decide
theorem off69 (c : Dev nD) : k0_off69 c = ![rv1 0 c, 0] := by revert c; decide
theorem off70 (c : Dev nD) : k0_off70 c = ![rv1 1 c, 0] := by revert c; decide
theorem off71 (c : Dev nD) : k0_off71 c = ![rv1 2 c, 0] := by revert c; decide
theorem dev1 (c : Dev nD) : (⟨k0_dev1 c, k0_dev1_lt c⟩ : Dev nD) = pr 0 c := by revert c; decide
theorem dev2 (c : Dev nD) : (⟨k0_dev2 c, k0_dev2_lt c⟩ : Dev nD) = pr 1 c := by revert c; decide
theorem dev3 (c : Dev nD) : (⟨k0_dev3 c, k0_dev3_lt c⟩ : Dev nD) = pr 2 c := by revert c; decide
theorem dev4 (c : Dev nD) : (⟨k0_dev4 c, k0_dev4_lt c⟩ : Dev nD) = px 0 0 c := by revert c; decide
theorem dev5 (c : Dev nD) : (⟨k0_dev5 c, k0_dev5_lt c⟩ : Dev nD) = px 0 0 c := by revert c; decide
theorem dev6 (c : Dev nD) : (⟨k0_dev6 c, k0_dev6_lt c⟩ : Dev nD) = px 1 0 c := by revert c; decide
theorem dev7 (c : Dev nD) : (⟨k0_dev7 c, k0_dev7_lt c⟩ : Dev nD) = px 1 0 c := by revert c; decide
theorem dev8 (c : Dev nD) : (⟨k0_dev8 c, k0_dev8_lt c⟩ : Dev nD) = px 2 0 c := by revert c; decide
theorem dev9 (c : Dev nD) : (⟨k0_dev9 c, k0_dev9_lt c⟩ : Dev nD) = px 2 0 c := by revert c; decide
theorem dev10 (c : Dev nD) : (⟨k0_dev10 c, k0_dev10_lt c⟩ : Dev nD) = px 0 1 c := by revert c; decide
theorem dev11 (c : Dev nD) : (⟨k0_dev11 c, k0_dev11_lt c⟩ : Dev nD) = px 0 1 c := by revert c; decide
theorem dev12 (c : Dev nD) : (⟨k0_dev12 c, k0_dev12_lt c⟩ : Dev nD) = px 1 1 c := by revert c; decide
theorem dev13 (c : Dev nD) : (⟨k0_dev13 c, k0_dev13_lt c⟩ : Dev nD) = px 1 1 c := by revert c; decide
theorem dev14 (c : Dev nD) : (⟨k0_dev14 c, k0_dev14_lt c⟩ : Dev nD) = px 2 1 c := by revert c; decide
theorem dev15 (c : Dev nD) : (⟨k0_dev15 c, k0_dev15_lt c⟩ : Dev nD) = px 2 1 c := by revert c; decide
theorem dev16 (c : Dev nD) : (⟨k0_dev16 c, k0_dev16_lt c⟩ : Dev nD) = px 0 2 c := by revert c; decide
theorem dev17 (c : Dev nD) : (⟨k0_dev17 c, k0_dev17_lt c⟩ : Dev nD) = px 1 2 c := by revert c; decide
theorem dev18 (c : Dev nD) : (⟨k0_dev18 c, k0_dev18_lt c⟩ : Dev nD) = px 2 2 c := by revert c; decide
theorem dev19 (c : Dev nD) : (⟨k0_dev19 c, k0_dev19_lt c⟩ : Dev nD) = px 0 2 c := by revert c; decide
theorem dev20 (c : Dev nD) : (⟨k0_dev20 c, k0_dev20_lt c⟩ : Dev nD) = px 0 1 c := by revert c; decide
theorem dev21 (c : Dev nD) : (⟨k0_dev21 c, k0_dev21_lt c⟩ : Dev nD) = px 1 2 c := by revert c; decide
theorem dev22 (c : Dev nD) : (⟨k0_dev22 c, k0_dev22_lt c⟩ : Dev nD) = px 1 1 c := by revert c; decide
theorem dev23 (c : Dev nD) : (⟨k0_dev23 c, k0_dev23_lt c⟩ : Dev nD) = px 2 2 c := by revert c; decide
theorem dev24 (c : Dev nD) : (⟨k0_dev24 c, k0_dev24_lt c⟩ : Dev nD) = px 2 1 c := by revert c; decide
theorem dev25 (c : Dev nD) : (⟨k0_dev25 c, k0_dev25_lt c⟩ : Dev nD) = px 0 1 c := by revert c; decide
theorem dev26 (c : Dev nD) : (⟨k0_dev26 c, k0_dev26_lt c⟩ : Dev nD) = px 0 0 c := by revert c; decide
theorem dev27 (c : Dev nD) : (⟨k0_dev27 c, k0_dev27_lt c⟩ : Dev nD) = px 1 1 c := by revert c; decide
theorem dev28 (c : Dev nD) : (⟨k0_dev28 c, k0_dev28_lt c⟩ : Dev nD) = px 1 0 c := by revert c; decide
theorem dev29 (c : Dev nD) : (⟨k0_dev29 c, k0_dev29_lt c⟩ : Dev nD) = px 2 1 c := by revert c; decide
theorem dev30 (c : Dev nD) : (⟨k0_dev30 c, k0_dev30_lt c⟩ : Dev nD) = px 2 0 c := by revert c; decide
theorem dev31 (c : Dev nD) : (⟨k0_dev31 c, k0_dev31_lt c⟩ : Dev nD) = px 0 0 c := by revert c; decide
theorem dev32 (c : Dev nD) : (⟨k0_dev32 c, k0_dev32_lt c⟩ : Dev nD) = px 1 0 c := by revert c; decide
theorem dev33 (c : Dev nD) : (⟨k0_dev33 c, k0_dev33_lt c⟩ : Dev nD) = px 2 0 c := by revert c; decide
end Cert.Butterfly

end
-- ==== Proof.Rows.lean ====
/-
# Blocks of rows of the kernel's four buffers

The kernel touches its buffers in blocks of whole rows only. `ptO`, `ptZ` and `ptS` say that a device's block of
rows of the result, of the first copy buffer and of one slot of the landing buffer holds given contents, as a
function of the row and the column; `anyO`, `anyZ` and `anyS` say it of some contents. The lemmas of this module
turn the kernel's views into these blocks, read and write them, and cut and join blocks.
-/
module

public import proofs.«01_k».proof.Proof.Groups
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-- The ghost state: the pipeline's copy of the rounds and the protocol's, whose duties are numbered by directions. -/
abbrev UB : Type := URounds (GSem nD τ sig) (Fin 3)
abbrev UU : Type := UR sig nD τ × UB
local notation "𝕄" => MT nD τ sig Unit (Elt F) ℕ UU ℕ

abbrev xM : Memref sig .tc .vmem S1x2048x1024 .bf16 := Memref.whole cc0_stg0_0
abbrev oM : Memref sig .tc .vmem S2048x1024 .bf16 := Memref.whole cc0_stg1_0
abbrev sM : Memref sig .tc .vmem S3x3x384x1024 .bf16 := Memref.whole cc0_scratch0
abbrev zM : Memref sig .tc .vmem S1024x1024 .bf16 := Memref.whole cc0_scratch1

/-- Contents by row and column. -/
abbrev Cont (F : FTy → Type) : Type := ℕ → ℕ → Elt F .bf16

/-- `n` whole rows. -/
abbrev sh2 (n : ℕ) : Shape := ⟨2, ![n, 1024]⟩
abbrev sh3 (n : ℕ) : Shape := ⟨3, ![1, n, 1024]⟩
abbrev sh4 (n : ℕ) : Shape := ⟨4, ![1, 1, n, 1024]⟩

def rowsO (a n : ℕ) : Finset S2048x1024.Idx := Finset.univ.filter fun i => a ≤ (i 0).val ∧ (i 0).val < a + n
def rowsZ (a n : ℕ) : Finset S1024x1024.Idx := Finset.univ.filter fun i => a ≤ (i 0).val ∧ (i 0).val < a + n
def rowsS (g k : Fin 3) (a n : ℕ) : Finset S3x3x384x1024.Idx :=
  Finset.univ.filter fun i => (i 0).val = g.val ∧ (i 1).val = k.val ∧ a ≤ (i 2).val ∧ (i 2).val < a + n

theorem mem_rowsO {a n : ℕ} {i : S2048x1024.Idx} : i ∈ rowsO a n ↔ a ≤ (i 0).val ∧ (i 0).val < a + n := by simp [rowsO]
theorem mem_rowsZ {a n : ℕ} {i : S1024x1024.Idx} : i ∈ rowsZ a n ↔ a ≤ (i 0).val ∧ (i 0).val < a + n := by simp [rowsZ]
theorem mem_rowsS {g k : Fin 3} {a n : ℕ} {i : S3x3x384x1024.Idx} :
    i ∈ rowsS g k a n ↔ (i 0).val = g.val ∧ (i 1).val = k.val ∧ a ≤ (i 2).val ∧ (i 2).val < a + n := by simp [rowsS]

/-! ## The views' element sets -/

section Views
variable {off2 : Fin 2 → ℕ} {off3 : Fin 3 → ℕ} {off4 : Fin 4 → ℕ} {n a : ℕ}

abbrev oV (off2 : Fin 2 → ℕ) (n : ℕ) (inb : ∀ x, off2 x + (sh2 n).size x ≤ S2048x1024.size x) : View sig .tc .vmem (sh2 n) .bf16 :=
  (View.whole cc0_stg1_0).slice (Rect.unit (s := S2048x1024) off2 (sh2 n).size inb)
abbrev zV (off2 : Fin 2 → ℕ) (n : ℕ) (inb : ∀ x, off2 x + (sh2 n).size x ≤ S1024x1024.size x) : View sig .tc .vmem (sh2 n) .bf16 :=
  (View.whole cc0_scratch1).slice (Rect.unit (s := S1024x1024) off2 (sh2 n).size inb)
abbrev xV (off3 : Fin 3 → ℕ) (n : ℕ) (inb : ∀ x, off3 x + (sh3 n).size x ≤ S1x2048x1024.size x) : View sig .tc .vmem (sh3 n) .bf16 :=
  (View.whole cc0_stg0_0).slice (Rect.unit (s := S1x2048x1024) off3 (sh3 n).size inb)
abbrev sV (off4 : Fin 4 → ℕ) (n : ℕ) (inb : ∀ x, off4 x + (sh4 n).size x ≤ S3x3x384x1024.size x) : View sig .tc .vmem (sh4 n) .bf16 :=
  (View.whole cc0_scratch0).slice (Rect.unit (s := S3x3x384x1024) off4 (sh4 n).size inb)

theorem oV_set {inb} (h : off2 = ![a, 0]) : (oV off2 n inb).set = rowsO a n := by
  subst h
  refine (View.set_slice_whole cc0_stg1_0 _).trans ?_
  ext i
  refine Rect.mem_set_unit.trans (Iff.trans ?_ mem_rowsO.symm)
  have h1 : (i 1).val < 1024 := (i 1).isLt
  refine ⟨fun h => h 0, fun h x => ?_⟩
  match x with
  | 0 => exact h
  | 1 => show 0 ≤ (i 1).val ∧ (i 1).val < 0 + 1024; omega

theorem zV_set {inb} (h : off2 = ![a, 0]) : (zV off2 n inb).set = rowsZ a n := by
  subst h
  refine (View.set_slice_whole cc0_scratch1 _).trans ?_
  ext i
  refine Rect.mem_set_unit.trans (Iff.trans ?_ mem_rowsZ.symm)
  have h1 : (i 1).val < 1024 := (i 1).isLt
  refine ⟨fun h => h 0, fun h x => ?_⟩
  match x with
  | 0 => exact h
  | 1 => show 0 ≤ (i 1).val ∧ (i 1).val < 0 + 1024; omega

theorem sV_set {inb} {g k : Fin 3} (h : off4 = ![g.val, k.val, a, 0]) : (sV off4 n inb).set = rowsS g k a n := by
  subst h
  refine (View.set_slice_whole cc0_scratch0 _).trans ?_
  ext i
  refine Rect.mem_set_unit.trans (Iff.trans ?_ mem_rowsS.symm)
  have h3 : (i 3).val < 1024 := (i 3).isLt
  constructor
  · intro h
    have h0 : g.val ≤ (i 0).val ∧ (i 0).val < g.val + 1 := h 0
    have h1 : k.val ≤ (i 1).val ∧ (i 1).val < k.val + 1 := h 1
    have h2 : a ≤ (i 2).val ∧ (i 2).val < a + n := h 2
    exact ⟨by omega, by omega, h2⟩
  · rintro ⟨h0, h1, h2⟩ x
    match x with
    | 0 => show g.val ≤ (i 0).val ∧ (i 0).val < g.val + 1; omega
    | 1 => show k.val ≤ (i 1).val ∧ (i 1).val < k.val + 1; omega
    | 2 => exact h2
    | 3 => show 0 ≤ (i 3).val ∧ (i 3).val < 0 + 1024; omega

/-! ## Contents -/

variable (φ : Cont F)

/-- Contents of a whole buffer by row and column (of a landing buffer: the same in every slot). -/
def cO (φ : Cont F) : S2048x1024.Idx → Elt F .bf16 := fun i => φ (i 0).val (i 1).val
def cZ (φ : Cont F) : S1024x1024.Idx → Elt F .bf16 := fun i => φ (i 0).val (i 1).val
def cS (φ : Cont F) : S3x3x384x1024.Idx → Elt F .bf16 := fun i => φ (i 2).val (i 3).val

theorem oV_read {inb} (h : off2 = ![a, 0]) (j : (sh2 n).Idx) : (oV off2 n inb).read (Elt F) (cO φ) j = φ (a + (j 0).val) (j 1).val := by
  subst h
  show φ (a + 1 * (j 0).val) (0 + 1 * (j 1).val) = _
  rw [Nat.one_mul, Nat.one_mul, Nat.zero_add]
theorem zV_read {inb} (h : off2 = ![a, 0]) (j : (sh2 n).Idx) : (zV off2 n inb).read (Elt F) (cZ φ) j = φ (a + (j 0).val) (j 1).val := by
  subst h
  show φ (a + 1 * (j 0).val) (0 + 1 * (j 1).val) = _
  rw [Nat.one_mul, Nat.one_mul, Nat.zero_add]
theorem sV_read {inb} {g k : ℕ} (h : off4 = ![g, k, a, 0]) (j : (sh4 n).Idx) : (sV off4 n inb).read (Elt F) (cS φ) j = φ (a + (j 2).val) (j 3).val := by
  subst h
  show φ (a + 1 * (j 2).val) (0 + 1 * (j 3).val) = _
  rw [Nat.one_mul, Nat.one_mul, Nat.zero_add]

theorem oV_write {inb} (h : off2 = ![a, 0]) (f) (w : (sh2 n).Idx → Elt F .bf16) (hw : ∀ j, w j = φ (a + (j 0).val) (j 1).val) :
    ∀ i ∈ rowsO a n, (oV off2 n inb).write (Elt F) f w Finset.univ i = cO φ i := by
  intro i hi
  rw [← oV_set (inb := inb) h] at hi
  obtain ⟨j, -, rfl⟩ := Finset.mem_map.mp hi
  rw [View.write_emb_of_mem _ _ (Finset.mem_univ j)]
  exact (hw j).trans (oV_read φ (inb := inb) h j).symm
theorem zV_write {inb} (h : off2 = ![a, 0]) (f) (w : (sh2 n).Idx → Elt F .bf16) (hw : ∀ j, w j = φ (a + (j 0).val) (j 1).val) :
    ∀ i ∈ rowsZ a n, (zV off2 n inb).write (Elt F) f w Finset.univ i = cZ φ i := by
  intro i hi
  rw [← zV_set (inb := inb) h] at hi
  obtain ⟨j, -, rfl⟩ := Finset.mem_map.mp hi
  rw [View.write_emb_of_mem _ _ (Finset.mem_univ j)]
  exact (hw j).trans (zV_read φ (inb := inb) h j).symm

/-- A landing slot's rows with its two leading axes dropped. -/
abbrev sqV (off4 : Fin 4 → ℕ) (n : ℕ) (inb : ∀ x, off4 x + (sh4 n).size x ≤ S3x3x384x1024.size x) (hn : (sh2 n).numel = (sh4 n).numel) :
    View sig .tc .vmem (sh2 n) .bf16 := (sV off4 n inb).reshape (sh2 n) hn

theorem sqV_set {inb hn} {g k : Fin 3} (h : off4 = ![g.val, k.val, a, 0]) : (sqV off4 n inb hn).set = rowsS g k a n := by
  unfold sqV; rw [View.set_reshape]; exact sV_set h

theorem sqV_write {inb hn} {g k : Fin 3} (h : off4 = ![g.val, k.val, a, 0]) (f) (w : (sh2 n).Idx → Elt F .bf16)
    (hw : ∀ j, w j = φ (a + (j 0).val) (j 1).val) :
    ∀ i ∈ rowsS g k a n, (sqV off4 n inb hn).write (Elt F) f w Finset.univ i = cS φ i := by
  intro i hi
  rw [← sqV_set (inb := inb) (hn := hn) h] at hi
  obtain ⟨j, -, rfl⟩ := Finset.mem_map.mp hi
  rw [View.write_emb_of_mem _ _ (Finset.mem_univ j)]
  refine (hw j).trans ?_
  have e : Shape.reshapeEquiv hn j = ix4 (⟨0, Nat.one_pos⟩ : Fin 1) (⟨0, Nat.one_pos⟩ : Fin 1) (j 0) (j 1) := by
    conv_lhs => rw [eq_ix2 j]
    exact reshapeEquiv_ix2_11ab hn (j 0) (j 1)
  have := sV_read φ (inb := inb) h (Shape.reshapeEquiv hn j)
  refine Eq.trans ?_ this.symm
  rw [e]; rfl

end Views

/-! ## Blocks of rows as assertions -/

abbrev lO (c : Dev nD) : Loc nD τ sig := (c : Thread nD τ).loc cc0_stg1_0
abbrev lZ (c : Dev nD) : Loc nD τ sig := (c : Thread nD τ).loc cc0_scratch1
abbrev lS (c : Dev nD) : Loc nD τ sig := (c : Thread nD τ).loc cc0_scratch0

/-- Rows `a` to `a + n` of device `c`'s result at share `q` holding `φ`; likewise of its copy buffer, -/
def ptO (c : Dev nD) (a n : ℕ) (q : PosShare TreeShare) (φ : Cont F) : sProp 𝕄 := lO c ↦[rowsO a n]{q} cO φ
def ptZ (c : Dev nD) (a n : ℕ) (φ : Cont F) : sProp 𝕄 := lZ c ↦[rowsZ a n]{fullShare} cZ φ
/-- and of slot `(g, k)` of its landing buffer. -/
def ptS (c : Dev nD) (g k : Fin 3) (a n : ℕ) (φ : Cont F) : sProp 𝕄 := lS c ↦[rowsS g k a n]{fullShare} cS φ
/-- The same at some contents. -/
def anyO (c : Dev nD) (a n : ℕ) : sProp 𝕄 := iprop(∃ f : Buf (Elt F) (lO c), lO c ↦[rowsO a n]{fullShare} f)
def anyZ (c : Dev nD) (a n : ℕ) : sProp 𝕄 := iprop(∃ f : Buf (Elt F) (lZ c), lZ c ↦[rowsZ a n]{fullShare} f)
def anyS (c : Dev nD) (g k : Fin 3) (a n : ℕ) : sProp 𝕄 := iprop(∃ f : Buf (Elt F) (lS c), lS c ↦[rowsS g k a n]{fullShare} f)

instance ptO_storable (c : Dev nD) (a n : ℕ) (q) (φ : Cont F) : BI.Storable (upEmb : UEmb _ 𝕄) (ptO c a n q φ) := by unfold ptO; infer_instance
instance ptZ_storable (c : Dev nD) (a n : ℕ) (φ : Cont F) : BI.Storable (upEmb : UEmb _ 𝕄) (ptZ c a n φ) := by unfold ptZ; infer_instance
instance ptS_storable (c : Dev nD) (g k : Fin 3) (a n : ℕ) (φ : Cont F) : BI.Storable (upEmb : UEmb _ 𝕄) (ptS c g k a n φ) := by unfold ptS; infer_instance
instance anyO_storable (c : Dev nD) (a n : ℕ) : BI.Storable (upEmb : UEmb _ 𝕄) (anyO (F := F) c a n) := by unfold anyO; infer_instance
instance anyS_storable (c : Dev nD) (g k : Fin 3) (a n : ℕ) : BI.Storable (upEmb : UEmb _ 𝕄) (anyS (F := F) c g k a n) := by unfold anyS; infer_instance

theorem ptO_any (c : Dev nD) (a n : ℕ) (φ : Cont F) : ptO c a n fullShare φ ⊢ anyO c a n := by
  unfold ptO anyO; iintro H; iexists _; iexact H
theorem ptZ_any (c : Dev nD) (a n : ℕ) (φ : Cont F) : ptZ c a n φ ⊢ anyZ c a n := by
  unfold ptZ anyZ; iintro H; iexists _; iexact H
theorem ptS_any (c : Dev nD) (g k : Fin 3) (a n : ℕ) (φ : Cont F) : ptS c g k a n φ ⊢ anyS c g k a n := by
  unfold ptS anyS; iintro H; iexists _; iexact H

/-- Contents equal on the rows. -/
theorem ptO_congr (c : Dev nD) (a n : ℕ) (q) (φ ψ : Cont F) (h : ∀ r k, a ≤ r → r < a + n → φ r k = ψ r k) : ptO c a n q φ = ptO c a n q ψ := by
  unfold ptO
  exact pointsTo_congr fun i hi => h _ _ (mem_rowsO.mp hi).1 (mem_rowsO.mp hi).2

/-! ## Cutting and joining -/

theorem rowsO_add (a n m : ℕ) : rowsO a (n + m) = rowsO a n ∪ rowsO (a + n) m := by
  ext i; simp only [Finset.mem_union, mem_rowsO]; omega
theorem rowsO_disj (a n m : ℕ) : Disjoint (rowsO a n) (rowsO (a + n) m) :=
  Finset.disjoint_left.mpr fun i h h' => by rw [mem_rowsO] at h h'; omega
theorem rowsZ_add (a n m : ℕ) : rowsZ a (n + m) = rowsZ a n ∪ rowsZ (a + n) m := by
  ext i; simp only [Finset.mem_union, mem_rowsZ]; omega
theorem rowsZ_disj (a n m : ℕ) : Disjoint (rowsZ a n) (rowsZ (a + n) m) :=
  Finset.disjoint_left.mpr fun i h h' => by rw [mem_rowsZ] at h h'; omega
theorem rowsS_add (g k : Fin 3) (a n m : ℕ) : rowsS g k a (n + m) = rowsS g k a n ∪ rowsS g k (a + n) m := by
  ext i; simp only [Finset.mem_union, mem_rowsS]; omega
theorem rowsS_disj (g k : Fin 3) (a n m : ℕ) : Disjoint (rowsS g k a n) (rowsS g k (a + n) m) :=
  Finset.disjoint_left.mpr fun i h h' => by rw [mem_rowsS] at h h'; omega

theorem ptO_cut (c : Dev nD) (a n m : ℕ) (q) (φ : Cont F) : ptO c a (n + m) q φ ⊣⊢ iprop(ptO c a n q φ ∗ ptO c (a + n) m q φ) := by
  unfold ptO; rw [rowsO_add]; exact pointsTo_union (rowsO_disj a n m)
theorem ptZ_cut (c : Dev nD) (a n m : ℕ) (φ : Cont F) : ptZ c a (n + m) φ ⊣⊢ iprop(ptZ c a n φ ∗ ptZ c (a + n) m φ) := by
  unfold ptZ; rw [rowsZ_add]; exact pointsTo_union (rowsZ_disj a n m)

theorem anyO_cut (c : Dev nD) (a n m : ℕ) : anyO (F := F) c a (n + m) ⊣⊢ iprop(anyO c a n ∗ anyO c (a + n) m) := by
  unfold anyO; constructor
  · iintro ⟨%f, H⟩
    rw [rowsO_add]
    ihave H := (pointsTo_union (rowsO_disj a n m)).1 $$ H
    icases H with ⟨H1, H2⟩
    isplitl [H1]
    · iexists f; iexact H1
    · iexists f; iexact H2
  · iintro ⟨⟨%f, H1⟩, ⟨%g, H2⟩⟩
    iexists _
    rw [rowsO_add]
    iapply (pointsTo_join (rowsO_disj a n m))
    isplitl [H1]; · iexact H1
    iexact H2
theorem anyZ_cut (c : Dev nD) (a n m : ℕ) : anyZ (F := F) c a (n + m) ⊣⊢ iprop(anyZ c a n ∗ anyZ c (a + n) m) := by
  unfold anyZ; constructor
  · iintro ⟨%f, H⟩
    rw [rowsZ_add]
    ihave H := (pointsTo_union (rowsZ_disj a n m)).1 $$ H
    icases H with ⟨H1, H2⟩
    isplitl [H1]
    · iexists f; iexact H1
    · iexists f; iexact H2
  · iintro ⟨⟨%f, H1⟩, ⟨%g, H2⟩⟩
    iexists _
    rw [rowsZ_add]
    iapply (pointsTo_join (rowsZ_disj a n m))
    isplitl [H1]; · iexact H1
    iexact H2
theorem anyS_cut (c : Dev nD) (g k : Fin 3) (a n m : ℕ) : anyS (F := F) c g k a (n + m) ⊣⊢ iprop(anyS c g k a n ∗ anyS c g k (a + n) m) := by
  unfold anyS; constructor
  · iintro ⟨%f, H⟩
    rw [rowsS_add]
    ihave H := (pointsTo_union (rowsS_disj g k a n m)).1 $$ H
    icases H with ⟨H1, H2⟩
    isplitl [H1]
    · iexists f; iexact H1
    · iexists f; iexact H2
  · iintro ⟨⟨%f, H1⟩, ⟨%f', H2⟩⟩
    iexists _
    rw [rowsS_add]
    iapply (pointsTo_join (rowsS_disj g k a n m))
    isplitl [H1]; · iexact H1
    iexact H2

/-- A family of blocks that is cut at any row splits into its halves, in the order a bit names. -/
theorem halves {P : ℕ → ℕ → sProp 𝕄} (cut : ∀ a n m, P a (n + m) ⊣⊢ iprop(P a n ∗ P (a + n) m)) (a h b : ℕ) (hb : b = 0 ∨ b = 1) :
    P a (h + h) ⊣⊢ iprop(P (a + b * h) h ∗ P (a + (1 - b) * h) h) := by
  rcases hb with rfl | rfl
  · simpa using cut a h h
  · have := cut a h h
    simp only [Nat.one_mul, Nat.sub_self, Nat.zero_mul, Nat.add_zero]
    exact ⟨this.1.trans sep_comm.1, sep_comm.1.trans this.2⟩

theorem ptO_halves (c : Dev nD) (q) (φ : Cont F) (a h b : ℕ) (hb : b = 0 ∨ b = 1) :
    ptO c a (h + h) q φ ⊣⊢ iprop(ptO c (a + b * h) h q φ ∗ ptO c (a + (1 - b) * h) h q φ) :=
  halves (P := fun a n => ptO c a n q φ) (fun a n m => ptO_cut c a n m q φ) a h b hb
theorem anyO_halves (c : Dev nD) (a h b : ℕ) (hb : b = 0 ∨ b = 1) :
    anyO (F := F) c a (h + h) ⊣⊢ iprop(anyO c (a + b * h) h ∗ anyO c (a + (1 - b) * h) h) :=
  halves (P := fun a n => anyO c a n) (fun a n m => anyO_cut c a n m) a h b hb
theorem ptZ_halves (c : Dev nD) (φ : Cont F) (a h b : ℕ) (hb : b = 0 ∨ b = 1) :
    ptZ c a (h + h) φ ⊣⊢ iprop(ptZ c (a + b * h) h φ ∗ ptZ c (a + (1 - b) * h) h φ) :=
  halves (P := fun a n => ptZ c a n φ) (fun a n m => ptZ_cut c a n m φ) a h b hb
theorem anyZ_halves (c : Dev nD) (a h b : ℕ) (hb : b = 0 ∨ b = 1) :
    anyZ (F := F) c a (h + h) ⊣⊢ iprop(anyZ c (a + b * h) h ∗ anyZ c (a + (1 - b) * h) h) :=
  halves (P := fun a n => anyZ c a n) (fun a n m => anyZ_cut c a n m) a h b hb
theorem anyS_halves (c : Dev nD) (g k : Fin 3) (h b : ℕ) (hb : b = 0 ∨ b = 1) :
    anyS (F := F) c g k 0 (h + h) ⊣⊢ iprop(anyS c g k (b * h) h ∗ anyS c g k ((1 - b) * h) h) := by
  have := halves (P := fun a n => anyS (F := F) c g k a n) (fun a n m => anyS_cut c g k a n m) 0 h b hb
  simpa only [Nat.zero_add] using this

/-- The two half shares of a block. -/
theorem ptO_share (c : Dev nD) (a n : ℕ) (φ : Cont F) :
    ptO c a n fullShare φ ⊣⊢ iprop(ptO c a n fullShare.left φ ∗ ptO c a n fullShare.right φ) := by
  unfold ptO; exact pointsTo_share (by rw [PosShare.left_op_right]; exact Part.mem_some _)

end Cert.Butterfly

end
-- ==== Proof.Sched.lean ====
/-
# The protocol

Every transfer `(g, j)` of the kernel has a send and a receive semaphore, the entries `(g, j)` of two arrays. The
columns `j` are: 0 and 1, the two halves of the half given away at step 0; 2 and 3, the two halves of the quarter
given away at step 1; 4, the eighth given away at step 2; then, backwards, 6 (step 2), 8 and 9 (step 1), 10 and 11
(step 0), the finished blocks. Columns 5 and 7 are not used.

A device's receive cell has one duty, paid by the landing of its peer's transfer, and it hands the device the rows
landed. The transfers of columns 2, 3 and 4 take their source along: the peer receives the right to write the rows
they came from, where the finished block goes later. The barrier cell has three duties, one per direction, each
handing over the rows that the peer of that direction writes.
-/
module

public import proofs.«01_k».proof.Proof.Rows

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.RefSig (tileCredit tileCredit_pos)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-! Everywhere `ξ` is every device's block of the argument. -/

section Contents
variable (ξ : Dev nD → S1x2048x1024.Idx → Elt F .bf16)

/-- The argument by row and column. -/
def X (c : Dev nD) : Cont F := fun r k => ξ c (ix3 (⟨0, Nat.one_pos⟩ : Fin 1) (Fin.ofNat 2048 r) (Fin.ofNat 1024 k))
/-- The sums over two, four and eight devices, as group `g` forms them on device `c`. -/
def A0 (g : Fin 3) (c : Dev nD) : Cont F := fun r k => FloatOps.addf (F := F) (φ := .bf16) (X ξ c r k) (X ξ (px g 0 c) r k)
def A1 (g : Fin 3) (c : Dev nD) : Cont F := fun r k => FloatOps.addf (F := F) (φ := .bf16) (A0 ξ g c r k) (A0 ξ g (px g 1 c) r k)
def A2 (g : Fin 3) (c : Dev nD) : Cont F := fun r k => FloatOps.addf (F := F) (φ := .bf16) (A1 ξ g c r k) (A1 ξ g (px g 2 c) r k)

/-- The finished result: every row is summed by the group and on the device that keeps it. -/
def FIN : Cont F := fun r k =>
  open Classical in
  if h : ∃ p : Fin 3 × Dev nD, kp2 p.1 p.2 ≤ r ∧ r < kp2 p.1 p.2 + sz p.1 2 then A2 ξ h.choose.1 h.choose.2 r k else A2 ξ 0 0 r k

theorem blocks_apart : ∀ p p' : Fin 3 × Dev nD, p = p' ∨ kp2 p.1 p.2 + sz p.1 2 ≤ kp2 p'.1 p'.2 ∨ kp2 p'.1 p'.2 + sz p'.1 2 ≤ kp2 p.1 p.2 := by
  decide

theorem FIN_at (g : Fin 3) (c : Dev nD) (r k : ℕ) (h1 : kp2 g c ≤ r) (h2 : r < kp2 g c + sz g 2) : FIN ξ r k = A2 ξ g c r k := by
  have h : ∃ p : Fin 3 × Dev nD, kp2 p.1 p.2 ≤ r ∧ r < kp2 p.1 p.2 + sz p.1 2 := ⟨(g, c), h1, h2⟩
  unfold FIN
  rw [dif_pos h]
  have e : h.choose = (g, c) := by
    have hs := h.choose_spec
    rcases blocks_apart h.choose (g, c) with e | e | e
    · exact e
    · exact absurd (lt_of_lt_of_le hs.2 e) (Nat.not_lt.mpr h1)
    · exact absurd (lt_of_lt_of_le h2 e) (Nat.not_lt.mpr hs.1)
  rw [e]

/-- What lands in device `c`'s slot of group `g` at each step, by the slot's row; and the half it gives away at step 0. -/
def SG0 (g : Fin 3) (c : Dev nD) : Cont F := fun r k => X ξ (px g 0 c) (kp0 g c + r) k
def SG1 (g : Fin 3) (c : Dev nD) : Cont F := fun r k => A0 ξ g (px g 1 c) (kp1 g c + r) k
def SG2 (g : Fin 3) (c : Dev nD) : Cont F := fun r k => A1 ξ g (px g 2 c) (kp2 g c + r) k
def ZC (g : Fin 3) (c : Dev nD) : Cont F := fun r k => X ξ c (nk g c + (r - zs g)) k

end Contents

/-! ## Cells -/

/-- The barrier semaphore and the transfers' semaphores: `false` send, `true` receive. -/
abbrev barS : Sem sig := (SemArray.scalar (sig.barrier 0 rfl) : Sems sig S_).sem
set_option backward.proofsInPublic true in
def xSem (b : Bool) (g : Fin 3) (j : Fin 12) : DmaSem sig := ⟨(if b then 38 else 2) + 12 * g.val + j.val, by
  have h1 := g.isLt; have h2 := j.isLt; show _ < 74; split <;> omega⟩
set_option backward.proofsInPublic true in
/-- Which transfer a semaphore belongs to. -/
def dec (q : Fin 74) : Option (Bool × Fin 3 × Fin 12) :=
  if q.val < 2 then none
  else if q.val < 38 then some (false, Fin.ofNat 3 ((q.val - 2) / 12), Fin.ofNat 12 ((q.val - 2) % 12))
  else some (true, Fin.ofNat 3 ((q.val - 38) / 12), Fin.ofNat 12 ((q.val - 38) % 12))
theorem dec_xSem : ∀ (b : Bool) (g : Fin 3) (j : Fin 12), dec (xSem b g j) = some (b, g, j) := by decide

abbrev barCell (c : Dev nD) : GSem nD τ sig := ((c : Thread nD τ), .reg barS)
abbrev xCell (b : Bool) (c : Dev nD) (g : Fin 3) (j : Fin 12) : GSem nD τ sig := ((c : Thread nD τ), .dma (xSem b g j))
abbrev sCell := xCell false
abbrev rCell := xCell true

/-- The step of a column, its peer, its rows and their credit; the columns used. -/
def kd (j : Fin 12) : Fin 3 := match j with | 0 | 1 | 10 | 11 => 0 | 2 | 3 | 8 | 9 => 1 | _ => 2
abbrev peer (g : Fin 3) (j : Fin 12) (c : Dev nD) : Dev nD := px g (kd j) c
def nr (g : Fin 3) (j : Fin 12) : ℕ := match j with | 0 | 1 | 10 | 11 => sz g 1 | _ => sz g 2
def amt (g : Fin 3) (j : Fin 12) : ℕ := tileCredit (sh2 (nr g j)) .bf16
def used (j : Fin 12) : Bool := match j with | 5 | 7 => false | _ => true
theorem nr_pos : ∀ (g : Fin 3) (j : Fin 12), 0 < nr g j := by decide
theorem amt_pos (g : Fin 3) (j : Fin 12) : 0 < amt g j := by
  refine tileCredit_pos _ _ ?_
  show 0 < ∏ a : Fin 2, ![nr g j, 1024] a
  rw [Fin.prod_univ_two]
  exact Nat.mul_pos (nr_pos g j) (Nat.succ_pos 1023)

theorem dma_ne_bar (q : DmaSem sig) : (SemLoc.dma q : SemLoc sig) ≠ .reg barS := fun h => by cases h

/-! ## Payloads -/

/-- What device `q` hands the device `c` on its other side of direction `δ` at the barrier. -/
def pieces (q c : Dev nD) (δ : Fin 3) : sProp 𝕄 :=
  iprop((anyS q δ 0 ((1 - bb δ 1 c) * sz δ 1) (sz δ 1) ∗ anyS q δ 0 (bb δ 1 c * sz δ 1) (sz δ 1))
    ∗ (anyO q (kp1 δ c) (sz δ 1) ∗ anyO q (rv1 δ c) (sz δ 1))
    ∗ (anyS q (δ + 2) 1 ((1 - bb (δ + 2) 2 c) * sz (δ + 2) 2) (sz (δ + 2) 2) ∗ anyS q (δ + 2) 1 (bb (δ + 2) 2 c * sz (δ + 2) 2) (sz (δ + 2) 2))
    ∗ anyS q (δ + 1) 2 0 (sz (δ + 1) 2))

section Payloads
variable (ξ : Dev nD → S1x2048x1024.Idx → Elt F .bf16)

/-- What comes back to a sender, -/
def sendPay (c : Dev nD) (g : Fin 3) (j : Fin 12) : sProp 𝕄 := match j with
  | 0 => ptZ c (zs g + (1 - bb g 1 c) * sz g 1) (sz g 1) (ZC ξ g c)
  | 1 => ptZ c (zs g + bb g 1 c * sz g 1) (sz g 1) (ZC ξ g c)
  | 6 => ptO c (kp2 g c) (sz g 2) fullShare.left (FIN ξ)
  | 8 => ptO c (kp2 g c) (sz g 2) fullShare.right (FIN ξ)
  | 9 => ptO c (rv0 g c) (sz g 2) fullShare.right (FIN ξ)
  | 10 => ptO c (kp1 g c) (sz g 1) fullShare.left (FIN ξ)
  | 11 => ptO c (rv1 g c) (sz g 1) fullShare (FIN ξ)
  | _ => iprop(emp)
/-- and what a landing hands the receiver. -/
def recvPay (c : Dev nD) (g : Fin 3) (j : Fin 12) : sProp 𝕄 := match j with
  | 0 => ptS c g 0 ((1 - bb g 1 c) * sz g 1) (sz g 1) (SG0 ξ g c)
  | 1 => ptS c g 0 (bb g 1 c * sz g 1) (sz g 1) (SG0 ξ g c)
  | 2 => iprop(ptS c g 1 ((1 - bb g 2 c) * sz g 2) (sz g 2) (SG1 ξ g c) ∗ anyO (px g 1 c) (rv0 g c) (sz g 2))
  | 3 => iprop(ptS c g 1 (bb g 2 c * sz g 2) (sz g 2) (SG1 ξ g c) ∗ anyO (px g 1 c) (kp2 g c) (sz g 2))
  | 4 => iprop(ptS c g 2 0 (sz g 2) (SG2 ξ g c) ∗ anyO (px g 2 c) (kp2 g c) (sz g 2))
  | 6 => ptO c (rv0 g c) (sz g 2) fullShare (FIN ξ)
  | 8 => ptO c (kp2 g (px g 1 c)) (sz g 2) fullShare (FIN ξ)
  | 9 => ptO c (rv0 g (px g 1 c)) (sz g 2) fullShare (FIN ξ)
  | 10 => ptO c (kp1 g (px g 0 c)) (sz g 1) fullShare (FIN ξ)
  | 11 => ptO c (rv1 g (px g 0 c)) (sz g 1) fullShare (FIN ξ)
  | _ => iprop(emp)
def barPay (c : Dev nD) (δ : Fin 3) : sProp 𝕄 := pieces (pr δ c) c δ

instance sendPay_storable (c : Dev nD) (g : Fin 3) (j : Fin 12) : BI.Storable (upEmb : UEmb _ 𝕄) (sendPay ξ c g j) := by
  unfold sendPay; (repeat' split) <;> infer_instance
instance recvPay_storable (c : Dev nD) (g : Fin 3) (j : Fin 12) : BI.Storable (upEmb : UEmb _ 𝕄) (recvPay ξ c g j) := by
  unfold recvPay; (repeat' split) <;> infer_instance
instance barPay_storable (c : Dev nD) (δ : Fin 3) : BI.Storable (upEmb : UEmb _ 𝕄) (barPay (F := F) c δ) := by
  unfold barPay pieces; infer_instance

/-! ## The schedule -/

set_option backward.proofsInPublic true in
/-- One round. -/
def Rd : Rounds.Schedule (GSem nD τ sig) (Fin 3) 𝕄 where
  duties g r := if r = 0 ∧ g.1.2 = .tc then (match g.2 with
    | .reg q => if q = barS then Finset.univ else ∅
    | .dma q => (match dec q with | some (_, _, j) => if used j then {0} else ∅ | none => ∅)) else ∅
  unitless _ := False
  amount g _ _ := match g.2 with
    | .reg _ => 1
    | .dma q => (match dec q with | some (_, g, j) => amt g j | none => 1)
  payload g _ d := match g.2 with
    | .reg _ => barPay g.1.1 d
    | .dma q => (match dec q with
      | some (false, g', j) => sendPay ξ g.1.1 g' j
      | some (true, g', j) => recvPay ξ g.1.1 g' j
      | none => iprop(emp))
  amount_pos g _ _ _ := by
    (repeat' split)
    · exact Nat.one_pos
    · exact amt_pos _ _
    · exact Nat.one_pos

instance Rd_payload_storable (g : GSem nD τ sig) (r : ℕ) (d : Fin 3) : BI.Storable (upEmb : UEmb _ 𝕄) ((Rd (F := F) ξ).payload g r d) := by
  show BI.Storable upEmb (match g.2 with
    | .reg _ => barPay g.1.1 d
    | .dma q => (match dec q with
      | some (false, g', j) => sendPay ξ g.1.1 g' j
      | some (true, g', j) => recvPay ξ g.1.1 g' j
      | none => iprop(emp)))
  (repeat' split) <;> infer_instance

variable (c : Dev nD) (b : Bool) (g : Fin 3) (j : Fin 12)

theorem duties_bar : (Rd (F := F) ξ).duties (barCell c) 0 = Finset.univ := rfl
theorem duties_x : (Rd (F := F) ξ).duties (xCell b c g j) 0 = if used j then {0} else ∅ := by
  show (match dec (xSem b g j) with | some (_, _, j) => if used j then ({0} : Finset (Fin 3)) else ∅ | none => ∅) = _
  rw [dec_xSem]
theorem duties_later (g : GSem nD τ sig) : ∀ r, 1 ≤ r → (Rd (F := F) ξ).duties g r = ∅ :=
  fun r hr => by dsimp only [Rd]; rw [if_neg fun h => by omega]
theorem duties_unused (h : used j = false) : ∀ r, 0 ≤ r → (Rd (F := F) ξ).duties (xCell b c g j) r = ∅ := by
  intro r _
  rcases Nat.eq_zero_or_pos r with rfl | hr
  · rw [duties_x, h]; rfl
  · exact duties_later ξ _ r hr
theorem amount_bar (d : Fin 3) : (Rd (F := F) ξ).amount (barCell c) 0 d = 1 := rfl
theorem amount_x (d : Fin 3) : (Rd (F := F) ξ).amount (xCell b c g j) 0 d = amt g j := by
  show (match dec (xSem b g j) with | some (_, g, j) => amt g j | none => 1) = _
  rw [dec_xSem]
theorem expect_bar : (Rd (F := F) ξ).expect (barCell c) 0 = 3 := by
  unfold Schedule.expect Schedule.amountOf
  rw [duties_bar, Finset.sum_congr rfl fun d _ => amount_bar ξ c d, Finset.sum_const, Finset.card_univ, Fintype.card_fin, smul_eq_mul]
theorem expect_x (h : used j = true) : (Rd (F := F) ξ).expect (xCell b c g j) 0 = amt g j := by
  unfold Schedule.expect Schedule.amountOf; rw [duties_x, if_pos h, Finset.sum_singleton, amount_x]
theorem payload_bar (d : Fin 3) : (Rd (F := F) ξ).payload (barCell c) 0 d = barPay c d := rfl
theorem payload_s (d : Fin 3) : (Rd (F := F) ξ).payload (sCell c g j) 0 d = sendPay ξ c g j := by
  show (match dec (xSem false g j) with
      | some (false, g', j) => sendPay ξ c g' j
      | some (true, g', j) => recvPay ξ c g' j
      | none => iprop(emp)) = _
  rw [dec_xSem]
theorem payload_r (d : Fin 3) : (Rd (F := F) ξ).payload (rCell c g j) 0 d = recvPay ξ c g j := by
  show (match dec (xSem true g j) with
      | some (false, g', j) => sendPay ξ c g' j
      | some (true, g', j) => recvPay ξ c g' j
      | none => iprop(emp)) = _
  rw [dec_xSem]

theorem rest_bar : bigSep ((Rd (F := F) ξ).duties (barCell c) 0 \ ∅) (fun d => (Rd (F := F) ξ).payload (barCell c) 0 d)
    = iprop(barPay c 0 ∗ barPay c 1 ∗ barPay c 2) := by
  rw [Finset.sdiff_empty, duties_bar, bigSep_univ_eq_bigSepL [0, 1, 2] (by decide) (by decide)]
  rfl
theorem rest_s (h : used j = true) : bigSep ((Rd (F := F) ξ).duties (sCell c g j) 0 \ ∅) (fun d => (Rd (F := F) ξ).payload (sCell c g j) 0 d) = sendPay ξ c g j := by
  rw [Finset.sdiff_empty, duties_x, if_pos h, bigSep_singleton, payload_s]
theorem rest_r (h : used j = true) : bigSep ((Rd (F := F) ξ).duties (rCell c g j) 0 \ ∅) (fun d => (Rd (F := F) ξ).payload (rCell c g j) 0 d) = recvPay ξ c g j := by
  rw [Finset.sdiff_empty, duties_x, if_pos h, bigSep_singleton, payload_r]

end Payloads

/-! ## What is owed, and the levels -/

/-- What a device does for others, in the order of the program: the three signals, then its transfers. -/
abbrev Ev : Type := Fin 3 ⊕ (Fin 3 × Fin 12)
abbrev bar (δ : Fin 3) : Ev := .inl δ
abbrev tx (g : Fin 3) (j : Fin 12) : Ev := .inr (g, j)

/-- The cell an event pays and how much. -/
def evCell (c : Dev nD) : Ev → GSem nD τ sig
  | .inl δ => barCell (pr δ c)
  | .inr (g, j) => rCell (peer g j c) g j
def evAmt : Ev → ℕ
  | .inl _ => 1
  | .inr (g, j) => amt g j
def owedL (c : Dev nD) : List Ev → CellTallies nD τ sig Unit
  | [] => 0
  | p :: l => owedL c l + tallyAt (evCell c p) () (evAmt p)

def evs : List Ev :=
  [bar 0, bar 1, bar 2, tx 0 0, tx 0 1, tx 1 0, tx 1 1, tx 2 0, tx 2 1, tx 0 2, tx 0 3, tx 1 2, tx 1 3, tx 2 2, tx 2 3,
    tx 0 4, tx 1 4, tx 2 4, tx 0 6, tx 0 8, tx 1 6, tx 1 8, tx 2 6, tx 2 8, tx 0 9, tx 0 10, tx 1 9, tx 1 10, tx 2 9, tx 2 10,
    tx 0 11, tx 1 11, tx 2 11]

/-- A receive column's level. -/
def clv (j : Fin 12) : ℕ := match j with
  | 0 | 1 => 2 | 2 | 3 => 3 | 4 => 4 | 6 => 5 | 8 | 9 => 6 | _ => 7
def evLv : Ev → ℕ
  | .inl _ => 1
  | .inr (_, j) => clv j
def smLv : SemLoc sig → ℕ
  | .reg _ => 1
  | .dma q => match dec q with | some (true, _, j) => clv j | _ => 0

def L (g : GSem nD τ sig) : Finset Unit := if g.1.2 = .tc then {()} else ∅
def lv (g : GSem nD τ sig) (_ : Unit) : ℕ := smLv g.2

theorem L_of_ne (g : GSem nD τ sig) (h : g.1.2 ≠ .tc) : L g = ∅ := if_neg h
theorem L_tc (c : Dev nD) (sm : SemLoc sig) : L ((c : Thread nD τ), sm) = {()} := if_pos rfl
theorem smLv_x (b : Bool) (g : Fin 3) (j : Fin 12) : smLv (.dma (xSem b g j)) = if b then clv j else 0 := by
  unfold smLv; dsimp only; rw [dec_xSem]; cases b <;> rfl
theorem lv_ev (c : Dev nD) (p : Ev) (u : Unit) : lv (evCell c p) u = evLv p := by
  match p with
  | .inl δ => rfl
  | .inr (g, j) => exact smLv_x true g j
theorem L_ev (c : Dev nD) (p : Ev) : L (evCell c p) = {()} := by
  match p with
  | .inl δ => rfl
  | .inr (g, j) => rfl

theorem owedL_pos {c : Dev nD} {l : List Ev} {g : GSem nD τ sig} {u : Unit} (h : 0 < owedL c l g u) : ∃ p ∈ l, g = evCell c p := by
  induction l with
  | nil => exact absurd h (Nat.lt_irrefl 0)
  | cons p l ih =>
    unfold owedL at h
    rw [Pi.add_apply, Finsupp.add_apply, tallyAt_apply] at h
    by_cases hp : g = evCell c p ∧ u = ()
    · exact ⟨p, List.mem_cons_self, hp.1⟩
    · rw [if_neg hp, Nat.add_zero] at h
      obtain ⟨p', hp', e⟩ := ih h
      exact ⟨p', List.mem_cons_of_mem _ hp', e⟩

/-- A device may wait on a cell whose level is below everything it owes. -/
theorem mayWait (c : Dev nD) (sm : SemLoc sig) (l : List Ev) (h : ∀ p ∈ l, smLv sm < evLv p) :
    (levAts L lv : sProp 𝕄) ⊢ MayWait (c : Thread nD τ) sm () (owedL c l) :=
  MayOwe.of_cut (L := L) (lev := lv) (smLv sm) (fun p hp => by rw [Finset.mem_singleton.mp hp, L_tc]; exact Finset.mem_singleton_self _)
    (fun g u hg => by obtain ⟨p, -, rfl⟩ := owedL_pos hg; rw [L_ev]; exact Finset.mem_singleton_self _)
    (fun p hp => by rw [Finset.mem_singleton.mp hp]; exact le_refl _)
    (fun g u hg => by obtain ⟨p, hp, rfl⟩ := owedL_pos hg; rw [lv_ev]; exact h p hp)

/-- What device `c` owes, whatever it has waited for. -/
def ow (c : Dev nD) (l : List Ev) : sProp 𝕄 := iprop(∃ W, owes (c : Thread nD τ) (owedL c l) W)

/-! ## The states of a transfer -/

section States
variable (c : Dev nD) (g : Fin 3) (j : Fin 12)

/-- Before the send; in flight; after the wait for its send semaphore; after the wait for its receive semaphore. -/
def trI : sProp 𝕄 := iprop(dutyTok ER (sCell c g j) 0 0 ∗ dutyTok ER (rCell (peer g j c) g j) 0 0
  ∗ atPos ER (sCell c g j) 0 ∅ 0 ∗ atPos ER (rCell c g j) 0 ∅ 0 ∗ cred (tallyAt (rCell c g j) () (amt g j)))
def trF : sProp 𝕄 := iprop(cred (tallyAt (sCell c g j) () (amt g j))
  ∗ atPos ER (sCell c g j) 0 ∅ 0 ∗ atPos ER (rCell c g j) 0 ∅ 0 ∗ cred (tallyAt (rCell c g j) () (amt g j)))
def trW : sProp 𝕄 := iprop(semVal (sCell c g j) 0 ∗ atPos ER (rCell c g j) 0 ∅ 0 ∗ cred (tallyAt (rCell c g j) () (amt g j)))
def trD : sProp 𝕄 := iprop(semVal (sCell c g j) 0 ∗ semVal (rCell c g j) 0)
/-- Before and after a signal; before and after the barrier wait. -/
def bI : sProp 𝕄 := iprop(atPos ER (barCell c) 0 ∅ 0 ∗ cred (tallyAt (barCell c) () 3))
def bD : sProp 𝕄 := semVal (barCell c) 0
end States

/-! ## The cells' records -/

/-- The cells in use: the barrier cell and the transfers' cells. -/
abbrev Kx : Type := Option (Bool × Fin 3 × Fin 12)
abbrev csem : Kx → SemLoc sig | none => .reg barS | some (b, g, j) => .dma (xSem b g j)
abbrev kcell (ck : Dev nD × Kx) : GSem nD τ sig := ((ck.1 : Thread nD τ), csem ck.2)

section Records
variable (ξ : Dev nD → S1x2048x1024.Idx → Elt F .bf16) (K : Dev nD × Kx → ℕ)

/-- Every cell's invariant, that every cell is at its first round, and the levels. -/
def recs : sProp 𝕄 :=
  iprop((bigSep Finset.univ fun ck : Dev nD × Kx => cellInv ER (Rd ξ) (K ck) (kcell ck))
    ∗ (bigSep Finset.univ fun ck : Dev nD × Kx => reached ER (kcell ck) 0) ∗ levAts L lv)

instance recs_persistent : BI.Persistent (recs ξ K) := by unfold recs; infer_instance

theorem recs_inv (ck : Dev nD × Kx) : recs ξ K ⊢ cellInv ER (Rd ξ) (K ck) (kcell ck) :=
  sep_elim_left.trans (bigSep_elim (Finset.mem_univ ck))
theorem recs_reached (ck : Dev nD × Kx) : recs ξ K ⊢ reached ER (kcell ck) 0 :=
  sep_elim_right.trans (sep_elim_left.trans (bigSep_elim (Finset.mem_univ ck)))
theorem recs_lev : recs ξ K ⊢ levAts L lv := by
  unfold recs
  iintro ⟨-, -, H⟩; iexact H

end Records

end Cert.Butterfly

end
-- ==== Proof.Ops.lean ====
/-
# One rule per effect of the kernel

Each lemma takes the blocks and the state of the transfer an effect touches to what they become. The lemmas hold
for every group, column and device; the kernel's offsets come in by their closed forms.
-/
module

public import proofs.«01_k».proof.Proof.Sched

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

abbrev 𝒱₀ : Variants := Variants.none

/-- The program `p` on device `c` with result `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (ξ : Dev nD → S1x2048x1024.Idx → Elt F .bf16) (K : Dev nD × Kx → ℕ) (c : Dev nD)

/-- Device `c`'s staged argument. -/
def xpt : sProp 𝕄 := ((c : Thread nD τ).loc cc0_stg0_0) ↦{fullShare} ξ c

/-- The end of a window. -/
theorem done {α : Type} {Q : α → sProp 𝕄} (a : α) : Q a ⊢ WP c (.ret a) Q := by
  unfold WP
  rw [wp_ret]
  iintro H; imodintro; iexact H

section Ops
/-! ## Loads and stores -/

section Loads
variable {n a : ℕ}

theorem xV_read {off3 : Fin 3 → ℕ} (h : off3 = ![0, a, 0]) {inb} (j : (sh3 n).Idx) :
    (xV off3 n inb).read (Elt F) (ξ c) j = X ξ c (a + (j 1).val) (j 2).val := by
  subst h
  show ξ c _ = ξ c _
  congr 1
  have h1 : a + (j 1).val < 2048 := by have := inb 1; have h' : (j 1).val < n := (j 1).isLt; have : a + n ≤ 2048 := this; omega
  have h2 : (j 2).val < 1024 := (j 2).isLt
  have h0 : (j 0).val < 1 := (j 0).isLt
  funext x
  match x with
  | 0 => exact Fin.ext (show 0 + 1 * (j 0).val = 0 by omega)
  | 1 => exact Fin.ext (show a + 1 * (j 1).val = (a + (j 1).val) % 2048 by rw [Nat.mod_eq_of_lt h1]; omega)
  | 2 => exact Fin.ext (show 0 + 1 * (j 2).val = (j 2).val % 1024 by rw [Nat.mod_eq_of_lt h2]; omega)

theorem ld_x {α : Type} {Q : α → sProp 𝕄} {off3 : Fin 3 → ℕ} (h : off3 = ![0, a, 0]) {inb hl} {k : ((sh3 n).Idx → Elt F .bf16) → Prog (TpuEff nD τ sig (Elt F) Λ₀ .tc) α} :
    iprop(xpt ξ c ∗ (∀ v, ⌜∀ j, v j = X ξ c (a + (j 1).val) (j 2).val⌝ -∗ xpt ξ c -∗ WP c (k v) Q))
      ⊢ WP c (.op (.load xM (Rect.unit (s := S1x2048x1024) off3 (sh3 n).size inb).toLoadRect hl) k) Q := by
  unfold xpt
  iintro ⟨H, Hk⟩
  iapply (wp_load 𝒱₀ (c : Thread nD τ) none Set.univ (m := xM) (Finset.subset_univ _)) $$ H; iintro H
  iapply Hk $$ [] H
  ipureintro
  exact fun j => xV_read ξ c (inb := inb) h j

theorem ld_s {α : Type} {Q : α → sProp 𝕄} {g kS : Fin 3} {off4 : Fin 4 → ℕ} (h : off4 = ![g.val, kS.val, a, 0]) (φ : Cont F) {inb hl}
    {k : ((sh4 n).Idx → Elt F .bf16) → Prog (TpuEff nD τ sig (Elt F) Λ₀ .tc) α} :
    iprop(ptS c g kS a n φ ∗ (∀ v, ⌜∀ j, v j = φ (a + (j 2).val) (j 3).val⌝ -∗ ptS c g kS a n φ -∗ WP c (k v) Q))
      ⊢ WP c (.op (.load sM (Rect.unit (s := S3x3x384x1024) off4 (sh4 n).size inb).toLoadRect hl) k) Q := by
  unfold ptS
  iintro ⟨H, Hk⟩
  iapply (wp_load_rect 𝒱₀ (c : Thread nD τ) none Set.univ (m := sM) (r := Rect.unit (s := S3x3x384x1024) off4 (sh4 n).size inb)
    (S := rowsS g kS a n) (Finset.subset_of_eq (sV_set (inb := inb) h))) $$ H
  iintro H
  iapply Hk $$ [] H
  ipureintro
  exact fun j => sV_read φ (inb := inb) h j

theorem ld_o {α : Type} {Q : α → sProp 𝕄} {off2 : Fin 2 → ℕ} (h : off2 = ![a, 0]) (q : PosShare TreeShare) (φ : Cont F) {inb hl}
    {k : ((sh2 n).Idx → Elt F .bf16) → Prog (TpuEff nD τ sig (Elt F) Λ₀ .tc) α} :
    iprop(ptO c a n q φ ∗ (∀ v, ⌜∀ j, v j = φ (a + (j 0).val) (j 1).val⌝ -∗ ptO c a n q φ -∗ WP c (k v) Q))
      ⊢ WP c (.op (.load oM (Rect.unit (s := S2048x1024) off2 (sh2 n).size inb).toLoadRect hl) k) Q := by
  unfold ptO
  iintro ⟨H, Hk⟩
  iapply (wp_load_rect 𝒱₀ (c : Thread nD τ) none Set.univ (m := oM) (r := Rect.unit (s := S2048x1024) off2 (sh2 n).size inb)
    (S := rowsO a n) (Finset.subset_of_eq (oV_set (inb := inb) h))) $$ H
  iintro H
  iapply Hk $$ [] H
  ipureintro
  exact fun j => oV_read φ (inb := inb) h j

/-- The loads whose value is not used: each store is preceded by one. -/
theorem ld_anyO {α : Type} {Q : α → sProp 𝕄} {off2 : Fin 2 → ℕ} (h : off2 = ![a, 0]) {inb hl} {k : ((sh2 n).Idx → Elt F .bf16) → Prog (TpuEff nD τ sig (Elt F) Λ₀ .tc) α} :
    iprop(anyO c a n ∗ (∀ v, anyO c a n -∗ WP c (k v) Q))
      ⊢ WP c (.op (.load oM (Rect.unit (s := S2048x1024) off2 (sh2 n).size inb).toLoadRect hl) k) Q := by
  unfold anyO
  iintro ⟨⟨%f, H⟩, Hk⟩
  iapply (wp_load_rect 𝒱₀ (c : Thread nD τ) none Set.univ (m := oM) (r := Rect.unit (s := S2048x1024) off2 (sh2 n).size inb)
    (S := rowsO a n) (Finset.subset_of_eq (oV_set (inb := inb) h))) $$ H
  iintro H
  iapply Hk
  iexists f; iexact H

theorem ld_anyZ {α : Type} {Q : α → sProp 𝕄} {off2 : Fin 2 → ℕ} (h : off2 = ![a, 0]) {inb hl} {k : ((sh2 n).Idx → Elt F .bf16) → Prog (TpuEff nD τ sig (Elt F) Λ₀ .tc) α} :
    iprop(anyZ c a n ∗ (∀ v, anyZ c a n -∗ WP c (k v) Q))
      ⊢ WP c (.op (.load zM (Rect.unit (s := S1024x1024) off2 (sh2 n).size inb).toLoadRect hl) k) Q := by
  unfold anyZ
  iintro ⟨⟨%f, H⟩, Hk⟩
  iapply (wp_load_rect 𝒱₀ (c : Thread nD τ) none Set.univ (m := zM) (r := Rect.unit (s := S1024x1024) off2 (sh2 n).size inb)
    (S := rowsZ a n) (Finset.subset_of_eq (zV_set (inb := inb) h))) $$ H
  iintro H
  iapply Hk
  iexists f; iexact H

theorem st_o {α : Type} {Q : α → sProp 𝕄} {off2 : Fin 2 → ℕ} (h : off2 = ![a, 0]) (ψ : Cont F) {inb} {w : (sh2 n).Idx → Elt F .bf16} (hw : ∀ j, w j = ψ (a + (j 0).val) (j 1).val)
    {hx hm} {k : PUnit → Prog (TpuEff nD τ sig (Elt F) Λ₀ .tc) α} :
    iprop(anyO c a n ∗ (ptO c a n fullShare ψ -∗ WP c (k ⟨⟩) Q))
      ⊢ WP c (.op (.store oM (Rect.unit (s := S2048x1024) off2 (sh2 n).size inb) w Finset.univ hx hm) k) Q := by
  unfold anyO ptO
  iintro ⟨⟨%f, H⟩, Hk⟩
  iapply (wp_store 𝒱₀ (c : Thread nD τ) none Set.univ (m := oM) (r := Rect.unit (s := S2048x1024) off2 (sh2 n).size inb)
    (Mk := Finset.univ) (S := rowsO a n) (Finset.subset_of_eq (oV_set (inb := inb) h))) $$ H
  iintro H
  iapply Hk
  iapply (Entails.of_eq (pointsTo_congr (oV_write ψ (inb := inb) h f w hw))); iexact H

theorem st_z {α : Type} {Q : α → sProp 𝕄} {off2 : Fin 2 → ℕ} (h : off2 = ![a, 0]) (ψ : Cont F) {inb} {w : (sh2 n).Idx → Elt F .bf16} (hw : ∀ j, w j = ψ (a + (j 0).val) (j 1).val)
    {hx hm} {k : PUnit → Prog (TpuEff nD τ sig (Elt F) Λ₀ .tc) α} :
    iprop(anyZ c a n ∗ (ptZ c a n ψ -∗ WP c (k ⟨⟩) Q))
      ⊢ WP c (.op (.store zM (Rect.unit (s := S1024x1024) off2 (sh2 n).size inb) w Finset.univ hx hm) k) Q := by
  unfold anyZ ptZ
  iintro ⟨⟨%f, H⟩, Hk⟩
  iapply (wp_store 𝒱₀ (c : Thread nD τ) none Set.univ (m := zM) (r := Rect.unit (s := S1024x1024) off2 (sh2 n).size inb)
    (Mk := Finset.univ) (S := rowsZ a n) (Finset.subset_of_eq (zV_set (inb := inb) h))) $$ H
  iintro H
  iapply Hk
  iapply (Entails.of_eq (pointsTo_congr (zV_write ψ (inb := inb) h f w hw))); iexact H

end Loads

/-! ## The barrier -/

theorem sig_bar {α : Type} {Q : α → sProp 𝕄} (δ : Fin 3) (l : List Ev) {d : Dev nD} (hd : d = pr δ c) {z : ℤ} (hz : z = 1) {k : PUnit → Prog (TpuEff nD τ sig (Elt F) Λ₀ .tc) α} :
    iprop(recs ξ K ∗ dutyTok ER (barCell (pr δ c)) 0 δ ∗ pieces c (pr δ c) δ ∗ ow c (bar δ :: l) ∗ (ow c l -∗ WP c (k ⟨⟩) Q))
      ⊢ WP c (.op (.semSignal (Dev.tc d : Thread nD τ) barS z) k) Q := by
  subst hd hz
  unfold ow
  iintro ⟨#HR, Ht, Hp, ⟨%W, HO⟩, Hk⟩
  iapply (Rounds.wp_signal 𝒱₀ ER (Rd ξ) (c : Thread nD τ) none (dst := (pr δ c : Thread nD τ)) (κ := K (pr δ c, none))
      (d := δ) (by rw [duties_bar]; exact Finset.mem_univ _) (amount_bar ξ (pr δ c) δ) () (owedL c l) rfl) $$ [HO Ht Hp]
  · isplitr; · iapply (recs_inv ξ K (pr δ c, none)); iexact HR
    isplitl [HO]; · iexact HO
    isplitl [Ht]; · iexact Ht
    isplitl [Hp]
    · rw [payload_bar]; unfold barPay; rw [pr_pr]; iexact Hp
    iapply (recs_reached ξ K (pr δ c, none)); iexact HR
  iintro HO
  iapply Hk
  iexists W; iexact HO

theorem wait_bar {α : Type} {Q : α → sProp 𝕄} (l : List Ev) (hl : ∀ p ∈ l, 1 < evLv p) {z : ℕ} (hz : z = 3) {k : PUnit → Prog (TpuEff nD τ sig (Elt F) Λ₀ .tc) α} :
    iprop(recs ξ K ∗ bI c ∗ ow c l ∗ (bD c -∗ ow c l -∗ (barPay c 0 ∗ barPay c 1 ∗ barPay c 2) -∗ WP c (k ⟨⟩) Q))
      ⊢ WP c (.op (.semWait barS z) k) Q := by
  subst hz
  unfold ow bI bD
  iintro ⟨#HR, ⟨Hat, Hc⟩, ⟨%W, HO⟩, Hk⟩
  iapply (Rounds.wp_wait_rest_token 𝒱₀ ER (Rd ξ) (c : Thread nD τ) none (κ := K (c, none))
      (wpE_semWait_eq 𝒱₀ (c : Thread nD τ) none Set.univ) (Set.mem_univ _) () (O := owedL c l) (W := W) (R := 0) (m := 0) (T := ∅)
      (by rw [expect_bar])) $$ [Hc HO Hat]
  · isplitr; · iapply (recs_inv ξ K (c, none)); iexact HR
    isplitl [Hc]; · iexact Hc
    isplitl [HO]; · iexact HO
    isplitr; · iapply (mayWait c (.reg barS) l hl); iapply (recs_lev ξ K); iexact HR
    iexact Hat
  iintro ⟨HO, Hat, -, Hpay⟩
  ihave Hp := (Entails.of_eq (rest_bar ξ c)) $$ Hpay
  imod (Rounds.cell_close ER (Rd ξ) (Set.mem_univ (K (c, none))) (fun h => h) (R := 0 + 1) (duties_later ξ (barCell c))) $$ [Hat] with Hz
  · isplitr; · iapply (recs_inv ξ K (c, none)); iexact HR
    iexact Hat
  iapply Hk $$ Hz [HO] Hp
  iexists _; iexact HO

/-! ## The waits for transfers -/

section Waits
variable {g : Fin 3} {j : Fin 12} {l : List Ev} {sp sp' : Space} {s s' : Shape} {e e' : EltTy} {κ' : Kind}
  {src : Memref sig .tc sp' s' e'} {dst : Memref sig κ' sp s e} {hsrc : src.view.WordExact} {hdst : dst.view.WordExact}

theorem wait_s {α : Type} {Q : α → sProp 𝕄} {k : PUnit → Prog (TpuEff nD τ sig (Elt F) Λ₀ .tc) α}
     (hu : used j = true) {q : DmaSem sig} (hq : q = xSem false g j) (hl : ∀ p ∈ l, 0 < evLv p) (hk : dst.view.dmaCredit = amt g j) :
    iprop(recs ξ K ∗ trF c g j ∗ ow c l ∗ (trW c g j -∗ ow c l -∗ sendPay ξ c g j -∗ WP c (k ⟨⟩) Q))
      ⊢ WP c (.op (.waitDma2 q src dst hsrc hdst) k) Q := by
  subst hq
  unfold ow trF trW
  iintro ⟨#HR, ⟨Hc, Hat, HatR, HcR⟩, ⟨%W, HO⟩, Hk⟩
  iapply (Rounds.wp_wait_rest_token 𝒱₀ ER (Rd ξ) (c : Thread nD τ) none (κ := K (c, some (false, g, j)))
      (wpE_waitDma2_eq 𝒱₀ (c : Thread nD τ) none Set.univ) (Set.mem_univ _) () (O := owedL c l) (W := W) (R := 0) (m := 0) (T := ∅)
      (by rw [Nat.zero_add, hk]; exact (expect_x ξ c false g j hu).symm)) $$ [Hc HO Hat]
  · isplitr; · iapply (recs_inv ξ K (c, some (false, g, j))); iexact HR
    isplitl [Hc]; · rw [hk]; iexact Hc
    isplitl [HO]; · iexact HO
    isplitr
    · iapply (mayWait c (.dma (xSem false g j)) l (by rw [smLv_x]; exact hl)); iapply (recs_lev ξ K); iexact HR
    iexact Hat
  iintro ⟨HO, Hat, -, Hpay⟩
  ihave Hp := (Entails.of_eq (rest_s ξ c g j hu)) $$ Hpay
  imod (Rounds.cell_close ER (Rd ξ) (Set.mem_univ (K (c, some (false, g, j)))) (fun h => h) (R := 0 + 1) (duties_later ξ (sCell c g j))) $$ [Hat] with Hz
  · isplitr; · iapply (recs_inv ξ K (c, some (false, g, j))); iexact HR
    iexact Hat
  iapply Hk $$ [Hz HatR HcR] [HO] Hp
  · isplitl [Hz]; · iexact Hz
    isplitl [HatR] <;> iassumption
  · iexists _; iexact HO

theorem wait_r {α : Type} {Q : α → sProp 𝕄} {k : PUnit → Prog (TpuEff nD τ sig (Elt F) Λ₀ .tc) α}
     (hu : used j = true) {q : DmaSem sig} (hq : q = xSem true g j) (hl : ∀ p ∈ l, clv j < evLv p) (hk : dst.view.dmaCredit = amt g j) :
    iprop(recs ξ K ∗ trW c g j ∗ ow c l ∗ (trD c g j -∗ ow c l -∗ recvPay ξ c g j -∗ WP c (k ⟨⟩) Q))
      ⊢ WP c (.op (.waitDma2 q src dst hsrc hdst) k) Q := by
  subst hq
  unfold ow trW trD
  iintro ⟨#HR, ⟨HzS, Hat, Hc⟩, ⟨%W, HO⟩, Hk⟩
  iapply (Rounds.wp_wait_rest_token 𝒱₀ ER (Rd ξ) (c : Thread nD τ) none (κ := K (c, some (true, g, j)))
      (wpE_waitDma2_eq 𝒱₀ (c : Thread nD τ) none Set.univ) (Set.mem_univ _) () (O := owedL c l) (W := W) (R := 0) (m := 0) (T := ∅)
      (by rw [Nat.zero_add, hk]; exact (expect_x ξ c true g j hu).symm)) $$ [Hc HO Hat]
  · isplitr; · iapply (recs_inv ξ K (c, some (true, g, j))); iexact HR
    isplitl [Hc]; · rw [hk]; iexact Hc
    isplitl [HO]; · iexact HO
    isplitr
    · iapply (mayWait c (.dma (xSem true g j)) l (by rw [smLv_x]; exact hl)); iapply (recs_lev ξ K); iexact HR
    iexact Hat
  iintro ⟨HO, Hat, -, Hpay⟩
  ihave Hp := (Entails.of_eq (rest_r ξ c g j hu)) $$ Hpay
  imod (Rounds.cell_close ER (Rd ξ) (Set.mem_univ (K (c, some (true, g, j)))) (fun h => h) (R := 0 + 1) (duties_later ξ (rCell c g j))) $$ [Hat] with Hz
  · isplitr; · iapply (recs_inv ξ K (c, some (true, g, j))); iexact HR
    iexact Hat
  iapply Hk $$ [HzS Hz] [HO] Hp
  · isplitl [HzS] <;> iassumption
  · iexists _; iexact HO

end Waits

/-! ## The sends -/

section Sends
variable (g : Fin 3) (j : Fin 12) (hu : used j = true) (l : List Ev) {n : ℕ} (hn : n = nr g j) {d : Dev nD} (hd : d = peer g j c)
  {qS qR : DmaSem sig} (hS : qS = xSem false g j) (hR : qR = xSem true g j) {a b : ℕ} {φ ψ : Cont F}

include hu hn hd hS hR

/-- From the first copy buffer into the peer's slot; the source comes back by the send semaphore. -/
theorem send_zs {α : Type} {Q : α → sProp 𝕄} {k : PUnit → Prog (TpuEff nD τ sig (Elt F) Λ₀ .tc) α}
     {offz : Fin 2 → ℕ} {offs : Fin 4 → ℕ} {kS : Fin 3} (hz : offz = ![a, 0]) (hs : offs = ![g.val, kS.val, b, 0])
    (h1 : sendPay ξ c g j = ptZ c a (nr g j) φ) (h2 : recvPay ξ (peer g j c) g j = ptS (peer g j c) g kS b (nr g j) ψ)
    (hc : ∀ r k, φ (a + r) k = ψ (b + r) k) {inbz inbs hz' hs' sq hsc hsrc hdst hsem} :
    iprop(recs ξ K ∗ trI c g j ∗ ptZ c a (nr g j) φ ∗ anyS (peer g j c) g kS b (nr g j) ∗ ow c (tx g j :: l)
        ∗ (trF c g j -∗ ow c l -∗ WP c (k ⟨⟩) Q))
      ⊢ WP c (.op (.enqueueDma (zM.slice (Rect.unit (s := S1024x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q := by
  subst hn hd hS hR
  unfold ow trI trF ptZ anyS
  iintro ⟨#HR, ⟨HtS, HtR, HaS, HaR, HcR⟩, Hz, ⟨%fd, Hs⟩, ⟨%W, HO⟩, Hk⟩
  have eZ : (zV offz (nr g j) inbz).set = rowsZ a (nr g j) := zV_set hz
  have eS : (sqV offs (nr g j) inbs sq.numel_eq).set = rowsS g kS b (nr g j) := sqV_set hs
  iapply (Rounds.wp_send_pointsTo 𝒱₀ ER (Rd ξ) (c : Thread nD τ) none (κ₁ := K (c, some (false, g, j))) (κ₂ := K (peer g j c, some (true, g, j)))
      (q := fullShare) (fs := cZ φ) (r₁ := 0) (r₂ := 0) (d₁ := 0) (d₂ := 0) (fd := fd)
      (by rw [duties_x, if_pos hu]; exact Finset.mem_singleton_self _) (by rw [duties_x, if_pos hu]; exact Finset.mem_singleton_self _)
      () () (amt g j) rfl (amount_x ξ c false g j 0) (amount_x ξ (peer g j c) true g j 0) (owedL c l) rfl (W := W)
      (by rw [payload_s, h1]; unfold ptZ; exact Entails.of_eq (congrArg (fun S => (lZ c ↦[S]{fullShare} cZ φ : sProp 𝕄)) eZ))
      (by
        rw [payload_r, h2]; unfold ptS
        refine (Entails.of_eq (congrArg (fun S => (lS (peer g j c) ↦[S]{fullShare} _ : sProp 𝕄)) eS)).trans ?_
        exact Entails.of_eq (pointsTo_congr (sqV_write ψ (inb := inbs) (hn := sq.numel_eq) hs fd _
          (fun i => (zV_read φ (inb := inbz) hz i).trans (hc _ _)))))) $$ [Hz Hs HO HtS HtR]
  · isplitr; · iapply (recs_inv ξ K (c, some (false, g, j))); iexact HR
    isplitr; · iapply (recs_inv ξ K (peer g j c, some (true, g, j))); iexact HR
    isplitl [Hz]; · iapply (Entails.of_eq (congrArg (fun S => (lZ c ↦[S]{fullShare} cZ φ : sProp 𝕄)) eZ.symm)); iexact Hz
    isplitl [Hs]; · iapply (Entails.of_eq (congrArg (fun S => (lS (peer g j c) ↦[S]{fullShare} fd : sProp 𝕄)) eS.symm)); iexact Hs
    isplitl [HO]; · iexact HO
    isplitl [HtS]; · iexact HtS
    isplitr; · iapply (recs_reached ξ K (c, some (false, g, j))); iexact HR
    isplitl [HtR]; · iexact HtR
    iapply (recs_reached ξ K (peer g j c, some (true, g, j))); iexact HR
  iintro ⟨Hc, HO⟩
  iapply Hk $$ [Hc HaS HaR HcR] [HO]
  · isplitl [Hc]; · iexact Hc
    isplitl [HaS]; · iexact HaS
    isplitl [HaR] <;> iassumption
  · iexists _; iexact HO

/-- From the result into the peer's slot; the source goes along with the landing. -/
theorem send_os {α : Type} {Q : α → sProp 𝕄} {k : PUnit → Prog (TpuEff nD τ sig (Elt F) Λ₀ .tc) α}
    {offz : Fin 2 → ℕ} {offs : Fin 4 → ℕ} {kS : Fin 3} (hz : offz = ![a, 0]) (hs : offs = ![g.val, kS.val, b, 0])
    (h1 : sendPay ξ c g j = iprop(emp))
    (h2 : recvPay ξ (peer g j c) g j = iprop(ptS (peer g j c) g kS b (nr g j) ψ ∗ anyO c a (nr g j)))
    (hc : ∀ r k, φ (a + r) k = ψ (b + r) k) {inbz inbs hz' hs' sq hsc hsrc hdst hsem} :
    iprop(recs ξ K ∗ trI c g j ∗ ptO c a (nr g j) fullShare φ ∗ anyS (peer g j c) g kS b (nr g j) ∗ ow c (tx g j :: l)
        ∗ (trF c g j -∗ ow c l -∗ WP c (k ⟨⟩) Q))
      ⊢ WP c (.op (.enqueueDma (oM.slice (Rect.unit (s := S2048x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q := by
  subst hn hd hS hR
  unfold ow trI trF ptO anyS
  iintro ⟨#HR, ⟨HtS, HtR, HaS, HaR, HcR⟩, Hz, ⟨%fd, Hs⟩, ⟨%W, HO⟩, Hk⟩
  have eZ : (oV offz (nr g j) inbz).set = rowsO a (nr g j) := oV_set hz
  have eS : (sqV offs (nr g j) inbs sq.numel_eq).set = rowsS g kS b (nr g j) := sqV_set hs
  iapply (Rounds.wp_send_landing_pointsTo 𝒱₀ ER (Rd ξ) (c : Thread nD τ) none (κ₁ := K (c, some (false, g, j))) (κ₂ := K (peer g j c, some (true, g, j)))
      (q := fullShare) (fs := cO φ) (r₁ := 0) (r₂ := 0) (d₁ := 0) (d₂ := 0) (fd := fd)
      (by rw [duties_x, if_pos hu]; exact Finset.mem_singleton_self _) (by rw [duties_x, if_pos hu]; exact Finset.mem_singleton_self _)
      () () (amt g j) rfl (amount_x ξ c false g j 0) (amount_x ξ (peer g j c) true g j 0) (owedL c l) rfl (W := W)
      (by rw [payload_s, h1])
      (by
        rw [payload_r, h2]; unfold ptS anyO
        refine BIClass.sep_mono ?_ ?_
        · refine (Entails.of_eq (congrArg (fun S => (lS (peer g j c) ↦[S]{fullShare} _ : sProp 𝕄)) eS)).trans ?_
          exact Entails.of_eq (pointsTo_congr (sqV_write ψ (inb := inbs) (hn := sq.numel_eq) hs fd _
            (fun i => (oV_read φ (inb := inbz) hz i).trans (hc _ _))))
        · refine (Entails.of_eq (congrArg (fun S => (lO c ↦[S]{fullShare} cO φ : sProp 𝕄)) eZ)).trans ?_
          iintro H; iexists _; iexact H)) $$ [Hz Hs HO HtS HtR]
  · isplitr; · iapply (recs_inv ξ K (c, some (false, g, j))); iexact HR
    isplitr; · iapply (recs_inv ξ K (peer g j c, some (true, g, j))); iexact HR
    isplitl [Hz]; · iapply (Entails.of_eq (congrArg (fun S => (lO c ↦[S]{fullShare} cO φ : sProp 𝕄)) eZ.symm)); iexact Hz
    isplitl [Hs]; · iapply (Entails.of_eq (congrArg (fun S => (lS (peer g j c) ↦[S]{fullShare} fd : sProp 𝕄)) eS.symm)); iexact Hs
    isplitl [HO]; · iexact HO
    isplitl [HtS]; · iexact HtS
    isplitr; · iapply (recs_reached ξ K (c, some (false, g, j))); iexact HR
    isplitl [HtR]; · iexact HtR
    iapply (recs_reached ξ K (peer g j c, some (true, g, j))); iexact HR
  iintro ⟨Hc, HO⟩
  iapply Hk $$ [Hc HaS HaR HcR] [HO]
  · isplitl [Hc]; · iexact Hc
    isplitl [HaS]; · iexact HaS
    isplitl [HaR] <;> iassumption
  · iexists _; iexact HO

/-- From the result into the same rows of the peer's result; the source's share comes back by the send semaphore. -/
theorem send_oo {α : Type} {Q : α → sProp 𝕄} {k : PUnit → Prog (TpuEff nD τ sig (Elt F) Λ₀ .tc) α}
    {offz : Fin 2 → ℕ} (q : PosShare TreeShare) (hz : offz = ![a, 0])
    (h1 : sendPay ξ c g j = ptO c a (nr g j) q φ) (h2 : recvPay ξ (peer g j c) g j = ptO (peer g j c) a (nr g j) fullShare φ)
    {inbz inbs hz' hs' hsc hsrc hdst hsem} :
    iprop(recs ξ K ∗ trI c g j ∗ ptO c a (nr g j) q φ ∗ anyO (peer g j c) a (nr g j) ∗ ow c (tx g j :: l)
        ∗ (trF c g j -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q := by
  subst hn hd hS hR
  unfold ow trI trF ptO anyO
  iintro ⟨#HR, ⟨HtS, HtR, HaS, HaR, HcR⟩, Hz, ⟨%fd, Hs⟩, ⟨%W, HO⟩, Hk⟩
  have eZ : (oV offz (nr g j) inbz).set = rowsO a (nr g j) := oV_set hz
  iapply (Rounds.wp_send_pointsTo 𝒱₀ ER (Rd ξ) (c : Thread nD τ) none (κ₁ := K (c, some (false, g, j))) (κ₂ := K (peer g j c, some (true, g, j)))
      (q := q) (fs := cO φ) (r₁ := 0) (r₂ := 0) (d₁ := 0) (d₂ := 0) (fd := fd)
      (by rw [duties_x, if_pos hu]; exact Finset.mem_singleton_self _) (by rw [duties_x, if_pos hu]; exact Finset.mem_singleton_self _)
      () () (amt g j) rfl (amount_x ξ c false g j 0) (amount_x ξ (peer g j c) true g j 0) (owedL c l) rfl (W := W)
      (by rw [payload_s, h1]; unfold ptO; exact Entails.of_eq (congrArg (fun S => (lO c ↦[S]{q} cO φ : sProp 𝕄)) eZ))
      (by
        rw [payload_r, h2]; unfold ptO
        refine (Entails.of_eq (congrArg (fun S => (lO (peer g j c) ↦[S]{fullShare} _ : sProp 𝕄)) eZ)).trans ?_
        exact Entails.of_eq (pointsTo_congr (oV_write φ (inb := inbs) hz fd _ (fun i => oV_read φ (inb := inbz) hz i))))) $$ [Hz Hs HO HtS HtR]
  · isplitr; · iapply (recs_inv ξ K (c, some (false, g, j))); iexact HR
    isplitr; · iapply (recs_inv ξ K (peer g j c, some (true, g, j))); iexact HR
    isplitl [Hz]; · iapply (Entails.of_eq (congrArg (fun S => (lO c ↦[S]{q} cO φ : sProp 𝕄)) eZ.symm)); iexact Hz
    isplitl [Hs]; · iapply (Entails.of_eq (congrArg (fun S => (lO (peer g j c) ↦[S]{fullShare} fd : sProp 𝕄)) eZ.symm)); iexact Hs
    isplitl [HO]; · iexact HO
    isplitl [HtS]; · iexact HtS
    isplitr; · iapply (recs_reached ξ K (c, some (false, g, j))); iexact HR
    isplitl [HtR]; · iexact HtR
    iapply (recs_reached ξ K (peer g j c, some (true, g, j))); iexact HR
  iintro ⟨Hc, HO⟩
  iapply Hk $$ [Hc HaS HaR HcR] [HO]
  · isplitl [Hc]; · iexact Hc
    isplitl [HaS]; · iexact HaS
    isplitl [HaR] <;> iassumption
  · iexists _; iexact HO

end Sends

end Ops

end Cert.Butterfly

end
-- ==== Proof.Moves.lean ====
/-
# The moves of one group

What each transfer sends and where it lands, in the terms of the sending device (`sSrc`, `sDst`), one rule for every
transfer over these, how the blocks received and given back recombine into the blocks sent next, and the values of
the sums.
-/
module

public import proofs.«01_k».proof.Proof.Ops

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD) (g : Fin 3)

/-- The block a transfer reads, -/
def sSrc (j : Fin 12) : sProp 𝕄 := match j with
  | 0 => ptZ c (zs g + (1 - bb g 1 c) * sz g 1) (sz g 1) (ZC ξ g c)
  | 1 => ptZ c (zs g + bb g 1 c * sz g 1) (sz g 1) (ZC ξ g c)
  | 2 => ptO c (rv1 g c + (1 - bb g 2 c) * sz g 2) (sz g 2) fullShare (A0 ξ g c)
  | 3 => ptO c (rv1 g c + bb g 2 c * sz g 2) (sz g 2) fullShare (A0 ξ g c)
  | 4 => ptO c (rv0 g c) (sz g 2) fullShare (A1 ξ g c)
  | 6 => ptO c (kp2 g c) (sz g 2) fullShare.left (FIN ξ)
  | 8 => ptO c (kp2 g c) (sz g 2) fullShare.right (FIN ξ)
  | 9 => ptO c (rv0 g c) (sz g 2) fullShare.right (FIN ξ)
  | 10 => ptO c (kp1 g c) (sz g 1) fullShare.left (FIN ξ)
  | 11 => ptO c (rv1 g c) (sz g 1) fullShare (FIN ξ)
  | _ => iprop(emp)
/-- and the peer's block it overwrites. -/
def sDst (j : Fin 12) : sProp 𝕄 := match j with
  | 0 => anyS (px g 0 c) g 0 ((1 - bb g 1 c) * sz g 1) (sz g 1)
  | 1 => anyS (px g 0 c) g 0 (bb g 1 c * sz g 1) (sz g 1)
  | 2 => anyS (px g 1 c) g 1 ((1 - bb g 2 c) * sz g 2) (sz g 2)
  | 3 => anyS (px g 1 c) g 1 (bb g 2 c * sz g 2) (sz g 2)
  | 4 => anyS (px g 2 c) g 2 0 (sz g 2)
  | 6 => anyO (px g 2 c) (kp2 g c) (sz g 2)
  | 8 => anyO (px g 1 c) (kp2 g c) (sz g 2)
  | 9 => anyO (px g 1 c) (rv0 g c) (sz g 2)
  | 10 => anyO (px g 0 c) (kp1 g c) (sz g 1)
  | 11 => anyO (px g 0 c) (rv1 g c) (sz g 1)
  | _ => iprop(emp)

/-! ## The sends, column by column -/

section Sends
variable (l : List Ev) {n : ℕ} {d : Dev nD} {qS qR : DmaSem sig} {offz : Fin 2 → ℕ} {offs : Fin 4 → ℕ}

theorem pay_r0 : recvPay ξ (px g 0 c) g 0 = ptS (px g 0 c) g 0 ((1 - bb g 1 c) * sz g 1) (sz g 1) (SG0 ξ g (px g 0 c)) := by
  show ptS _ _ _ _ _ _ = _; rw [bb1_px0]
theorem pay_r1 : recvPay ξ (px g 0 c) g 1 = ptS (px g 0 c) g 0 (bb g 1 c * sz g 1) (sz g 1) (SG0 ξ g (px g 0 c)) := by
  show ptS _ _ _ _ _ _ = _; rw [bb1_px0]
theorem rv0_px1 : rv0 g (px g 1 c) = rv1 g c + (1 - bb g 2 c) * sz g 2 := by unfold rv0; rw [kp1_px1, bb2_px1]
theorem kp2_px1 : kp2 g (px g 1 c) = rv1 g c + bb g 2 c * sz g 2 := by unfold kp2; rw [kp1_px1, bb2_px1]
theorem pay_r2 : recvPay ξ (px g 1 c) g 2 = iprop(ptS (px g 1 c) g 1 ((1 - bb g 2 c) * sz g 2) (sz g 2) (SG1 ξ g (px g 1 c))
    ∗ anyO c (rv1 g c + (1 - bb g 2 c) * sz g 2) (sz g 2)) := by
  show iprop(ptS _ _ _ _ _ _ ∗ anyO _ _ _) = _; rw [bb2_px1, px_px, rv0_px1]
theorem pay_r3 : recvPay ξ (px g 1 c) g 3 = iprop(ptS (px g 1 c) g 1 (bb g 2 c * sz g 2) (sz g 2) (SG1 ξ g (px g 1 c))
    ∗ anyO c (rv1 g c + bb g 2 c * sz g 2) (sz g 2)) := by
  show iprop(ptS _ _ _ _ _ _ ∗ anyO _ _ _) = _; rw [bb2_px1, px_px, kp2_px1]
theorem pay_r4 : recvPay ξ (px g 2 c) g 4 = iprop(ptS (px g 2 c) g 2 0 (sz g 2) (SG2 ξ g (px g 2 c)) ∗ anyO c (rv0 g c) (sz g 2)) := by
  show iprop(ptS _ _ _ _ _ _ ∗ anyO _ _ _) = _; rw [px_px, kp2_px2]
theorem pay_r6 : recvPay ξ (px g 2 c) g 6 = ptO (px g 2 c) (kp2 g c) (sz g 2) fullShare (FIN ξ) := by
  show ptO _ _ _ _ _ = _; rw [rv0_px2]
theorem pay_r8 : recvPay ξ (px g 1 c) g 8 = ptO (px g 1 c) (kp2 g c) (sz g 2) fullShare (FIN ξ) := by
  show ptO _ _ _ _ _ = _; rw [px_px]
theorem pay_r9 : recvPay ξ (px g 1 c) g 9 = ptO (px g 1 c) (rv0 g c) (sz g 2) fullShare (FIN ξ) := by
  show ptO _ _ _ _ _ = _; rw [px_px]
theorem pay_r10 : recvPay ξ (px g 0 c) g 10 = ptO (px g 0 c) (kp1 g c) (sz g 1) fullShare (FIN ξ) := by
  show ptO _ _ _ _ _ = _; rw [px_px]
theorem pay_r11 : recvPay ξ (px g 0 c) g 11 = ptO (px g 0 c) (rv1 g c) (sz g 1) fullShare (FIN ξ) := by
  show ptO _ _ _ _ _ = _; rw [px_px]

theorem cont0 (b r k : ℕ) : ZC ξ g c (zs g + b + r) k = SG0 ξ g (px g 0 c) (b + r) k := by
  unfold ZC SG0; rw [px_px, kp0_px0]
  congr 1; omega
theorem cont1 (b r k : ℕ) : A0 ξ g c (rv1 g c + b + r) k = SG1 ξ g (px g 1 c) (b + r) k := by
  unfold SG1; rw [px_px, kp1_px1, Nat.add_assoc]
theorem cont2 (r k : ℕ) : A1 ξ g c (rv0 g c + r) k = SG2 ξ g (px g 2 c) (0 + r) k := by
  unfold SG2; rw [px_px, kp2_px2, Nat.zero_add]

theorem send0 {α : Type} {Q : α → sProp 𝕄} {k : PUnit → Prog (TpuEff nD τ sig (Elt F) Λ₀ .tc) α}
    (hn : n = nr g 0) (hd : d = px g 0 c) (hS : qS = xSem false g 0) (hR : qR = xSem true g 0)
    (hz : offz = ![zs g + (1 - bb g 1 c) * sz g 1, 0]) (hs : offs = ![g.val, 0, (1 - bb g 1 c) * sz g 1, 0])
    {inbz inbs hz' hs' sq hsc hsrc hdst hsem} :
    iprop(recs ξ K ∗ trI c g 0 ∗ sSrc ξ c g 0 ∗ sDst c g 0 ∗ ow c (tx g 0 :: l) ∗ (trF c g 0 -∗ ow c l -∗ WP c (k ⟨⟩) Q))
      ⊢ WP c (.op (.enqueueDma (zM.slice (Rect.unit (s := S1024x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q :=
  send_zs ξ K c g 0 rfl l hn hd hS hR (kS := 0) (a := zs g + (1 - bb g 1 c) * sz g 1) (b := (1 - bb g 1 c) * sz g 1) (φ := ZC ξ g c) (ψ := SG0 ξ g (px g 0 c))
    hz hs rfl (pay_r0 ξ c g) (fun r k => cont0 ξ c g _ r k)

theorem send1 {α : Type} {Q : α → sProp 𝕄} {k : PUnit → Prog (TpuEff nD τ sig (Elt F) Λ₀ .tc) α}
    (hn : n = nr g 1) (hd : d = px g 0 c) (hS : qS = xSem false g 1) (hR : qR = xSem true g 1)
    (hz : offz = ![zs g + bb g 1 c * sz g 1, 0]) (hs : offs = ![g.val, 0, bb g 1 c * sz g 1, 0])
    {inbz inbs hz' hs' sq hsc hsrc hdst hsem} :
    iprop(recs ξ K ∗ trI c g 1 ∗ sSrc ξ c g 1 ∗ sDst c g 1 ∗ ow c (tx g 1 :: l) ∗ (trF c g 1 -∗ ow c l -∗ WP c (k ⟨⟩) Q))
      ⊢ WP c (.op (.enqueueDma (zM.slice (Rect.unit (s := S1024x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q :=
  send_zs ξ K c g 1 rfl l hn hd hS hR (kS := 0) (a := zs g + bb g 1 c * sz g 1) (b := bb g 1 c * sz g 1) (φ := ZC ξ g c) (ψ := SG0 ξ g (px g 0 c))
    hz hs rfl (pay_r1 ξ c g) (fun r k => cont0 ξ c g _ r k)

theorem send2 {α : Type} {Q : α → sProp 𝕄} {k : PUnit → Prog (TpuEff nD τ sig (Elt F) Λ₀ .tc) α}
    (hn : n = nr g 2) (hd : d = px g 1 c) (hS : qS = xSem false g 2) (hR : qR = xSem true g 2)
    (hz : offz = ![rv1 g c + (1 - bb g 2 c) * sz g 2, 0]) (hs : offs = ![g.val, 1, (1 - bb g 2 c) * sz g 2, 0])
    {inbz inbs hz' hs' sq hsc hsrc hdst hsem} :
    iprop(recs ξ K ∗ trI c g 2 ∗ sSrc ξ c g 2 ∗ sDst c g 2 ∗ ow c (tx g 2 :: l) ∗ (trF c g 2 -∗ ow c l -∗ WP c (k ⟨⟩) Q))
      ⊢ WP c (.op (.enqueueDma (oM.slice (Rect.unit (s := S2048x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q :=
  send_os ξ K c g 2 rfl l hn hd hS hR (kS := 1) (a := rv1 g c + (1 - bb g 2 c) * sz g 2) (b := (1 - bb g 2 c) * sz g 2) (φ := A0 ξ g c) (ψ := SG1 ξ g (px g 1 c))
    hz hs rfl (pay_r2 ξ c g) (fun r k => cont1 ξ c g _ r k)

theorem send3 {α : Type} {Q : α → sProp 𝕄} {k : PUnit → Prog (TpuEff nD τ sig (Elt F) Λ₀ .tc) α}
    (hn : n = nr g 3) (hd : d = px g 1 c) (hS : qS = xSem false g 3) (hR : qR = xSem true g 3)
    (hz : offz = ![rv1 g c + bb g 2 c * sz g 2, 0]) (hs : offs = ![g.val, 1, bb g 2 c * sz g 2, 0])
    {inbz inbs hz' hs' sq hsc hsrc hdst hsem} :
    iprop(recs ξ K ∗ trI c g 3 ∗ sSrc ξ c g 3 ∗ sDst c g 3 ∗ ow c (tx g 3 :: l) ∗ (trF c g 3 -∗ ow c l -∗ WP c (k ⟨⟩) Q))
      ⊢ WP c (.op (.enqueueDma (oM.slice (Rect.unit (s := S2048x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q :=
  send_os ξ K c g 3 rfl l hn hd hS hR (kS := 1) (a := rv1 g c + bb g 2 c * sz g 2) (b := bb g 2 c * sz g 2) (φ := A0 ξ g c) (ψ := SG1 ξ g (px g 1 c))
    hz hs rfl (pay_r3 ξ c g) (fun r k => cont1 ξ c g _ r k)

theorem send4 {α : Type} {Q : α → sProp 𝕄} {k : PUnit → Prog (TpuEff nD τ sig (Elt F) Λ₀ .tc) α}
    (hn : n = nr g 4) (hd : d = px g 2 c) (hS : qS = xSem false g 4) (hR : qR = xSem true g 4)
    (hz : offz = ![rv0 g c, 0]) (hs : offs = ![g.val, 2, 0, 0])
    {inbz inbs hz' hs' sq hsc hsrc hdst hsem} :
    iprop(recs ξ K ∗ trI c g 4 ∗ sSrc ξ c g 4 ∗ sDst c g 4 ∗ ow c (tx g 4 :: l) ∗ (trF c g 4 -∗ ow c l -∗ WP c (k ⟨⟩) Q))
      ⊢ WP c (.op (.enqueueDma (oM.slice (Rect.unit (s := S2048x1024) offz (sh2 n).size inbz) hz')
          (.remote (Dev.tc d : Thread nD τ) ((sM.slice (Rect.unit (s := S3x3x384x1024) offs (sh4 n).size inbs) hs').squeeze (sh2 n) sq) (.dma qS) hsc)
          (.dma qR) hsrc hdst hsem) k) Q :=
  send_os ξ K c g 4 rfl l hn hd hS hR (kS := 2) (a := rv0 g c) (b := 0) (φ := A1 ξ g c) (ψ := SG2 ξ g (px g 2 c))
    hz hs rfl (pay_r4 ξ c g) (fun r k => cont2 ξ c g r k)

theorem send6 {α : Type} {Q : α → sProp 𝕄} {k : PUnit → Prog (TpuEff nD τ sig (Elt F) Λ₀ .tc) α}
    (hn : n = nr g 6) (hd : d = px g 2 c) (hS : qS = xSem false g 6) (hR : qR = xSem true g 6)
    (hz : offz = ![kp2 g c, 0]) {inbz inbs hz' hs' hsc hsrc hdst hsem} :
    iprop(recs ξ K ∗ trI c g 6 ∗ sSrc ξ c g 6 ∗ sDst c g 6 ∗ ow c (tx g 6 :: l) ∗ (trF c g 6 -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q :=
  send_oo ξ K c g 6 rfl l hn hd hS hR (a := kp2 g c) (φ := FIN ξ) fullShare.left hz rfl (pay_r6 ξ c g)
theorem send8 {α : Type} {Q : α → sProp 𝕄} {k : PUnit → Prog (TpuEff nD τ sig (Elt F) Λ₀ .tc) α}
    (hn : n = nr g 8) (hd : d = px g 1 c) (hS : qS = xSem false g 8) (hR : qR = xSem true g 8)
    (hz : offz = ![kp2 g c, 0]) {inbz inbs hz' hs' hsc hsrc hdst hsem} :
    iprop(recs ξ K ∗ trI c g 8 ∗ sSrc ξ c g 8 ∗ sDst c g 8 ∗ ow c (tx g 8 :: l) ∗ (trF c g 8 -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q :=
  send_oo ξ K c g 8 rfl l hn hd hS hR (a := kp2 g c) (φ := FIN ξ) fullShare.right hz rfl (pay_r8 ξ c g)
theorem send9 {α : Type} {Q : α → sProp 𝕄} {k : PUnit → Prog (TpuEff nD τ sig (Elt F) Λ₀ .tc) α}
    (hn : n = nr g 9) (hd : d = px g 1 c) (hS : qS = xSem false g 9) (hR : qR = xSem true g 9)
    (hz : offz = ![rv0 g c, 0]) {inbz inbs hz' hs' hsc hsrc hdst hsem} :
    iprop(recs ξ K ∗ trI c g 9 ∗ sSrc ξ c g 9 ∗ sDst c g 9 ∗ ow c (tx g 9 :: l) ∗ (trF c g 9 -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q :=
  send_oo ξ K c g 9 rfl l hn hd hS hR (a := rv0 g c) (φ := FIN ξ) fullShare.right hz rfl (pay_r9 ξ c g)
theorem send10 {α : Type} {Q : α → sProp 𝕄} {k : PUnit → Prog (TpuEff nD τ sig (Elt F) Λ₀ .tc) α}
    (hn : n = nr g 10) (hd : d = px g 0 c) (hS : qS = xSem false g 10) (hR : qR = xSem true g 10)
    (hz : offz = ![kp1 g c, 0]) {inbz inbs hz' hs' hsc hsrc hdst hsem} :
    iprop(recs ξ K ∗ trI c g 10 ∗ sSrc ξ c g 10 ∗ sDst c g 10 ∗ ow c (tx g 10 :: l) ∗ (trF c g 10 -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q :=
  send_oo ξ K c g 10 rfl l hn hd hS hR (a := kp1 g c) (φ := FIN ξ) fullShare.left hz rfl (pay_r10 ξ c g)
theorem send11 {α : Type} {Q : α → sProp 𝕄} {k : PUnit → Prog (TpuEff nD τ sig (Elt F) Λ₀ .tc) α}
    (hn : n = nr g 11) (hd : d = px g 0 c) (hS : qS = xSem false g 11) (hR : qR = xSem true g 11)
    (hz : offz = ![rv1 g c, 0]) {inbz inbs hz' hs' hsc hsrc hdst hsem} :
    iprop(recs ξ K ∗ trI c g 11 ∗ sSrc ξ c g 11 ∗ sDst c g 11 ∗ ow c (tx g 11 :: l) ∗ (trF c g 11 -∗ ow c l -∗ WP c (k ⟨⟩) Q))
      ⊢ WP c (.op (.enqueueDma (oM.slice (Rect.unit (s := S2048x1024) offz (sh2 n).size inbz) hz')
          (.remote (Dev.tc d : Thread nD τ) (oM.slice (Rect.unit (s := S2048x1024) offz (sh2 n).size inbs) hs') (.dma qS) hsc)
          (.dma qR) hsrc hdst hsem) k) Q :=
  send_oo ξ K c g 11 rfl l hn hd hS hR (a := rv1 g c) (φ := FIN ξ) fullShare hz rfl (pay_r11 ξ c g)

end Sends

/-! ## How the blocks recombine -/

theorem cut_z : ptZ c (zs g) (sz g 0) (ZC ξ g c) ⊢ iprop(sSrc ξ c g 0 ∗ sSrc ξ c g 1) := by
  rw [sz_succ0]
  exact (ptZ_halves c _ _ _ _ (bb_or g 1 c)).1.trans sep_comm.1
theorem join_z : iprop(sendPay ξ c g 0 ∗ sendPay ξ c g 1) ⊢ anyZ c (zs g) (sz g 0) := by
  refine (sep_comm.1.trans (ptZ_halves c (ZC ξ g c) (zs g) (sz g 1) _ (bb_or g 1 c)).2).trans ?_
  rw [← sz_succ0]; exact ptZ_any _ _ _ _
theorem got_0 : recvPay ξ c g 0 = ptS c g 0 ((1 - bb g 1 c) * sz g 1) (sz g 1) (SG0 ξ g c) := rfl
theorem got_1 : recvPay ξ c g 1 = ptS c g 0 (bb g 1 c * sz g 1) (sz g 1) (SG0 ξ g c) := rfl
theorem got_2 : recvPay ξ c g 2 = iprop(ptS c g 1 ((1 - bb g 2 c) * sz g 2) (sz g 2) (SG1 ξ g c) ∗ sDst c g 9) := rfl
theorem got_3 : recvPay ξ c g 3 = iprop(ptS c g 1 (bb g 2 c * sz g 2) (sz g 2) (SG1 ξ g c) ∗ sDst c g 8) := rfl
theorem got_4 : recvPay ξ c g 4 = iprop(ptS c g 2 0 (sz g 2) (SG2 ξ g c) ∗ sDst c g 6) := rfl
theorem cut_rv1 : ptO c (rv1 g c) (sz g 1) fullShare (A0 ξ g c) ⊢ iprop(sSrc ξ c g 2 ∗ sSrc ξ c g 3) := by
  rw [sz_succ1]
  exact (ptO_halves c _ _ _ _ _ (bb_or g 2 c)).1.trans sep_comm.1
theorem cut_kp1 : ptO c (kp1 g c) (sz g 1) fullShare (A0 ξ g c)
    ⊢ iprop(ptO c (rv0 g c) (sz g 2) fullShare (A0 ξ g c) ∗ ptO c (kp2 g c) (sz g 2) fullShare (A0 ξ g c)) := by
  rw [sz_succ1]
  exact (ptO_halves c _ _ _ _ _ (bb_or g 2 c)).1.trans sep_comm.1
theorem is_src4 : ptO c (rv0 g c) (sz g 2) fullShare (A1 ξ g c) ⊢ sSrc ξ c g 4 := .rfl
theorem cut_fin : ptO c (kp2 g c) (sz g 2) fullShare (FIN ξ) ⊢ iprop(sSrc ξ c g 6 ∗ sSrc ξ c g 8) := (ptO_share c _ _ _).1
theorem next_0 : iprop(sendPay ξ c g 6 ∗ recvPay ξ c g 6) ⊢ iprop(sSrc ξ c g 9 ∗ sSrc ξ c g 10) := by
  show iprop(ptO c (kp2 g c) (sz g 2) fullShare.left (FIN ξ) ∗ ptO c (rv0 g c) (sz g 2) fullShare (FIN ξ))
    ⊢ iprop(ptO c (rv0 g c) (sz g 2) fullShare.right (FIN ξ) ∗ ptO c (kp1 g c) (sz g 1) fullShare.left (FIN ξ))
  iintro ⟨H1, H2⟩
  ihave H2 := (ptO_share c _ _ _).1 $$ H2
  icases H2 with ⟨H2, H3⟩
  isplitl [H3]; · iexact H3
  rw [sz_succ1]
  iapply (ptO_halves c fullShare.left (FIN ξ) (kp1 g c) (sz g 2) _ (bb_or g 2 c)).2
  isplitl [H1]; · iexact H1
  iexact H2
theorem next_1 : iprop(recvPay ξ c g 8 ∗ recvPay ξ c g 9) ⊢ sSrc ξ c g 11 := by
  show iprop(ptO c (kp2 g (px g 1 c)) (sz g 2) fullShare (FIN ξ) ∗ ptO c (rv0 g (px g 1 c)) (sz g 2) fullShare (FIN ξ))
    ⊢ ptO c (rv1 g c) (sz g 1) fullShare (FIN ξ)
  rw [kp2_px1, rv0_px1, sz_succ1]
  exact (ptO_halves c fullShare (FIN ξ) (rv1 g c) (sz g 2) _ (bb_or g 2 c)).2
/-- At the end a group's rows are back. -/
theorem join_fin : iprop(sendPay ξ c g 8 ∗ sendPay ξ c g 9 ∗ sendPay ξ c g 10 ∗ sendPay ξ c g 11 ∗ recvPay ξ c g 10 ∗ recvPay ξ c g 11)
    ⊢ ptO c (st g) (sz g 0 + sz g 0) fullShare (FIN ξ) := by
  show iprop(ptO c (kp2 g c) (sz g 2) fullShare.right (FIN ξ) ∗ ptO c (rv0 g c) (sz g 2) fullShare.right (FIN ξ)
      ∗ ptO c (kp1 g c) (sz g 1) fullShare.left (FIN ξ) ∗ ptO c (rv1 g c) (sz g 1) fullShare (FIN ξ)
      ∗ ptO c (kp1 g (px g 0 c)) (sz g 1) fullShare (FIN ξ) ∗ ptO c (rv1 g (px g 0 c)) (sz g 1) fullShare (FIN ξ)) ⊢ _
  iintro ⟨H8, H9, H10, H11, Ha, Hb⟩
  ihave HR := (ptO_halves c fullShare.right (FIN ξ) (kp1 g c) (sz g 2) _ (bb_or g 2 c)).2 $$ [H8 H9]
  · isplitl [H8]; · iexact H8
    iexact H9
  rw [← sz_succ1]
  ihave HK := (ptO_share c (kp1 g c) (sz g 1) (FIN ξ)).2 $$ [HR H10]
  · isplitl [H10] <;> iassumption
  ihave H0 := (ptO_halves c fullShare (FIN ξ) (kp0 g c) (sz g 1) _ (bb_or g 1 c)).2 $$ [HK H11]
  · isplitl [HK]; · iexact HK
    iexact H11
  ihave H1 := (ptO_halves c fullShare (FIN ξ) (kp0 g (px g 0 c)) (sz g 1) _ (bb_or g 1 (px g 0 c))).2 $$ [Ha Hb]
  · isplitl [Ha]; · iexact Ha
    iexact Hb
  rw [← sz_succ0, kp0_px0]
  iapply (ptO_halves c fullShare (FIN ξ) (st g) (sz g 0) _ (bb_or g 0 c)).2
  isplitl [H0]; · iexact H0
  iexact H1

/-- What the barrier hands over. -/
theorem bar_got : iprop(barPay (F := F) c 0 ∗ barPay c 1 ∗ barPay c 2)
    ⊢ iprop(((sDst c 0 0 ∗ sDst c 0 1) ∗ (sDst c 0 10 ∗ sDst c 0 11) ∗ (sDst c 2 2 ∗ sDst c 2 3) ∗ sDst c 1 4)
      ∗ ((sDst c 1 0 ∗ sDst c 1 1) ∗ (sDst c 1 10 ∗ sDst c 1 11) ∗ (sDst c 0 2 ∗ sDst c 0 3) ∗ sDst c 2 4)
      ∗ ((sDst c 2 0 ∗ sDst c 2 1) ∗ (sDst c 2 10 ∗ sDst c 2 11) ∗ (sDst c 1 2 ∗ sDst c 1 3) ∗ sDst c 0 4)) := .rfl

/-! ## The sums -/

section Sums
variable {n a b : ℕ} {φ ψ χ : Cont F}

theorem cast3 {v : (sh3 n).Idx → Elt F .bf16} (hv : ∀ j, v j = φ (a + (j 1).val) (j 2).val) (h) :
    ∀ j, shapeCast (sh2 n) v h j = φ (a + (j 0).val) (j 1).val := by
  intro j
  rw [eq_ix2 j]
  exact (shapeCast_1ab_ab_apply v h (j 0) (j 1)).trans (hv _)
theorem cast2 {v : (sh2 n).Idx → Elt F .bf16} (hv : ∀ j, v j = φ (a + (j 0).val) (j 1).val) (h) :
    ∀ j, shapeCast (sh2 n) v h j = φ (a + (j 0).val) (j 1).val := by
  rw [shapeCast_self]; exact hv
theorem cast4 {v : (sh4 n).Idx → Elt F .bf16} (hv : ∀ j, v j = φ (a + (j 2).val) (j 3).val) (h) :
    ∀ j, shapeCast (sh2 n) v h j = φ (a + (j 0).val) (j 1).val := by
  intro j
  rw [eq_ix2 j]
  refine (shapeCast_apply v h (ix2 (j 0) (j 1)) (ix4 (0 : Fin 1) (0 : Fin 1) (j 0) (j 1)) ?_).trans (hv _)
  rw [Shape.rowMajor_val_four, Shape.rowMajor_val_two]
  show ((0 * 1 + 0) * n + (j 0).val) * 1024 + (j 1).val = (j 0).val * 1024 + (j 1).val
  omega
theorem sums {v w : FVec F (sh2 n) .bf16} (hv : ∀ j, v j = φ (a + (j 0).val) (j 1).val) (hw : ∀ j, w j = ψ (b + (j 0).val) (j 1).val)
    (h : ∀ r k, r < n → FloatOps.addf (F := F) (φ := .bf16) (φ (a + r) k) (ψ (b + r) k) = χ (a + r) k) :
    ∀ j, addf v w j = χ (a + (j 0).val) (j 1).val := by
  intro j
  refine Eq.trans ?_ (h _ _ (j 0).isLt)
  rw [← hv, ← hw]; rfl

end Sums

theorem sum0 (b r k : ℕ) : FloatOps.addf (F := F) (φ := .bf16) (X ξ c (kp0 g c + b + r) k) (SG0 ξ g c (b + r) k) = A0 ξ g c (kp0 g c + b + r) k := by
  unfold A0 SG0; rw [Nat.add_assoc]
theorem sum1 (b r k : ℕ) : FloatOps.addf (F := F) (φ := .bf16) (A0 ξ g c (kp1 g c + b + r) k) (SG1 ξ g c (b + r) k) = A1 ξ g c (kp1 g c + b + r) k := by
  unfold A1 SG1; rw [Nat.add_assoc]
theorem sum2 (r k : ℕ) (h : r < sz g 2) : FloatOps.addf (F := F) (φ := .bf16) (A1 ξ g c (kp2 g c + r) k) (SG2 ξ g c (0 + r) k) = FIN ξ (kp2 g c + r) k := by
  rw [FIN_at ξ g c _ k (Nat.le_add_right _ _) (Nat.add_lt_add_left h _)]
  unfold A2 SG2; rw [Nat.zero_add]

/-- What the first copy buffer gets. -/
theorem isZC {n : ℕ} {v : (sh2 n).Idx → Elt F .bf16} (hv : ∀ j, v j = X ξ c (nk g c + (j 0).val) (j 1).val) :
    ∀ j, v j = ZC ξ g c (zs g + (j 0).val) (j 1).val := by
  intro j; rw [hv]; unfold ZC; congr 1; omega

end Cert.Butterfly

end
-- ==== Proof.Whole.lean ====
/-
# From whole buffers to blocks and back

Before the kernel starts a device holds its result, its landing buffer and its copy buffer whole. `setup` cuts them
into what it keeps and what it hands the three neighbours at the barrier; `whole_O`, `whole_S` and `whole_Z` put the
buffers together again at the end.
-/
module

public import proofs.«01_k».proof.Proof.Moves

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (c : Dev nD)

/-- The three buffers whole, at some contents. -/
def wO : sProp 𝕄 := iprop(∃ f : Buf (Elt F) (lO c), lO c ↦{fullShare} f)
def wS : sProp 𝕄 := iprop(∃ f : Buf (Elt F) (lS c), lS c ↦{fullShare} f)
def wZ : sProp 𝕄 := iprop(∃ f : Buf (Elt F) (lZ c), lZ c ↦{fullShare} f)

theorem rowsO_all : rowsO 0 2048 = Finset.univ :=
  Finset.eq_univ_iff_forall.mpr fun i => mem_rowsO.mpr ⟨Nat.zero_le _, by have : (i 0).val < 2048 := (i 0).isLt; omega⟩
theorem rowsZ_all : rowsZ 0 1024 = Finset.univ :=
  Finset.eq_univ_iff_forall.mpr fun i => mem_rowsZ.mpr ⟨Nat.zero_le _, by have : (i 0).val < 1024 := (i 0).isLt; omega⟩

theorem wO_rows : wO (F := F) c = anyO c 0 2048 := by unfold wO anyO; rw [rowsO_all]
theorem wZ_rows : wZ (F := F) c = anyZ c 0 1024 := by unfold wZ anyZ; rw [rowsZ_all]

/-! ## The landing buffer's slots -/

abbrev slot (t : Fin 3 × Fin 3) : Finset S3x3x384x1024.Idx := rowsS t.1 t.2 0 384

theorem slots_all : (Finset.univ : Finset (Fin 3 × Fin 3)).biUnion slot = Finset.univ := by
  refine Finset.eq_univ_iff_forall.mpr fun i => Finset.mem_biUnion.mpr ?_
  have h0 : (i 0).val < 3 := (i 0).isLt
  have h1 : (i 1).val < 3 := (i 1).isLt
  have h2 : (i 2).val < 384 := (i 2).isLt
  exact ⟨(⟨(i 0).val, h0⟩, ⟨(i 1).val, h1⟩), Finset.mem_univ _, mem_rowsS.mpr ⟨rfl, rfl, Nat.zero_le _, by omega⟩⟩
theorem slots_disj : ∀ t ∈ (Finset.univ : Finset (Fin 3 × Fin 3)), ∀ t' ∈ (Finset.univ : Finset (Fin 3 × Fin 3)), t ≠ t' → Disjoint (slot t) (slot t') :=
  fun t _ t' _ h => Finset.disjoint_left.mpr fun i hi hi' => by
    rw [mem_rowsS] at hi hi'
    exact h (Prod.ext (Fin.ext (hi.1.symm.trans hi'.1)) (Fin.ext (hi.2.1.symm.trans hi'.2.1)))

theorem nine (Φ : Fin 3 × Fin 3 → sProp 𝕄) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL [(0, 0), (0, 1), (0, 2), (1, 0), (1, 1), (1, 2), (2, 0), (2, 1), (2, 2)] (by decide) (by decide) Φ

theorem wS_cut : wS (F := F) c ⊢ bigSep Finset.univ fun t : Fin 3 × Fin 3 => anyS c t.1 t.2 0 384 := by
  unfold wS
  iintro ⟨%f, H⟩
  rw [← slots_all]
  ihave H := (Entails.of_eq (pointsTo_biUnion (ℓ := lS c) (q := fullShare) (f := f) Finset.univ slot slots_disj)) $$ H
  have h : (bigSep Finset.univ fun t : Fin 3 × Fin 3 => (lS c ↦[slot t]{fullShare} f : sProp 𝕄)) ⊢ bigSep Finset.univ fun t : Fin 3 × Fin 3 => anyS (F := F) c t.1 t.2 0 384 :=
    bigSep_mono fun t _ => by
      show (lS c ↦[slot t]{fullShare} f : sProp 𝕄) ⊢ anyS c t.1 t.2 0 384
      unfold anyS; iintro H; iexists f; iexact H
  iapply h
  iexact H

theorem wS_join : (bigSep Finset.univ fun t : Fin 3 × Fin 3 => anyS (F := F) c t.1 t.2 0 384) ⊢ wS (F := F) c := by
  unfold wS anyS
  rw [nine]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  let fs : Fin 3 × Fin 3 → Buf (Elt F) (lS c) := fun t => match t with
    | (0, 0) => f0 | (0, 1) => f1 | (0, 2) => f2 | (1, 0) => f3 | (1, 1) => f4 | (1, 2) => f5 | (2, 0) => f6 | (2, 1) => f7 | (2, 2) => f8
  ihave H := (pointsTo_biUnion_join (ℓ := lS c) (q := fullShare) Finset.univ slot fs f0 slots_disj) $$ [H0 H1 H2 H3 H4 H5 H6 H7 H8]
  · rw [nine]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  icases H with ⟨%f, -, H⟩
  iexists f
  rw [slots_all]
  iexact H

theorem slot_cut (g k : Fin 3) (n : ℕ) (hn : n ≤ 384) : anyS (F := F) c g k 0 384 ⊣⊢ iprop(anyS c g k 0 n ∗ anyS c g k n (384 - n)) := by
  have := anyS_cut (F := F) c g k 0 n (384 - n)
  rwa [Nat.add_sub_cancel' hn, Nat.zero_add] at this

theorem sz_le (g k : Fin 3) : sz g k ≤ 384 := by revert g k; decide

/-- The rows of the slots that no transfer touches. -/
def idle (δ : Fin 3) : sProp 𝕄 :=
  iprop(anyS c δ 0 (sz δ 0) (384 - sz δ 0) ∗ anyS c (δ + 2) 1 (sz (δ + 2) 1) (384 - sz (δ + 2) 1) ∗ anyS c (δ + 1) 2 (sz (δ + 1) 2) (384 - sz (δ + 1) 2))

/-- What the neighbour of direction `δ` gets. -/
theorem give (δ : Fin 3) : iprop(anyS (F := F) c δ 0 0 384 ∗ anyS c (δ + 2) 1 0 384 ∗ anyS c (δ + 1) 2 0 384 ∗ anyO c (nk δ c) (sz δ 0))
    ⊢ iprop(pieces c (pr δ c) δ ∗ idle c δ) := by
  unfold pieces idle
  have e : kp0 δ (pr δ c) = nk δ c := by rw [← kp0_px0]; unfold px; congr 2; revert δ; decide
  iintro ⟨H0, H1, H2, HO⟩
  ihave H0 := (slot_cut c δ 0 (sz δ 0) (sz_le _ _)).1 $$ H0
  icases H0 with ⟨H0, I0⟩
  ihave H1 := (slot_cut c (δ + 2) 1 (sz (δ + 2) 1) (sz_le _ _)).1 $$ H1
  icases H1 with ⟨H1, I1⟩
  ihave H2 := (slot_cut c (δ + 1) 2 (sz (δ + 1) 2) (sz_le _ _)).1 $$ H2
  icases H2 with ⟨H2, I2⟩
  isplitr [I0 I1 I2]
  · rw [← e, sz_succ0 δ, sz_succ1 (δ + 2)]
    ihave H0 := (anyS_halves c δ 0 (sz δ 1) _ (bb_or δ 1 (pr δ c))).1 $$ H0
    icases H0 with ⟨H0, H0'⟩
    ihave H1 := (anyS_halves c (δ + 2) 1 (sz (δ + 2) 2) _ (bb_or (δ + 2) 2 (pr δ c))).1 $$ H1
    icases H1 with ⟨H1, H1'⟩
    ihave HO := (anyO_halves c (kp0 δ (pr δ c)) (sz δ 1) _ (bb_or δ 1 (pr δ c))).1 $$ HO
    icases HO with ⟨HO, HO'⟩
    isplitl [H0 H0']
    · isplitl [H0'] <;> iassumption
    isplitl [HO HO']
    · isplitl [HO]; · iexact HO
      iexact HO'
    isplitl [H1 H1']
    · isplitl [H1'] <;> iassumption
    iexact H2
  · isplitl [I0]; · iexact I0
    isplitl [I1] <;> iassumption

/-- The result, by groups and halves. -/
theorem groupsO : anyO (F := F) c 0 (768 + (640 + 640)) ⊢ iprop((anyO c (kp0 0 c) (sz 0 0) ∗ anyO c (nk 0 c) (sz 0 0))
    ∗ (anyO c (kp0 1 c) (sz 1 0) ∗ anyO c (nk 1 c) (sz 1 0)) ∗ (anyO c (kp0 2 c) (sz 2 0) ∗ anyO c (nk 2 c) (sz 2 0))) := by
  iintro H
  ihave H := (anyO_cut c 0 768 (640 + 640)).1 $$ H
  icases H with ⟨H0, H⟩
  ihave H := (anyO_cut c 768 640 640).1 $$ H
  icases H with ⟨H1, H2⟩
  isplitl [H0]; · iapply (anyO_halves c (st 0) (sz 0 0) _ (bb_or 0 0 c)).1; iexact H0
  isplitl [H1]; · iapply (anyO_halves c (st 1) (sz 1 0) _ (bb_or 1 0 c)).1; iexact H1
  iapply (anyO_halves c (st 2) (sz 2 0) _ (bb_or 2 0 c)).1; iexact H2

theorem keep (g : Fin 3) : anyO (F := F) c (kp0 g c) (sz g 0) ⊢ iprop(anyO c (kp1 g c) (sz g 1) ∗ anyO c (rv1 g c) (sz g 1)) := by
  rw [sz_succ0]; exact (anyO_halves c (kp0 g c) (sz g 1) _ (bb_or g 1 c)).1

theorem groupsZ : anyZ (F := F) c 0 1024 ⊣⊢ iprop(anyZ c (zs 0) (sz 0 0) ∗ anyZ c (zs 1) (sz 1 0) ∗ anyZ c (zs 2) (sz 2 0)) :=
  ⟨(anyZ_cut c 0 384 640).1.trans (sep_mono_right (anyZ_cut c 384 320 320).1), (sep_mono_right (anyZ_cut c 384 320 320).2).trans (anyZ_cut c 0 384 640).2⟩

/-- The start. -/
theorem setup : iprop(wO (F := F) c ∗ wS c ∗ wZ c)
    ⊢ iprop((pieces c (pr 0 c) 0 ∗ pieces c (pr 1 c) 1 ∗ pieces c (pr 2 c) 2)
      ∗ ((anyO c (kp1 0 c) (sz 0 1) ∗ anyO c (rv1 0 c) (sz 0 1)) ∗ (anyO c (kp1 1 c) (sz 1 1) ∗ anyO c (rv1 1 c) (sz 1 1))
        ∗ (anyO c (kp1 2 c) (sz 2 1) ∗ anyO c (rv1 2 c) (sz 2 1)))
      ∗ (anyZ c (zs 0) (sz 0 0) ∗ anyZ c (zs 1) (sz 1 0) ∗ anyZ c (zs 2) (sz 2 0)) ∗ idle c 0 ∗ idle c 1 ∗ idle c 2) := by
  rw [wO_rows, wZ_rows]
  iintro ⟨HO, HS, HZ⟩
  ihave HO := (groupsO c) $$ HO
  icases HO with ⟨⟨K0, N0⟩, ⟨K1, N1⟩, K2, N2⟩
  ihave HS := (wS_cut c) $$ HS
  ihave HS := (Entails.of_eq (nine _)) $$ HS
  icases HS with ⟨S00, S01, S02, S10, S11, S12, S20, S21, S22⟩
  ihave P0 := (give c 0) $$ [S00 S21 S12 N0]
  · isplitl [S00]; · iexact S00
    isplitl [S21]; · iexact S21
    isplitl [S12]; · iexact S12
    iexact N0
  icases P0 with ⟨P0, I0⟩
  ihave P1 := (give c 1) $$ [S10 S01 S22 N1]
  · isplitl [S10]; · iexact S10
    isplitl [S01]; · iexact S01
    isplitl [S22]; · iexact S22
    iexact N1
  icases P1 with ⟨P1, I1⟩
  ihave P2 := (give c 2) $$ [S20 S11 S02 N2]
  · isplitl [S20]; · iexact S20
    isplitl [S11]; · iexact S11
    isplitl [S02]; · iexact S02
    iexact N2
  icases P2 with ⟨P2, I2⟩
  isplitl [P0 P1 P2]
  · isplitl [P0]; · iexact P0
    isplitl [P1] <;> iassumption
  isplitl [K0 K1 K2]
  · isplitl [K0]; · iapply (keep c 0); iexact K0
    isplitl [K1]; · iapply (keep c 1); iexact K1
    iapply (keep c 2); iexact K2
  isplitl [HZ]; · iapply (groupsZ c).1; iexact HZ
  isplitl [I0]; · iexact I0
  isplitl [I1] <;> iassumption

/-! ## The end -/

/-- What has landed in a group's slots. -/
def landed (g : Fin 3) : sProp 𝕄 :=
  iprop(ptS c g 0 ((1 - bb g 1 c) * sz g 1) (sz g 1) (SG0 ξ g c) ∗ ptS c g 0 (bb g 1 c * sz g 1) (sz g 1) (SG0 ξ g c)
    ∗ ptS c g 1 ((1 - bb g 2 c) * sz g 2) (sz g 2) (SG1 ξ g c) ∗ ptS c g 1 (bb g 2 c * sz g 2) (sz g 2) (SG1 ξ g c)
    ∗ ptS c g 2 0 (sz g 2) (SG2 ξ g c))

theorem landed_any (g : Fin 3) : landed ξ c g ⊢ iprop(anyS c g 0 0 (sz g 0) ∗ anyS c g 1 0 (sz g 1) ∗ anyS c g 2 0 (sz g 2)) := by
  unfold landed
  iintro ⟨H0, H1, H2, H3, H4⟩
  ihave H0 := (ptS_any c _ _ _ _ _) $$ H0
  ihave H1 := (ptS_any c _ _ _ _ _) $$ H1
  ihave H2 := (ptS_any c _ _ _ _ _) $$ H2
  ihave H3 := (ptS_any c _ _ _ _ _) $$ H3
  isplitl [H0 H1]
  · rw [sz_succ0]
    iapply (anyS_halves c g 0 (sz g 1) _ (bb_or g 1 c)).2
    isplitl [H1] <;> iassumption
  isplitl [H2 H3]
  · rw [sz_succ1]
    iapply (anyS_halves c g 1 (sz g 2) _ (bb_or g 2 c)).2
    isplitl [H3] <;> iassumption
  iapply (ptS_any c _ _ _ _ _); iexact H4

theorem whole_S : iprop((landed ξ c 0 ∗ landed ξ c 1 ∗ landed ξ c 2) ∗ idle c 0 ∗ idle c 1 ∗ idle c 2) ⊢ wS c := by
  iintro ⟨⟨L0, L1, L2⟩, I0, I1, I2⟩
  iapply (wS_join c)
  rw [nine]
  ihave L0 := (landed_any ξ c 0) $$ L0
  icases L0 with ⟨S00, S01, S02⟩
  ihave L1 := (landed_any ξ c 1) $$ L1
  icases L1 with ⟨S10, S11, S12⟩
  ihave L2 := (landed_any ξ c 2) $$ L2
  icases L2 with ⟨S20, S21, S22⟩
  unfold idle
  icases I0 with ⟨I00, I21, I12⟩
  icases I1 with ⟨I10, I01, I22⟩
  icases I2 with ⟨I20, I11, I02⟩
  isplitl [S00 I00]
  · iapply (slot_cut c 0 0 (sz 0 0) (sz_le _ _)).2
    isplitl [S00]; · iexact S00
    iexact I00
  isplitl [S01 I01]
  · iapply (slot_cut c 0 1 (sz 0 1) (sz_le _ _)).2
    isplitl [S01]; · iexact S01
    iexact I01
  isplitl [S02 I02]
  · iapply (slot_cut c 0 2 (sz 0 2) (sz_le _ _)).2
    isplitl [S02]; · iexact S02
    iexact I02
  isplitl [S10 I10]
  · iapply (slot_cut c 1 0 (sz 1 0) (sz_le _ _)).2
    isplitl [S10]; · iexact S10
    iexact I10
  isplitl [S11 I11]
  · iapply (slot_cut c 1 1 (sz 1 1) (sz_le _ _)).2
    isplitl [S11]; · iexact S11
    iexact I11
  isplitl [S12 I12]
  · iapply (slot_cut c 1 2 (sz 1 2) (sz_le _ _)).2
    isplitl [S12]; · iexact S12
    iexact I12
  isplitl [S20 I20]
  · iapply (slot_cut c 2 0 (sz 2 0) (sz_le _ _)).2
    isplitl [S20]; · iexact S20
    iexact I20
  isplitl [S21 I21]
  · iapply (slot_cut c 2 1 (sz 2 1) (sz_le _ _)).2
    isplitl [S21]; · iexact S21
    iexact I21
  iapply (slot_cut c 2 2 (sz 2 2) (sz_le _ _)).2
  isplitl [S22]; · iexact S22
  iexact I22

theorem whole_Z : iprop((sendPay ξ c 0 0 ∗ sendPay ξ c 0 1) ∗ (sendPay ξ c 1 0 ∗ sendPay ξ c 1 1) ∗ (sendPay ξ c 2 0 ∗ sendPay ξ c 2 1)) ⊢ wZ c := by
  rw [wZ_rows]
  iintro ⟨H0, H1, H2⟩
  iapply (groupsZ c).2
  isplitl [H0]; · iapply (join_z ξ c 0); iexact H0
  isplitl [H1]; · iapply (join_z ξ c 1); iexact H1
  iapply (join_z ξ c 2); iexact H2

theorem whole_O : iprop(ptO c (st 0) (sz 0 0 + sz 0 0) fullShare (FIN ξ) ∗ ptO c (st 1) (sz 1 0 + sz 1 0) fullShare (FIN ξ)
    ∗ ptO c (st 2) (sz 2 0 + sz 2 0) fullShare (FIN ξ)) ⊢ (lO c ↦{fullShare} cO (FIN ξ) : sProp 𝕄) := by
  iintro ⟨H0, H1, H2⟩
  ihave H := (ptO_cut c 768 640 640 fullShare (FIN ξ)).2 $$ [H1 H2]
  · isplitl [H1]; · iexact H1
    iexact H2
  ihave H := (ptO_cut c 0 768 1280 fullShare (FIN ξ)).2 $$ [H0 H]
  · isplitl [H0]; · iexact H0
    iexact H
  unfold ptO
  rw [rowsO_all]
  iexact H

end Cert.Butterfly

end
-- ==== Proof.Parts1.lean ====
/-
# The body, first window: copies, barrier, the sends of step 0

One lemma per window of the body: what the window takes and what it leaves, for any continuation `Q`.
-/
module

public import proofs.«01_k».proof.Proof.Moves
public import proofs.«01_k».proof.Proof.Gen.KernelIdeal.Skeleton

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem part1 {Q : (Σ' (d0 : Dev nD) (v2 : BitVec 32) (v5 : BitVec 32) (v7 : BitVec 32) (v8 : BitVec 32) (v10 : BitVec 32) (v12 : BitVec 32) (v14 : BitVec 32) (v16 : BitVec 32) (v18 : BitVec 32) (v20 : BitVec 32) (v22 : BitVec 32) (v24 : BitVec 32) (v26 : BitVec 32), FVec F S384x1024 .bf16) → sProp 𝕄} {h0 h1 h2 h3}  :
    iprop(recs ξ K ∗ xpt ξ c
      ∗ (∀ u0 u1 u2 u3 u4 u5 u6 u7 u8 u9 u10 u11 u12 (v32 : FVec F S384x1024 .bf16), ⌜∀ j, v32 j = X ξ c (nk 0 c + (j 0).val) (j 1).val⌝ -∗ xpt ξ c -∗ Q ⟨c, u0, u1, u2, u3, u4, u5, u6, u7, u8, u9, u10, u11, u12, v32⟩))
    ⊢ WP c (k0_part1 xM h0 oM h1 sM h2 zM h3 cc0_scratch2 cc0_scratch3 ) Q := by
  simp only [k0_part1_eq_skeleton]; unfold k0_part1_skel
  simp only [semSignalWord, semWaitWord, Prog.lift, Prog.bind_op, Prog.bind_ret, Prog.pure_eq_ret, wp_deviceId]
  iintro ⟨#HR, HX, Hk⟩
  iapply (ld_x ξ c (n := sz 0 0) (off1 c))
  isplitl [HX]; · iexact HX
  iintro %v31 %h31 HX
  iapply (done c _)
  iapply Hk $$ [] HX
  ipureintro; exact (by unfold k0_pay1; exact (cast3 h31 _))

theorem part2 {Q : (Σ' (v54 : Sems sig S_), BitVec 32) → sProp 𝕄} {h0 h1 h2 h3} (v2 v5 v7 : BitVec 32) (v32 : FVec F S384x1024 .bf16) (h32 : ∀ j, v32 j = X ξ c (nk 0 c + (j 0).val) (j 1).val) :
    iprop(recs ξ K ∗ anyZ c (zs 0) (sz 0 0) ∗ xpt ξ c ∗ anyZ c (zs 1) (sz 1 0) ∗ anyZ c (zs 2) (sz 2 0) ∗ ow c (evs.drop 0) ∗ dutyTok ER (barCell (pr 0 c)) 0 0 ∗ pieces c (pr 0 c) 0 ∗ dutyTok ER (barCell (pr 1 c)) 0 1 ∗ pieces c (pr 1 c) 1
      ∗ (∀ u0, sSrc ξ c 0 0 -∗ sSrc ξ c 0 1 -∗ xpt ξ c -∗ sSrc ξ c 1 0 -∗ sSrc ξ c 1 1 -∗ sSrc ξ c 2 0 -∗ sSrc ξ c 2 1 -∗ ow c (evs.drop 2) -∗ Q ⟨(SemArray.scalar (sig.barrier 0 rfl)), u0⟩))
    ⊢ WP c (k0_part2 xM h0 oM h1 sM h2 zM h3 cc0_scratch2 cc0_scratch3 c v2 v5 v7 v32) Q := by
  simp only [k0_part2_eq_skeleton]; unfold k0_part2_skel
  simp only [semSignalWord, semWaitWord, Prog.lift, Prog.bind_op, Prog.bind_ret, Prog.pure_eq_ret, wp_deviceId]
  iintro ⟨#HR, HZ0, HX, HZ1, HZ2, HO, HT0, HB0, HT1, HB1, Hk⟩
  iapply (ld_anyZ c (a := zs 0) (n := sz 0 0) rfl)
  isplitl [HZ0]; · iexact HZ0
  iintro %v33 HZ0
  iapply (st_z c (a := zs 0) (n := sz 0 0) rfl (ZC ξ 0 c) (isZC ξ c 0 (by unfold k0_pay2; exact (cast2 h32 _))))
  isplitl [HZ0]; · iexact HZ0
  iintro HZ0
  ihave HC := (cut_z ξ c 0) $$ HZ0
  icases HC with ⟨HS0_0, HS0_1⟩
  iapply (ld_x ξ c (n := sz 1 0) (off2_1 c))
  isplitl [HX]; · iexact HX
  iintro %v40 %h40 HX
  iapply (ld_anyZ c (a := zs 1) (n := sz 1 0) rfl)
  isplitl [HZ1]; · iexact HZ1
  iintro %v42 HZ1
  iapply (st_z c (a := zs 1) (n := sz 1 0) rfl (ZC ξ 1 c) (isZC ξ c 1 (by unfold k0_pay3; exact (cast2 (cast3 h40 _) _))))
  isplitl [HZ1]; · iexact HZ1
  iintro HZ1
  ihave HC := (cut_z ξ c 1) $$ HZ1
  icases HC with ⟨HS1_0, HS1_1⟩
  iapply (ld_x ξ c (n := sz 2 0) (off2_2 c))
  isplitl [HX]; · iexact HX
  iintro %v49 %h49 HX
  iapply (ld_anyZ c (a := zs 2) (n := sz 2 0) rfl)
  isplitl [HZ2]; · iexact HZ2
  iintro %v51 HZ2
  iapply (st_z c (a := zs 2) (n := sz 2 0) rfl (ZC ξ 2 c) (isZC ξ c 2 (by unfold k0_pay4; exact (cast2 (cast3 h49 _) _))))
  isplitl [HZ2]; · iexact HZ2
  iintro HZ2
  ihave HC := (cut_z ξ c 2) $$ HZ2
  icases HC with ⟨HS2_0, HS2_1⟩
  iapply (sig_bar ξ K c 0 (evs.drop 1) (dev1 c) rfl)
  isplitr; · iexact HR
  isplitl [HT0]; · iexact HT0
  isplitl [HB0]; · iexact HB0
  isplitl [HO]; · iexact HO
  iintro HO
  iapply (sig_bar ξ K c 1 (evs.drop 2) (dev2 c) rfl)
  isplitr; · iexact HR
  isplitl [HT1]; · iexact HT1
  isplitl [HB1]; · iexact HB1
  isplitl [HO]; · iexact HO
  iintro HO
  iapply (done c _)
  iapply Hk $$ HS0_0 HS0_1 HX HS1_0 HS1_1 HS2_0 HS2_1 HO

theorem part3 {Q : (Σ' (v67 : BitVec 32), BitVec 32) → sProp 𝕄} {h0 h1 h2 h3} (v2 v5 v62 : BitVec 32)  :
    iprop(recs ξ K ∗ ow c (evs.drop 2) ∗ dutyTok ER (barCell (pr 2 c)) 0 2 ∗ pieces c (pr 2 c) 2 ∗ bI c ∗ trI c 0 0 ∗ sSrc ξ c 0 0 ∗ trI c 0 1 ∗ sSrc ξ c 0 1
      ∗ (∀ u0 u1, ow c (evs.drop 5) -∗ bD c -∗ sDst c 0 10 -∗ sDst c 0 11 -∗ sDst c 0 2 -∗ sDst c 0 3 -∗ sDst c 0 4 -∗ sDst c 1 0 -∗ sDst c 1 1 -∗ sDst c 1 10 -∗ sDst c 1 11 -∗ sDst c 1 2 -∗ sDst c 1 3 -∗ sDst c 1 4 -∗ sDst c 2 0 -∗ sDst c 2 1 -∗ sDst c 2 10 -∗ sDst c 2 11 -∗ sDst c 2 2 -∗ sDst c 2 3 -∗ sDst c 2 4 -∗ trF c 0 0 -∗ trF c 0 1 -∗ Q ⟨u0, u1⟩))
    ⊢ WP c (k0_part3 xM h0 oM h1 sM h2 zM h3 cc0_scratch2 cc0_scratch3 c v2 v5 (SemArray.scalar (sig.barrier 0 rfl)) v62) Q := by
  simp only [k0_part3_eq_skeleton]; unfold k0_part3_skel
  simp only [semSignalWord, semWaitWord, Prog.lift, Prog.bind_op, Prog.bind_ret, Prog.pure_eq_ret, wp_deviceId]
  iintro ⟨#HR, HO, HT2, HB2, HbI, Ht0_0, HS0_0, Ht0_1, HS0_1, Hk⟩
  iapply (sig_bar ξ K c 2 (evs.drop 3) (dev3 c) rfl)
  isplitr; · iexact HR
  isplitl [HT2]; · iexact HT2
  isplitl [HB2]; · iexact HB2
  isplitl [HO]; · iexact HO
  iintro HO
  iapply (wait_bar ξ K c (evs.drop 3) (by decide) rfl)
  isplitr; · iexact HR
  isplitl [HbI]; · iexact HbI
  isplitl [HO]; · iexact HO
  iintro HbI HO HC
  ihave HC := (bar_got c) $$ HC
  icases HC with ⟨⟨⟨HD0_0, HD0_1⟩, ⟨HD0_10, HD0_11⟩, ⟨HD2_2, HD2_3⟩, HD1_4⟩, ⟨⟨HD1_0, HD1_1⟩, ⟨HD1_10, HD1_11⟩, ⟨HD0_2, HD0_3⟩, HD2_4⟩, ⟨⟨HD2_0, HD2_1⟩, ⟨HD2_10, HD2_11⟩, ⟨HD1_2, HD1_3⟩, HD0_4⟩⟩
  iapply (send0 ξ K c 0 (evs.drop 4) rfl (dev4 c) rfl rfl (off4 c) (off3 c))
  isplitr; · iexact HR
  isplitl [Ht0_0]; · iexact Ht0_0
  isplitl [HS0_0]; · iexact HS0_0
  isplitl [HD0_0]; · iexact HD0_0
  isplitl [HO]; · iexact HO
  iintro Ht0_0 HO
  iapply (send1 ξ K c 0 (evs.drop 5) rfl (dev5 c) rfl rfl (off6 c) (off5 c))
  isplitr; · iexact HR
  isplitl [Ht0_1]; · iexact Ht0_1
  isplitl [HS0_1]; · iexact HS0_1
  isplitl [HD0_1]; · iexact HD0_1
  isplitl [HO]; · iexact HO
  iintro Ht0_1 HO
  iapply (done c _)
  iapply Hk $$ HO HbI HD0_10 HD0_11 HD0_2 HD0_3 HD0_4 HD1_0 HD1_1 HD1_10 HD1_11 HD1_2 HD1_3 HD1_4 HD2_0 HD2_1 HD2_10 HD2_11 HD2_2 HD2_3 HD2_4 Ht0_0 Ht0_1

theorem part4 {Q : (Σ' (v92 : BitVec 32), BitVec 32) → sProp 𝕄} {h0 h1 h2 h3} (v2 v7 v8 : BitVec 32)  :
    iprop(recs ξ K ∗ trI c 1 0 ∗ sSrc ξ c 1 0 ∗ sDst c 1 0 ∗ ow c (evs.drop 5) ∗ trI c 1 1 ∗ sSrc ξ c 1 1 ∗ sDst c 1 1
      ∗ (∀ u0 u1, trF c 1 0 -∗ ow c (evs.drop 7) -∗ trF c 1 1 -∗ Q ⟨u0, u1⟩))
    ⊢ WP c (k0_part4 xM h0 oM h1 sM h2 zM h3 cc0_scratch2 cc0_scratch3 c v2 v7 v8) Q := by
  simp only [k0_part4_eq_skeleton]; unfold k0_part4_skel
  simp only [semSignalWord, semWaitWord, Prog.lift, Prog.bind_op, Prog.bind_ret, Prog.pure_eq_ret, wp_deviceId]
  iintro ⟨#HR, Ht1_0, HS1_0, HD1_0, HO, Ht1_1, HS1_1, HD1_1, Hk⟩
  iapply (send0 ξ K c 1 (evs.drop 6) rfl (dev6 c) rfl rfl (off8 c) (off7 c))
  isplitr; · iexact HR
  isplitl [Ht1_0]; · iexact Ht1_0
  isplitl [HS1_0]; · iexact HS1_0
  isplitl [HD1_0]; · iexact HD1_0
  isplitl [HO]; · iexact HO
  iintro Ht1_0 HO
  iapply (send1 ξ K c 1 (evs.drop 7) rfl (dev7 c) rfl rfl (off10 c) (off9 c))
  isplitr; · iexact HR
  isplitl [Ht1_1]; · iexact Ht1_1
  isplitl [HS1_1]; · iexact HS1_1
  isplitl [HD1_1]; · iexact HD1_1
  isplitl [HO]; · iexact HO
  iintro Ht1_1 HO
  iapply (done c _)
  iapply Hk $$ Ht1_0 HO Ht1_1

theorem part5 {Q : (Σ' (v117 : BitVec 32) (v129 : BitVec 32), BitVec 32) → sProp 𝕄} {h0 h1 h2 h3} (v2 v5 v8 : BitVec 32)  :
    iprop(recs ξ K ∗ trI c 2 0 ∗ sSrc ξ c 2 0 ∗ sDst c 2 0 ∗ ow c (evs.drop 7) ∗ trI c 2 1 ∗ sSrc ξ c 2 1 ∗ sDst c 2 1
      ∗ (∀ u0 u1 u2, trF c 2 0 -∗ ow c (evs.drop 9) -∗ trF c 2 1 -∗ Q ⟨u0, u1, u2⟩))
    ⊢ WP c (k0_part5 xM h0 oM h1 sM h2 zM h3 cc0_scratch2 cc0_scratch3 c v2 v5 v8) Q := by
  simp only [k0_part5_eq_skeleton]; unfold k0_part5_skel
  simp only [semSignalWord, semWaitWord, Prog.lift, Prog.bind_op, Prog.bind_ret, Prog.pure_eq_ret, wp_deviceId]
  iintro ⟨#HR, Ht2_0, HS2_0, HD2_0, HO, Ht2_1, HS2_1, HD2_1, Hk⟩
  iapply (send0 ξ K c 2 (evs.drop 8) rfl (dev8 c) rfl rfl (off12 c) (off11 c))
  isplitr; · iexact HR
  isplitl [Ht2_0]; · iexact Ht2_0
  isplitl [HS2_0]; · iexact HS2_0
  isplitl [HD2_0]; · iexact HD2_0
  isplitl [HO]; · iexact HO
  iintro Ht2_0 HO
  iapply (send1 ξ K c 2 (evs.drop 9) rfl (dev9 c) rfl rfl (off14 c) (off13 c))
  isplitr; · iexact HR
  isplitl [Ht2_1]; · iexact Ht2_1
  isplitl [HS2_1]; · iexact HS2_1
  isplitl [HD2_1]; · iexact HD2_1
  isplitl [HO]; · iexact HO
  iintro Ht2_1 HO
  iapply (done c _)
  iapply Hk $$ Ht2_0 HO Ht2_1

end Cert.Butterfly

end
-- ==== Proof.Parts2.lean ====
/-
# The body, second window: the sums over two devices

One lemma per window of the body: what the window takes and what it leaves, for any continuation `Q`.
-/
module

public import proofs.«01_k».proof.Proof.Moves
public import proofs.«01_k».proof.Proof.Gen.KernelIdeal.Skeleton

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem part6 {Q : (Σ' (v166 : BitVec 32), BitVec 32) → sProp 𝕄} {h0 h1 h2 h3} (v2 v5 v7 v10 v67 v140 : BitVec 32)  :
    iprop(recs ξ K ∗ trF c 0 0 ∗ ow c (evs.drop 9) ∗ xpt ξ c ∗ anyO c (rv1 0 c) (sz 0 1)
      ∗ (∀ u0 u1, trD c 0 0 -∗ ow c (evs.drop 9) -∗ sendPay ξ c 0 0 -∗ ptS c 0 0 ((1 - bb 0 1 c) * sz 0 1) (sz 0 1) (SG0 ξ 0 c) -∗ xpt ξ c -∗ sSrc ξ c 0 2 -∗ sSrc ξ c 0 3 -∗ Q ⟨u0, u1⟩))
    ⊢ WP c (k0_part6 xM h0 oM h1 sM h2 zM h3 cc0_scratch2 cc0_scratch3 c v2 v5 v7 v10 v67 v140) Q := by
  simp only [k0_part6_eq_skeleton]; unfold k0_part6_skel
  simp only [semSignalWord, semWaitWord, Prog.lift, Prog.bind_op, Prog.bind_ret, Prog.pure_eq_ret, wp_deviceId]
  iintro ⟨#HR, Ht0_0, HO, HX, HR0, Hk⟩
  iapply (wait_s ξ K c (g := 0) (j := 0) (l := evs.drop 9) rfl rfl (by decide) rfl)
  isplitr; · iexact HR
  isplitl [Ht0_0]; · iexact Ht0_0
  isplitl [HO]; · iexact HO
  iintro Ht0_0 HO HP0_0
  iapply (wait_r ξ K c (g := 0) (j := 0) (l := evs.drop 9) rfl rfl (by decide) rfl)
  isplitr; · iexact HR
  isplitl [Ht0_0]; · iexact Ht0_0
  isplitl [HO]; · iexact HO
  iintro Ht0_0 HO HG0_0
  ihave HG0_0 := (Entails.of_eq (got_0 ξ c 0)) $$ HG0_0
  iapply (ld_x ξ c (n := sz 0 1) (off15 c))
  isplitl [HX]; · iexact HX
  iintro %v155 %h155 HX
  iapply (ld_s c (g := 0) (kS := 0) (a := (1 - bb 0 1 c) * sz 0 1) (n := sz 0 1) (off16 c) (SG0 ξ 0 c))
  isplitl [HG0_0]; · iexact HG0_0
  iintro %v158 %h158 HG0_0
  iapply (ld_anyO c (n := sz 0 1) (off17 c))
  isplitl [HR0]; · iexact HR0
  iintro %v163 HR0
  iapply (st_o c (n := sz 0 1) (off17 c) (A0 ξ 0 c) (by unfold k0_pay5; exact (sums (φ := X ξ c) (ψ := SG0 ξ 0 c) (χ := A0 ξ 0 c) (a := rv1 0 c) (b := (1 - bb 0 1 c) * sz 0 1) (cast3 h155 _) (cast4 h158 _) (fun r k _ => sum0 ξ c 0 ((1 - bb 0 1 c) * sz 0 1) r k))))
  isplitl [HR0]; · iexact HR0
  iintro HR0
  ihave HC := (cut_rv1 ξ c 0) $$ HR0
  icases HC with ⟨HS0_2, HS0_3⟩
  iapply (done c _)
  iapply Hk $$ Ht0_0 HO HP0_0 HG0_0 HX HS0_2 HS0_3

theorem part7 {Q : (Σ' (v182 : BitVec 32), BitVec 32) → sProp 𝕄} {h0 h1 h2 h3} (v2 v7 v166 v170 : BitVec 32)  :
    iprop(recs ξ K ∗ trI c 0 2 ∗ sSrc ξ c 0 2 ∗ sDst c 0 2 ∗ ow c (evs.drop 9) ∗ trI c 0 3 ∗ sSrc ξ c 0 3 ∗ sDst c 0 3 ∗ trF c 1 0
      ∗ (∀ u0 u1, trF c 0 2 -∗ ow c (evs.drop 11) -∗ trF c 0 3 -∗ trW c 1 0 -∗ sendPay ξ c 1 0 -∗ Q ⟨u0, u1⟩))
    ⊢ WP c (k0_part7 xM h0 oM h1 sM h2 zM h3 cc0_scratch2 cc0_scratch3 c v2 v7 v166 v170) Q := by
  simp only [k0_part7_eq_skeleton]; unfold k0_part7_skel
  simp only [semSignalWord, semWaitWord, Prog.lift, Prog.bind_op, Prog.bind_ret, Prog.pure_eq_ret, wp_deviceId]
  iintro ⟨#HR, Ht0_2, HS0_2, HD0_2, HO, Ht0_3, HS0_3, HD0_3, Ht1_0, Hk⟩
  iapply (send2 ξ K c 0 (evs.drop 10) rfl (dev10 c) rfl rfl (off19 c) (off18 c))
  isplitr; · iexact HR
  isplitl [Ht0_2]; · iexact Ht0_2
  isplitl [HS0_2]; · iexact HS0_2
  isplitl [HD0_2]; · iexact HD0_2
  isplitl [HO]; · iexact HO
  iintro Ht0_2 HO
  iapply (send3 ξ K c 0 (evs.drop 11) rfl (dev11 c) rfl rfl (off21 c) (off20 c))
  isplitr; · iexact HR
  isplitl [Ht0_3]; · iexact Ht0_3
  isplitl [HS0_3]; · iexact HS0_3
  isplitl [HD0_3]; · iexact HD0_3
  isplitl [HO]; · iexact HO
  iintro Ht0_3 HO
  iapply (wait_s ξ K c (g := 1) (j := 0) (l := evs.drop 11) rfl rfl (by decide) rfl)
  isplitr; · iexact HR
  isplitl [Ht1_0]; · iexact Ht1_0
  isplitl [HO]; · iexact HO
  iintro Ht1_0 HO HP1_0
  iapply (done c _)
  iapply Hk $$ Ht0_2 HO Ht0_3 Ht1_0 HP1_0

theorem part8 {Q : (Σ' (v219 : BitVec 32), BitVec 32) → sProp 𝕄} {h0 h1 h2 h3} (v2 v7 v8 v16 v92 v193 : BitVec 32)  :
    iprop(recs ξ K ∗ trW c 1 0 ∗ ow c (evs.drop 11) ∗ xpt ξ c ∗ anyO c (rv1 1 c) (sz 1 1)
      ∗ (∀ u0 u1, trD c 1 0 -∗ ow c (evs.drop 11) -∗ ptS c 1 0 ((1 - bb 1 1 c) * sz 1 1) (sz 1 1) (SG0 ξ 1 c) -∗ xpt ξ c -∗ sSrc ξ c 1 2 -∗ sSrc ξ c 1 3 -∗ Q ⟨u0, u1⟩))
    ⊢ WP c (k0_part8 xM h0 oM h1 sM h2 zM h3 cc0_scratch2 cc0_scratch3 c v2 v7 v8 v16 v92 v193) Q := by
  simp only [k0_part8_eq_skeleton]; unfold k0_part8_skel
  simp only [semSignalWord, semWaitWord, Prog.lift, Prog.bind_op, Prog.bind_ret, Prog.pure_eq_ret, wp_deviceId]
  iintro ⟨#HR, Ht1_0, HO, HX, HR1, Hk⟩
  iapply (wait_r ξ K c (g := 1) (j := 0) (l := evs.drop 11) rfl rfl (by decide) rfl)
  isplitr; · iexact HR
  isplitl [Ht1_0]; · iexact Ht1_0
  isplitl [HO]; · iexact HO
  iintro Ht1_0 HO HG1_0
  ihave HG1_0 := (Entails.of_eq (got_0 ξ c 1)) $$ HG1_0
  iapply (ld_x ξ c (n := sz 1 1) (off22 c))
  isplitl [HX]; · iexact HX
  iintro %v208 %h208 HX
  iapply (ld_s c (g := 1) (kS := 0) (a := (1 - bb 1 1 c) * sz 1 1) (n := sz 1 1) (off23 c) (SG0 ξ 1 c))
  isplitl [HG1_0]; · iexact HG1_0
  iintro %v211 %h211 HG1_0
  iapply (ld_anyO c (n := sz 1 1) (off24 c))
  isplitl [HR1]; · iexact HR1
  iintro %v216 HR1
  iapply (st_o c (n := sz 1 1) (off24 c) (A0 ξ 1 c) (by unfold k0_pay6; exact (sums (φ := X ξ c) (ψ := SG0 ξ 1 c) (χ := A0 ξ 1 c) (a := rv1 1 c) (b := (1 - bb 1 1 c) * sz 1 1) (cast3 h208 _) (cast4 h211 _) (fun r k _ => sum0 ξ c 1 ((1 - bb 1 1 c) * sz 1 1) r k))))
  isplitl [HR1]; · iexact HR1
  iintro HR1
  ihave HC := (cut_rv1 ξ c 1) $$ HR1
  icases HC with ⟨HS1_2, HS1_3⟩
  iapply (done c _)
  iapply Hk $$ Ht1_0 HO HG1_0 HX HS1_2 HS1_3

theorem part9 {Q : (Σ' (v235 : BitVec 32) (v246 : BitVec 32) (v252 : BitVec 32), BitVec 32) → sProp 𝕄} {h0 h1 h2 h3} (v2 v8 v117 v219 : BitVec 32)  :
    iprop(recs ξ K ∗ trI c 1 2 ∗ sSrc ξ c 1 2 ∗ sDst c 1 2 ∗ ow c (evs.drop 11) ∗ trI c 1 3 ∗ sSrc ξ c 1 3 ∗ sDst c 1 3 ∗ trF c 2 0
      ∗ (∀ u0 u1 u2 u3, trF c 1 2 -∗ ow c (evs.drop 13) -∗ trF c 1 3 -∗ trW c 2 0 -∗ sendPay ξ c 2 0 -∗ Q ⟨u0, u1, u2, u3⟩))
    ⊢ WP c (k0_part9 xM h0 oM h1 sM h2 zM h3 cc0_scratch2 cc0_scratch3 c v2 v8 v117 v219) Q := by
  simp only [k0_part9_eq_skeleton]; unfold k0_part9_skel
  simp only [semSignalWord, semWaitWord, Prog.lift, Prog.bind_op, Prog.bind_ret, Prog.pure_eq_ret, wp_deviceId]
  iintro ⟨#HR, Ht1_2, HS1_2, HD1_2, HO, Ht1_3, HS1_3, HD1_3, Ht2_0, Hk⟩
  iapply (send2 ξ K c 1 (evs.drop 12) rfl (dev12 c) rfl rfl (off26 c) (off25 c))
  isplitr; · iexact HR
  isplitl [Ht1_2]; · iexact Ht1_2
  isplitl [HS1_2]; · iexact HS1_2
  isplitl [HD1_2]; · iexact HD1_2
  isplitl [HO]; · iexact HO
  iintro Ht1_2 HO
  iapply (send3 ξ K c 1 (evs.drop 13) rfl (dev13 c) rfl rfl (off28 c) (off27 c))
  isplitr; · iexact HR
  isplitl [Ht1_3]; · iexact Ht1_3
  isplitl [HS1_3]; · iexact HS1_3
  isplitl [HD1_3]; · iexact HD1_3
  isplitl [HO]; · iexact HO
  iintro Ht1_3 HO
  iapply (wait_s ξ K c (g := 2) (j := 0) (l := evs.drop 13) rfl rfl (by decide) rfl)
  isplitr; · iexact HR
  isplitl [Ht2_0]; · iexact Ht2_0
  isplitl [HO]; · iexact HO
  iintro Ht2_0 HO HP2_0
  iapply (done c _)
  iapply Hk $$ Ht1_2 HO Ht1_3 Ht2_0 HP2_0

theorem part10 {Q : (Σ' (v272 : BitVec 32) (v276 : BitVec 32), BitVec 32) → sProp 𝕄} {h0 h1 h2 h3} (v2 v5 v8 v22 v246 v252 c0_i32_241 : BitVec 32)  :
    iprop(recs ξ K ∗ trW c 2 0 ∗ ow c (evs.drop 13) ∗ xpt ξ c ∗ anyO c (rv1 2 c) (sz 2 1) ∗ trI c 2 2 ∗ sDst c 2 2
      ∗ (∀ u0 u1 u2, trD c 2 0 -∗ ow c (evs.drop 14) -∗ ptS c 2 0 ((1 - bb 2 1 c) * sz 2 1) (sz 2 1) (SG0 ξ 2 c) -∗ xpt ξ c -∗ sSrc ξ c 2 3 -∗ trF c 2 2 -∗ Q ⟨u0, u1, u2⟩))
    ⊢ WP c (k0_part10 xM h0 oM h1 sM h2 zM h3 cc0_scratch2 cc0_scratch3 c v2 v5 v8 v22 v246 v252 c0_i32_241) Q := by
  simp only [k0_part10_eq_skeleton]; unfold k0_part10_skel
  simp only [semSignalWord, semWaitWord, Prog.lift, Prog.bind_op, Prog.bind_ret, Prog.pure_eq_ret, wp_deviceId]
  iintro ⟨#HR, Ht2_0, HO, HX, HR2, Ht2_2, HD2_2, Hk⟩
  iapply (wait_r ξ K c (g := 2) (j := 0) (l := evs.drop 13) rfl rfl (by decide) rfl)
  isplitr; · iexact HR
  isplitl [Ht2_0]; · iexact Ht2_0
  isplitl [HO]; · iexact HO
  iintro Ht2_0 HO HG2_0
  ihave HG2_0 := (Entails.of_eq (got_0 ξ c 2)) $$ HG2_0
  iapply (ld_x ξ c (n := sz 2 1) (off29 c))
  isplitl [HX]; · iexact HX
  iintro %v261 %h261 HX
  iapply (ld_s c (g := 2) (kS := 0) (a := (1 - bb 2 1 c) * sz 2 1) (n := sz 2 1) (off30 c) (SG0 ξ 2 c))
  isplitl [HG2_0]; · iexact HG2_0
  iintro %v264 %h264 HG2_0
  iapply (ld_anyO c (n := sz 2 1) (off31 c))
  isplitl [HR2]; · iexact HR2
  iintro %v269 HR2
  iapply (st_o c (n := sz 2 1) (off31 c) (A0 ξ 2 c) (by unfold k0_pay7; exact (sums (φ := X ξ c) (ψ := SG0 ξ 2 c) (χ := A0 ξ 2 c) (a := rv1 2 c) (b := (1 - bb 2 1 c) * sz 2 1) (cast3 h261 _) (cast4 h264 _) (fun r k _ => sum0 ξ c 2 ((1 - bb 2 1 c) * sz 2 1) r k))))
  isplitl [HR2]; · iexact HR2
  iintro HR2
  ihave HC := (cut_rv1 ξ c 2) $$ HR2
  icases HC with ⟨HS2_2, HS2_3⟩
  iapply (send2 ξ K c 2 (evs.drop 14) rfl (dev14 c) rfl rfl (off33 c) (off32 c))
  isplitr; · iexact HR
  isplitl [Ht2_2]; · iexact Ht2_2
  isplitl [HS2_2]; · iexact HS2_2
  isplitl [HD2_2]; · iexact HD2_2
  isplitl [HO]; · iexact HO
  iintro Ht2_2 HO
  iapply (done c _)
  iapply Hk $$ Ht2_0 HO HG2_0 HX HS2_3 Ht2_2

theorem part11 {Q : (Σ' (v288 : BitVec 32) (v298 : BitVec 32), BitVec 32) → sProp 𝕄} {h0 h1 h2 h3} (v2 v5 v10 v79 v272 c80_i32_264 : BitVec 32)  :
    iprop(recs ξ K ∗ trI c 2 3 ∗ sSrc ξ c 2 3 ∗ sDst c 2 3 ∗ ow c (evs.drop 14) ∗ trF c 0 1
      ∗ (∀ u0 u1 u2, trF c 2 3 -∗ ow c (evs.drop 15) -∗ trD c 0 1 -∗ sendPay ξ c 0 1 -∗ ptS c 0 0 (bb 0 1 c * sz 0 1) (sz 0 1) (SG0 ξ 0 c) -∗ Q ⟨u0, u1, u2⟩))
    ⊢ WP c (k0_part11 xM h0 oM h1 sM h2 zM h3 cc0_scratch2 cc0_scratch3 c v2 v5 v10 v79 v272 c80_i32_264) Q := by
  simp only [k0_part11_eq_skeleton]; unfold k0_part11_skel
  simp only [semSignalWord, semWaitWord, Prog.lift, Prog.bind_op, Prog.bind_ret, Prog.pure_eq_ret, wp_deviceId]
  iintro ⟨#HR, Ht2_3, HS2_3, HD2_3, HO, Ht0_1, Hk⟩
  iapply (send3 ξ K c 2 (evs.drop 15) rfl (dev15 c) rfl rfl (off35 c) (off34 c))
  isplitr; · iexact HR
  isplitl [Ht2_3]; · iexact Ht2_3
  isplitl [HS2_3]; · iexact HS2_3
  isplitl [HD2_3]; · iexact HD2_3
  isplitl [HO]; · iexact HO
  iintro Ht2_3 HO
  iapply (wait_s ξ K c (g := 0) (j := 1) (l := evs.drop 15) rfl rfl (by decide) rfl)
  isplitr; · iexact HR
  isplitl [Ht0_1]; · iexact Ht0_1
  isplitl [HO]; · iexact HO
  iintro Ht0_1 HO HP0_1
  iapply (wait_r ξ K c (g := 0) (j := 1) (l := evs.drop 15) rfl rfl (by decide) rfl)
  isplitr; · iexact HR
  isplitl [Ht0_1]; · iexact Ht0_1
  isplitl [HO]; · iexact HO
  iintro Ht0_1 HO HG0_1
  ihave HG0_1 := (Entails.of_eq (got_1 ξ c 0)) $$ HG0_1
  iapply (done c _)
  iapply Hk $$ Ht2_3 HO Ht0_1 HP0_1 HG0_1

end Cert.Butterfly

end
-- ==== Proof.Parts3.lean ====
/-
# The body, third window: the sums over two and four devices

One lemma per window of the body: what the window takes and what it leaves, for any continuation `Q`.
-/
module

public import proofs.«01_k».proof.Proof.Moves
public import proofs.«01_k».proof.Proof.Gen.KernelIdeal.Skeleton

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem part12 {Q : (Σ' (v322 : BitVec 32), FVec F S160x1024 .bf16) → sProp 𝕄} {h0 h1 h2 h3} (v7 v10 v16 v104 v298 v311 : BitVec 32)  :
    iprop(recs ξ K ∗ xpt ξ c ∗ ptS c 0 0 (bb 0 1 c * sz 0 1) (sz 0 1) (SG0 ξ 0 c) ∗ anyO c (kp1 0 c) (sz 0 1) ∗ trF c 1 1 ∗ ow c (evs.drop 15)
      ∗ (∀ u0 (v338 : FVec F S160x1024 .bf16), ⌜∀ j, v338 j = X ξ c (kp1 1 c + (j 0).val) (j 1).val⌝ -∗ xpt ξ c -∗ ptS c 0 0 (bb 0 1 c * sz 0 1) (sz 0 1) (SG0 ξ 0 c) -∗ ptO c (rv0 0 c) (sz 0 2) fullShare (A0 ξ 0 c) -∗ ptO c (kp2 0 c) (sz 0 2) fullShare (A0 ξ 0 c) -∗ trD c 1 1 -∗ ow c (evs.drop 15) -∗ sendPay ξ c 1 1 -∗ ptS c 1 0 (bb 1 1 c * sz 1 1) (sz 1 1) (SG0 ξ 1 c) -∗ Q ⟨u0, v338⟩))
    ⊢ WP c (k0_part12 xM h0 oM h1 sM h2 zM h3 cc0_scratch2 cc0_scratch3 c v7 v10 v16 v104 v298 v311) Q := by
  simp only [k0_part12_eq_skeleton]; unfold k0_part12_skel
  simp only [semSignalWord, semWaitWord, Prog.lift, Prog.bind_op, Prog.bind_ret, Prog.pure_eq_ret, wp_deviceId]
  iintro ⟨#HR, HX, HG0_1, HK0, Ht1_1, HO, Hk⟩
  iapply (ld_x ξ c (n := sz 0 1) (off36 c))
  isplitl [HX]; · iexact HX
  iintro %v313 %h313 HX
  iapply (ld_s c (g := 0) (kS := 0) (a := bb 0 1 c * sz 0 1) (n := sz 0 1) (off37 c) (SG0 ξ 0 c))
  isplitl [HG0_1]; · iexact HG0_1
  iintro %v316 %h316 HG0_1
  iapply (ld_anyO c (n := sz 0 1) (off38 c))
  isplitl [HK0]; · iexact HK0
  iintro %v321 HK0
  iapply (st_o c (n := sz 0 1) (off38 c) (A0 ξ 0 c) (by unfold k0_pay8; exact (sums (φ := X ξ c) (ψ := SG0 ξ 0 c) (χ := A0 ξ 0 c) (a := kp1 0 c) (b := bb 0 1 c * sz 0 1) (cast3 h313 _) (cast4 h316 _) (fun r k _ => sum0 ξ c 0 (bb 0 1 c * sz 0 1) r k))))
  isplitl [HK0]; · iexact HK0
  iintro HK0
  ihave HC := (cut_kp1 ξ c 0) $$ HK0
  icases HC with ⟨HA0, HB0⟩
  iapply (wait_s ξ K c (g := 1) (j := 1) (l := evs.drop 15) rfl rfl (by decide) rfl)
  isplitr; · iexact HR
  isplitl [Ht1_1]; · iexact Ht1_1
  isplitl [HO]; · iexact HO
  iintro Ht1_1 HO HP1_1
  iapply (wait_r ξ K c (g := 1) (j := 1) (l := evs.drop 15) rfl rfl (by decide) rfl)
  isplitr; · iexact HR
  isplitl [Ht1_1]; · iexact Ht1_1
  isplitl [HO]; · iexact HO
  iintro Ht1_1 HO HG1_1
  ihave HG1_1 := (Entails.of_eq (got_1 ξ c 1)) $$ HG1_1
  iapply (ld_x ξ c (n := sz 1 1) (off39 c))
  isplitl [HX]; · iexact HX
  iintro %v337 %h337 HX
  iapply (done c _)
  iapply Hk $$ [] HX HG0_1 HA0 HB0 Ht1_1 HO HP1_1 HG1_1
  ipureintro; exact (by unfold k0_pay9; exact (cast3 h337 _))

theorem part13 {Q : (FVec F S160x1024 .bf16) → sProp 𝕄} {h0 h1 h2 h3} (v8 v16 v22 v129 v322 : BitVec 32) (v338 : FVec F S160x1024 .bf16) (h338 : ∀ j, v338 j = X ξ c (kp1 1 c + (j 0).val) (j 1).val) :
    iprop(recs ξ K ∗ ptS c 1 0 (bb 1 1 c * sz 1 1) (sz 1 1) (SG0 ξ 1 c) ∗ anyO c (kp1 1 c) (sz 1 1) ∗ trF c 2 1 ∗ ow c (evs.drop 15) ∗ xpt ξ c
      ∗ (∀ (v366 : FVec F S160x1024 .bf16), ⌜∀ j, v366 j = A0 ξ 2 c (kp1 2 c + (j 0).val) (j 1).val⌝ -∗ ptS c 1 0 (bb 1 1 c * sz 1 1) (sz 1 1) (SG0 ξ 1 c) -∗ ptO c (rv0 1 c) (sz 1 2) fullShare (A0 ξ 1 c) -∗ ptO c (kp2 1 c) (sz 1 2) fullShare (A0 ξ 1 c) -∗ trD c 2 1 -∗ ow c (evs.drop 15) -∗ sendPay ξ c 2 1 -∗ ptS c 2 0 (bb 2 1 c * sz 2 1) (sz 2 1) (SG0 ξ 2 c) -∗ xpt ξ c -∗ Q v366))
    ⊢ WP c (k0_part13 xM h0 oM h1 sM h2 zM h3 cc0_scratch2 cc0_scratch3 c v8 v16 v22 v129 v322 v338) Q := by
  simp only [k0_part13_eq_skeleton]; unfold k0_part13_skel
  simp only [semSignalWord, semWaitWord, Prog.lift, Prog.bind_op, Prog.bind_ret, Prog.pure_eq_ret, wp_deviceId]
  iintro ⟨#HR, HG1_1, HK1, Ht2_1, HO, HX, Hk⟩
  iapply (ld_s c (g := 1) (kS := 0) (a := bb 1 1 c * sz 1 1) (n := sz 1 1) (off40 c) (SG0 ξ 1 c))
  isplitl [HG1_1]; · iexact HG1_1
  iintro %v340 %h340 HG1_1
  iapply (ld_anyO c (n := sz 1 1) (off41 c))
  isplitl [HK1]; · iexact HK1
  iintro %v345 HK1
  iapply (st_o c (n := sz 1 1) (off41 c) (A0 ξ 1 c) (by unfold k0_pay10; exact (sums (φ := X ξ c) (ψ := SG0 ξ 1 c) (χ := A0 ξ 1 c) (a := kp1 1 c) (b := bb 1 1 c * sz 1 1) h338 (cast4 h340 _) (fun r k _ => sum0 ξ c 1 (bb 1 1 c * sz 1 1) r k))))
  isplitl [HK1]; · iexact HK1
  iintro HK1
  ihave HC := (cut_kp1 ξ c 1) $$ HK1
  icases HC with ⟨HA1, HB1⟩
  iapply (wait_s ξ K c (g := 2) (j := 1) (l := evs.drop 15) rfl rfl (by decide) rfl)
  isplitr; · iexact HR
  isplitl [Ht2_1]; · iexact Ht2_1
  isplitl [HO]; · iexact HO
  iintro Ht2_1 HO HP2_1
  iapply (wait_r ξ K c (g := 2) (j := 1) (l := evs.drop 15) rfl rfl (by decide) rfl)
  isplitr; · iexact HR
  isplitl [Ht2_1]; · iexact Ht2_1
  isplitl [HO]; · iexact HO
  iintro Ht2_1 HO HG2_1
  ihave HG2_1 := (Entails.of_eq (got_1 ξ c 2)) $$ HG2_1
  iapply (ld_x ξ c (n := sz 2 1) (off42 c))
  isplitl [HX]; · iexact HX
  iintro %v361 %h361 HX
  iapply (ld_s c (g := 2) (kS := 0) (a := bb 2 1 c * sz 2 1) (n := sz 2 1) (off43 c) (SG0 ξ 2 c))
  isplitl [HG2_1]; · iexact HG2_1
  iintro %v364 %h364 HG2_1
  iapply (done c _)
  iapply Hk $$ [] HG1_1 HA1 HB1 Ht2_1 HO HP2_1 HG2_1 HX
  ipureintro; exact (by unfold k0_pay11; exact (sums (φ := X ξ c) (ψ := SG0 ξ 2 c) (χ := A0 ξ 2 c) (a := kp1 2 c) (b := bb 2 1 c * sz 2 1) (cast3 h361 _) (cast4 h364 _) (fun r k _ => sum0 ξ c 2 (bb 2 1 c * sz 2 1) r k)))

theorem part14 {Q : (Σ' (v395 : BitVec 32), BitVec 32) → sProp 𝕄} {h0 h1 h2 h3} (v7 v12 v170 : BitVec 32) (v366 : FVec F S160x1024 .bf16) (h366 : ∀ j, v366 j = A0 ξ 2 c (kp1 2 c + (j 0).val) (j 1).val) :
    iprop(recs ξ K ∗ anyO c (kp1 2 c) (sz 2 1) ∗ trF c 0 2 ∗ ow c (evs.drop 15) ∗ ptO c (rv0 0 c) (sz 0 2) fullShare (A0 ξ 0 c)
      ∗ (∀ u0 u1, ptO c (rv0 2 c) (sz 2 2) fullShare (A0 ξ 2 c) -∗ ptO c (kp2 2 c) (sz 2 2) fullShare (A0 ξ 2 c) -∗ trD c 0 2 -∗ ow c (evs.drop 15) -∗ sendPay ξ c 0 2 -∗ ptS c 0 1 ((1 - bb 0 2 c) * sz 0 2) (sz 0 2) (SG1 ξ 0 c) -∗ sDst c 0 9 -∗ sSrc ξ c 0 4 -∗ Q ⟨u0, u1⟩))
    ⊢ WP c (k0_part14 xM h0 oM h1 sM h2 zM h3 cc0_scratch2 cc0_scratch3 c v7 v12 v170 v366) Q := by
  simp only [k0_part14_eq_skeleton]; unfold k0_part14_skel
  simp only [semSignalWord, semWaitWord, Prog.lift, Prog.bind_op, Prog.bind_ret, Prog.pure_eq_ret, wp_deviceId]
  iintro ⟨#HR, HK2, Ht0_2, HO, HA0, Hk⟩
  iapply (ld_anyO c (n := sz 2 1) (off44 c))
  isplitl [HK2]; · iexact HK2
  iintro %v369 HK2
  iapply (st_o c (n := sz 2 1) (off44 c) (A0 ξ 2 c) h366)
  isplitl [HK2]; · iexact HK2
  iintro HK2
  ihave HC := (cut_kp1 ξ c 2) $$ HK2
  icases HC with ⟨HA2, HB2⟩
  iapply (wait_s ξ K c (g := 0) (j := 2) (l := evs.drop 15) rfl rfl (by decide) rfl)
  isplitr; · iexact HR
  isplitl [Ht0_2]; · iexact Ht0_2
  isplitl [HO]; · iexact HO
  iintro Ht0_2 HO HP0_2
  iapply (wait_r ξ K c (g := 0) (j := 2) (l := evs.drop 15) rfl rfl (by decide) rfl)
  isplitr; · iexact HR
  isplitl [Ht0_2]; · iexact Ht0_2
  isplitl [HO]; · iexact HO
  iintro Ht0_2 HO HG0_2
  ihave HG0_2 := (Entails.of_eq (got_2 ξ c 0)) $$ HG0_2
  icases HG0_2 with ⟨HG0_2, HD0_9⟩
  iapply (ld_o c (n := sz 0 2) (off45 c) fullShare (A0 ξ 0 c))
  isplitl [HA0]; · iexact HA0
  iintro %v386 %h386 HA0
  iapply (ld_s c (g := 0) (kS := 1) (a := (1 - bb 0 2 c) * sz 0 2) (n := sz 0 2) (off46 c) (SG1 ξ 0 c))
  isplitl [HG0_2]; · iexact HG0_2
  iintro %v389 %h389 HG0_2
  iapply (ld_o c (n := sz 0 2) (off45 c) fullShare (A0 ξ 0 c))
  isplitl [HA0]; · iexact HA0
  iintro %v394 %h394 HA0
  ihave HA0 := (ptO_any c _ _ _) $$ HA0
  iapply (st_o c (n := sz 0 2) (off45 c) (A1 ξ 0 c) (by unfold k0_pay12; exact (sums (φ := A0 ξ 0 c) (ψ := SG1 ξ 0 c) (χ := A1 ξ 0 c) (a := rv0 0 c) (b := (1 - bb 0 2 c) * sz 0 2) (cast2 h386 _) (cast4 h389 _) (fun r k _ => sum1 ξ c 0 ((1 - bb 0 2 c) * sz 0 2) r k))))
  isplitl [HA0]; · iexact HA0
  iintro HA0
  ihave HS0_4 := (is_src4 ξ c 0) $$ HA0
  iapply (done c _)
  iapply Hk $$ HA2 HB2 Ht0_2 HO HP0_2 HG0_2 HD0_9 HS0_4

theorem part15 {Q : (Σ' (v398 : BitVec 32), BitVec 32) → sProp 𝕄} {h0 h1 h2 h3} (v2 v8 v12 v223 v395 c96_i32_381 : BitVec 32)  :
    iprop(recs ξ K ∗ trI c 0 4 ∗ sSrc ξ c 0 4 ∗ sDst c 0 4 ∗ ow c (evs.drop 15) ∗ trF c 1 2
      ∗ (∀ u0 u1, trF c 0 4 -∗ ow c (evs.drop 16) -∗ trW c 1 2 -∗ sendPay ξ c 1 2 -∗ Q ⟨u0, u1⟩))
    ⊢ WP c (k0_part15 xM h0 oM h1 sM h2 zM h3 cc0_scratch2 cc0_scratch3 c v2 v8 v12 v223 v395 c96_i32_381) Q := by
  simp only [k0_part15_eq_skeleton]; unfold k0_part15_skel
  simp only [semSignalWord, semWaitWord, Prog.lift, Prog.bind_op, Prog.bind_ret, Prog.pure_eq_ret, wp_deviceId]
  iintro ⟨#HR, Ht0_4, HS0_4, HD0_4, HO, Ht1_2, Hk⟩
  iapply (send4 ξ K c 0 (evs.drop 16) rfl (dev16 c) rfl rfl (off47 c) rfl)
  isplitr; · iexact HR
  isplitl [Ht0_4]; · iexact Ht0_4
  isplitl [HS0_4]; · iexact HS0_4
  isplitl [HD0_4]; · iexact HD0_4
  isplitl [HO]; · iexact HO
  iintro Ht0_4 HO
  iapply (wait_s ξ K c (g := 1) (j := 2) (l := evs.drop 16) rfl rfl (by decide) rfl)
  isplitr; · iexact HR
  isplitl [Ht1_2]; · iexact Ht1_2
  isplitl [HO]; · iexact HO
  iintro Ht1_2 HO HP1_2
  iapply (done c _)
  iapply Hk $$ Ht0_4 HO Ht1_2 HP1_2

theorem part16 {Q : (Σ' (v436 : BitVec 32), BitVec 32) → sProp 𝕄} {h0 h1 h2 h3} (v2 v5 v8 v18 v409 : BitVec 32)  :
    iprop(recs ξ K ∗ trW c 1 2 ∗ ow c (evs.drop 16) ∗ ptO c (rv0 1 c) (sz 1 2) fullShare (A0 ξ 1 c) ∗ trI c 1 4 ∗ sDst c 1 4
      ∗ (∀ u0 u1, trD c 1 2 -∗ ow c (evs.drop 17) -∗ ptS c 1 1 ((1 - bb 1 2 c) * sz 1 2) (sz 1 2) (SG1 ξ 1 c) -∗ sDst c 1 9 -∗ trF c 1 4 -∗ Q ⟨u0, u1⟩))
    ⊢ WP c (k0_part16 xM h0 oM h1 sM h2 zM h3 cc0_scratch2 cc0_scratch3 c v2 v5 v8 v18 v409) Q := by
  simp only [k0_part16_eq_skeleton]; unfold k0_part16_skel
  simp only [semSignalWord, semWaitWord, Prog.lift, Prog.bind_op, Prog.bind_ret, Prog.pure_eq_ret, wp_deviceId]
  iintro ⟨#HR, Ht1_2, HO, HA1, Ht1_4, HD1_4, Hk⟩
  iapply (wait_r ξ K c (g := 1) (j := 2) (l := evs.drop 16) rfl rfl (by decide) rfl)
  isplitr; · iexact HR
  isplitl [Ht1_2]; · iexact Ht1_2
  isplitl [HO]; · iexact HO
  iintro Ht1_2 HO HG1_2
  ihave HG1_2 := (Entails.of_eq (got_2 ξ c 1)) $$ HG1_2
  icases HG1_2 with ⟨HG1_2, HD1_9⟩
  iapply (ld_o c (n := sz 1 2) (off48 c) fullShare (A0 ξ 1 c))
  isplitl [HA1]; · iexact HA1
  iintro %v424 %h424 HA1
  iapply (ld_s c (g := 1) (kS := 1) (a := (1 - bb 1 2 c) * sz 1 2) (n := sz 1 2) (off49 c) (SG1 ξ 1 c))
  isplitl [HG1_2]; · iexact HG1_2
  iintro %v427 %h427 HG1_2
  iapply (ld_o c (n := sz 1 2) (off48 c) fullShare (A0 ξ 1 c))
  isplitl [HA1]; · iexact HA1
  iintro %v432 %h432 HA1
  ihave HA1 := (ptO_any c _ _ _) $$ HA1
  iapply (st_o c (n := sz 1 2) (off48 c) (A1 ξ 1 c) (by unfold k0_pay13; exact (sums (φ := A0 ξ 1 c) (ψ := SG1 ξ 1 c) (χ := A1 ξ 1 c) (a := rv0 1 c) (b := (1 - bb 1 2 c) * sz 1 2) (cast2 h424 _) (cast4 h427 _) (fun r k _ => sum1 ξ c 1 ((1 - bb 1 2 c) * sz 1 2) r k))))
  isplitl [HA1]; · iexact HA1
  iintro HA1
  ihave HS1_4 := (is_src4 ξ c 1) $$ HA1
  iapply (send4 ξ K c 1 (evs.drop 17) rfl (dev17 c) rfl rfl (off50 c) rfl)
  isplitr; · iexact HR
  isplitl [Ht1_4]; · iexact Ht1_4
  isplitl [HS1_4]; · iexact HS1_4
  isplitl [HD1_4]; · iexact HD1_4
  isplitl [HO]; · iexact HO
  iintro Ht1_4 HO
  iapply (done c _)
  iapply Hk $$ Ht1_2 HO HG1_2 HD1_9 Ht1_4

theorem part17 {Q : (BitVec 32) → sProp 𝕄} {h0 h1 h2 h3} (v2 v5 v24 v276 v447 : BitVec 32)  :
    iprop(recs ξ K ∗ trF c 2 2 ∗ ow c (evs.drop 17) ∗ ptO c (rv0 2 c) (sz 2 2) fullShare (A0 ξ 2 c)
      ∗ (∀ u0, trD c 2 2 -∗ ow c (evs.drop 17) -∗ sendPay ξ c 2 2 -∗ ptS c 2 1 ((1 - bb 2 2 c) * sz 2 2) (sz 2 2) (SG1 ξ 2 c) -∗ sDst c 2 9 -∗ sSrc ξ c 2 4 -∗ Q u0))
    ⊢ WP c (k0_part17 xM h0 oM h1 sM h2 zM h3 cc0_scratch2 cc0_scratch3 c v2 v5 v24 v276 v447) Q := by
  simp only [k0_part17_eq_skeleton]; unfold k0_part17_skel
  simp only [semSignalWord, semWaitWord, Prog.lift, Prog.bind_op, Prog.bind_ret, Prog.pure_eq_ret, wp_deviceId]
  iintro ⟨#HR, Ht2_2, HO, HA2, Hk⟩
  iapply (wait_s ξ K c (g := 2) (j := 2) (l := evs.drop 17) rfl rfl (by decide) rfl)
  isplitr; · iexact HR
  isplitl [Ht2_2]; · iexact Ht2_2
  isplitl [HO]; · iexact HO
  iintro Ht2_2 HO HP2_2
  iapply (wait_r ξ K c (g := 2) (j := 2) (l := evs.drop 17) rfl rfl (by decide) rfl)
  isplitr; · iexact HR
  isplitl [Ht2_2]; · iexact Ht2_2
  isplitl [HO]; · iexact HO
  iintro Ht2_2 HO HG2_2
  ihave HG2_2 := (Entails.of_eq (got_2 ξ c 2)) $$ HG2_2
  icases HG2_2 with ⟨HG2_2, HD2_9⟩
  iapply (ld_o c (n := sz 2 2) (off51 c) fullShare (A0 ξ 2 c))
  isplitl [HA2]; · iexact HA2
  iintro %v462 %h462 HA2
  iapply (ld_s c (g := 2) (kS := 1) (a := (1 - bb 2 2 c) * sz 2 2) (n := sz 2 2) (off52 c) (SG1 ξ 2 c))
  isplitl [HG2_2]; · iexact HG2_2
  iintro %v465 %h465 HG2_2
  iapply (ld_o c (n := sz 2 2) (off51 c) fullShare (A0 ξ 2 c))
  isplitl [HA2]; · iexact HA2
  iintro %v470 %h470 HA2
  ihave HA2 := (ptO_any c _ _ _) $$ HA2
  iapply (st_o c (n := sz 2 2) (off51 c) (A1 ξ 2 c) (by unfold k0_pay14; exact (sums (φ := A0 ξ 2 c) (ψ := SG1 ξ 2 c) (χ := A1 ξ 2 c) (a := rv0 2 c) (b := (1 - bb 2 2 c) * sz 2 2) (cast2 h462 _) (cast4 h465 _) (fun r k _ => sum1 ξ c 2 ((1 - bb 2 2 c) * sz 2 2) r k))))
  isplitl [HA2]; · iexact HA2
  iintro HA2
  ihave HS2_4 := (is_src4 ξ c 2) $$ HA2
  iapply (done c _)
  iapply Hk $$ Ht2_2 HO HP2_2 HG2_2 HD2_9 HS2_4

end Cert.Butterfly

end
-- ==== Proof.Parts4.lean ====
/-
# The body, fourth window: the sums over four and eight devices

One lemma per window of the body: what the window takes and what it leaves, for any continuation `Q`.
-/
module

public import proofs.«01_k».proof.Proof.Moves
public import proofs.«01_k».proof.Proof.Gen.KernelIdeal.Skeleton

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem part18 {Q : (FVec F S96x1024 .bf16) → sProp 𝕄} {h0 h1 h2 h3} (v7 v12 v182 : BitVec 32)  :
    iprop(recs ξ K ∗ trI c 2 4 ∗ sSrc ξ c 2 4 ∗ sDst c 2 4 ∗ ow c (evs.drop 17) ∗ trF c 0 3 ∗ ptO c (kp2 0 c) (sz 0 2) fullShare (A0 ξ 0 c)
      ∗ (∀ (v504 : FVec F S96x1024 .bf16), ⌜∀ j, v504 j = A1 ξ 0 c (kp2 0 c + (j 0).val) (j 1).val⌝ -∗ trF c 2 4 -∗ ow c (evs.drop 18) -∗ trD c 0 3 -∗ sendPay ξ c 0 3 -∗ ptS c 0 1 (bb 0 2 c * sz 0 2) (sz 0 2) (SG1 ξ 0 c) -∗ sDst c 0 8 -∗ ptO c (kp2 0 c) (sz 0 2) fullShare (A0 ξ 0 c) -∗ Q v504))
    ⊢ WP c (k0_part18 xM h0 oM h1 sM h2 zM h3 cc0_scratch2 cc0_scratch3 c v7 v12 v182) Q := by
  simp only [k0_part18_eq_skeleton]; unfold k0_part18_skel
  simp only [semSignalWord, semWaitWord, Prog.lift, Prog.bind_op, Prog.bind_ret, Prog.pure_eq_ret, wp_deviceId]
  iintro ⟨#HR, Ht2_4, HS2_4, HD2_4, HO, Ht0_3, HB0, Hk⟩
  iapply (send4 ξ K c 2 (evs.drop 18) rfl (dev18 c) rfl rfl (off53 c) rfl)
  isplitr; · iexact HR
  isplitl [Ht2_4]; · iexact Ht2_4
  isplitl [HS2_4]; · iexact HS2_4
  isplitl [HD2_4]; · iexact HD2_4
  isplitl [HO]; · iexact HO
  iintro Ht2_4 HO
  iapply (wait_s ξ K c (g := 0) (j := 3) (l := evs.drop 18) rfl rfl (by decide) rfl)
  isplitr; · iexact HR
  isplitl [Ht0_3]; · iexact Ht0_3
  isplitl [HO]; · iexact HO
  iintro Ht0_3 HO HP0_3
  iapply (wait_r ξ K c (g := 0) (j := 3) (l := evs.drop 18) rfl rfl (by decide) rfl)
  isplitr; · iexact HR
  isplitl [Ht0_3]; · iexact Ht0_3
  isplitl [HO]; · iexact HO
  iintro Ht0_3 HO HG0_3
  ihave HG0_3 := (Entails.of_eq (got_3 ξ c 0)) $$ HG0_3
  icases HG0_3 with ⟨HG0_3, HD0_8⟩
  iapply (ld_o c (n := sz 0 2) (off54 c) fullShare (A0 ξ 0 c))
  isplitl [HB0]; · iexact HB0
  iintro %v499 %h499 HB0
  iapply (ld_s c (g := 0) (kS := 1) (a := bb 0 2 c * sz 0 2) (n := sz 0 2) (off55 c) (SG1 ξ 0 c))
  isplitl [HG0_3]; · iexact HG0_3
  iintro %v502 %h502 HG0_3
  iapply (ld_o c (n := sz 0 2) (off54 c) fullShare (A0 ξ 0 c))
  isplitl [HB0]; · iexact HB0
  iintro %v507 %h507 HB0
  iapply (done c _)
  iapply Hk $$ [] Ht2_4 HO Ht0_3 HP0_3 HG0_3 HD0_8 HB0
  ipureintro; exact (by unfold k0_pay15; exact (sums (φ := A0 ξ 0 c) (ψ := SG1 ξ 0 c) (χ := A1 ξ 0 c) (a := kp2 0 c) (b := bb 0 2 c * sz 0 2) (cast2 h499 _) (cast4 h502 _) (fun r k _ => sum1 ξ c 0 (bb 0 2 c * sz 0 2) r k)))

theorem part19 {Q : (BitVec 32) → sProp 𝕄} {h0 h1 h2 h3} (v5 v8 v18 v235 : BitVec 32) (v504 : FVec F S96x1024 .bf16) (h504 : ∀ j, v504 j = A1 ξ 0 c (kp2 0 c + (j 0).val) (j 1).val) :
    iprop(recs ξ K ∗ ptO c (kp2 0 c) (sz 0 2) fullShare (A0 ξ 0 c) ∗ trF c 1 3 ∗ ow c (evs.drop 18) ∗ ptO c (kp2 1 c) (sz 1 2) fullShare (A0 ξ 1 c)
      ∗ (∀ u0, ptO c (kp2 0 c) (sz 0 2) fullShare (A1 ξ 0 c) -∗ trD c 1 3 -∗ ow c (evs.drop 18) -∗ sendPay ξ c 1 3 -∗ ptS c 1 1 (bb 1 2 c * sz 1 2) (sz 1 2) (SG1 ξ 1 c) -∗ sDst c 1 8 -∗ ptO c (kp2 1 c) (sz 1 2) fullShare (A1 ξ 1 c) -∗ Q u0))
    ⊢ WP c (k0_part19 xM h0 oM h1 sM h2 zM h3 cc0_scratch2 cc0_scratch3 c v5 v8 v18 v235 v504) Q := by
  simp only [k0_part19_eq_skeleton]; unfold k0_part19_skel
  simp only [semSignalWord, semWaitWord, Prog.lift, Prog.bind_op, Prog.bind_ret, Prog.pure_eq_ret, wp_deviceId]
  iintro ⟨#HR, HB0, Ht1_3, HO, HB1, Hk⟩
  ihave HB0 := (ptO_any c _ _ _) $$ HB0
  iapply (st_o c (n := sz 0 2) (off54 c) (A1 ξ 0 c) h504)
  isplitl [HB0]; · iexact HB0
  iintro HB0
  iapply (wait_s ξ K c (g := 1) (j := 3) (l := evs.drop 18) rfl rfl (by decide) rfl)
  isplitr; · iexact HR
  isplitl [Ht1_3]; · iexact Ht1_3
  isplitl [HO]; · iexact HO
  iintro Ht1_3 HO HP1_3
  iapply (wait_r ξ K c (g := 1) (j := 3) (l := evs.drop 18) rfl rfl (by decide) rfl)
  isplitr; · iexact HR
  isplitl [Ht1_3]; · iexact Ht1_3
  isplitl [HO]; · iexact HO
  iintro Ht1_3 HO HG1_3
  ihave HG1_3 := (Entails.of_eq (got_3 ξ c 1)) $$ HG1_3
  icases HG1_3 with ⟨HG1_3, HD1_8⟩
  iapply (ld_o c (n := sz 1 2) (off56 c) fullShare (A0 ξ 1 c))
  isplitl [HB1]; · iexact HB1
  iintro %v523 %h523 HB1
  iapply (ld_s c (g := 1) (kS := 1) (a := bb 1 2 c * sz 1 2) (n := sz 1 2) (off57 c) (SG1 ξ 1 c))
  isplitl [HG1_3]; · iexact HG1_3
  iintro %v526 %h526 HG1_3
  iapply (ld_o c (n := sz 1 2) (off56 c) fullShare (A0 ξ 1 c))
  isplitl [HB1]; · iexact HB1
  iintro %v531 %h531 HB1
  ihave HB1 := (ptO_any c _ _ _) $$ HB1
  iapply (st_o c (n := sz 1 2) (off56 c) (A1 ξ 1 c) (by unfold k0_pay16; exact (sums (φ := A0 ξ 1 c) (ψ := SG1 ξ 1 c) (χ := A1 ξ 1 c) (a := kp2 1 c) (b := bb 1 2 c * sz 1 2) (cast2 h523 _) (cast4 h526 _) (fun r k _ => sum1 ξ c 1 (bb 1 2 c * sz 1 2) r k))))
  isplitl [HB1]; · iexact HB1
  iintro HB1
  iapply (done c _)
  iapply Hk $$ HB0 Ht1_3 HO HP1_3 HG1_3 HD1_8 HB1

theorem part20 {Q : (PUnit) → sProp 𝕄} {h0 h1 h2 h3} (v24 v288 v532 : BitVec 32)  :
    iprop(recs ξ K ∗ trF c 2 3 ∗ ow c (evs.drop 18) ∗ ptO c (kp2 2 c) (sz 2 2) fullShare (A0 ξ 2 c)
      ∗ (trD c 2 3 -∗ ow c (evs.drop 18) -∗ sendPay ξ c 2 3 -∗ ptS c 2 1 (bb 2 2 c * sz 2 2) (sz 2 2) (SG1 ξ 2 c) -∗ sDst c 2 8 -∗ ptO c (kp2 2 c) (sz 2 2) fullShare (A1 ξ 2 c) -∗ Q ⟨⟩))
    ⊢ WP c (k0_part20 xM h0 oM h1 sM h2 zM h3 cc0_scratch2 cc0_scratch3 c v24 v288 v532) Q := by
  simp only [k0_part20_eq_skeleton]; unfold k0_part20_skel
  simp only [semSignalWord, semWaitWord, Prog.lift, Prog.bind_op, Prog.bind_ret, Prog.pure_eq_ret, wp_deviceId]
  iintro ⟨#HR, Ht2_3, HO, HB2, Hk⟩
  iapply (wait_s ξ K c (g := 2) (j := 3) (l := evs.drop 18) rfl rfl (by decide) rfl)
  isplitr; · iexact HR
  isplitl [Ht2_3]; · iexact Ht2_3
  isplitl [HO]; · iexact HO
  iintro Ht2_3 HO HP2_3
  iapply (wait_r ξ K c (g := 2) (j := 3) (l := evs.drop 18) rfl rfl (by decide) rfl)
  isplitr; · iexact HR
  isplitl [Ht2_3]; · iexact Ht2_3
  isplitl [HO]; · iexact HO
  iintro Ht2_3 HO HG2_3
  ihave HG2_3 := (Entails.of_eq (got_3 ξ c 2)) $$ HG2_3
  icases HG2_3 with ⟨HG2_3, HD2_8⟩
  iapply (ld_o c (n := sz 2 2) (off58 c) fullShare (A0 ξ 2 c))
  isplitl [HB2]; · iexact HB2
  iintro %v547 %h547 HB2
  iapply (ld_s c (g := 2) (kS := 1) (a := bb 2 2 c * sz 2 2) (n := sz 2 2) (off59 c) (SG1 ξ 2 c))
  isplitl [HG2_3]; · iexact HG2_3
  iintro %v550 %h550 HG2_3
  iapply (ld_o c (n := sz 2 2) (off58 c) fullShare (A0 ξ 2 c))
  isplitl [HB2]; · iexact HB2
  iintro %v555 %h555 HB2
  ihave HB2 := (ptO_any c _ _ _) $$ HB2
  iapply (st_o c (n := sz 2 2) (off58 c) (A1 ξ 2 c) (by unfold k0_pay17; exact (sums (φ := A0 ξ 2 c) (ψ := SG1 ξ 2 c) (χ := A1 ξ 2 c) (a := kp2 2 c) (b := bb 2 2 c * sz 2 2) (cast2 h547 _) (cast4 h550 _) (fun r k _ => sum1 ξ c 2 (bb 2 2 c * sz 2 2) r k))))
  isplitl [HB2]; · iexact HB2
  iintro HB2
  iapply (done c _)
  iapply Hk $$ Ht2_3 HO HP2_3 HG2_3 HD2_8 HB2

theorem part21 {Q : (Σ' (v576 : BitVec 32), BitVec 32) → sProp 𝕄} {h0 h1 h2 h3} (v2 v14 v398 : BitVec 32)  :
    iprop(recs ξ K ∗ trF c 0 4 ∗ ow c (evs.drop 18) ∗ ptO c (kp2 0 c) (sz 0 2) fullShare (A1 ξ 0 c) ∗ trI c 0 6
      ∗ (∀ u0 u1, trD c 0 4 -∗ ow c (evs.drop 19) -∗ sendPay ξ c 0 4 -∗ ptS c 0 2 0 (sz 0 2) (SG2 ξ 0 c) -∗ sSrc ξ c 0 8 -∗ trF c 0 6 -∗ Q ⟨u0, u1⟩))
    ⊢ WP c (k0_part21 xM h0 oM h1 sM h2 zM h3 cc0_scratch2 cc0_scratch3 c v2 v14 v398) Q := by
  simp only [k0_part21_eq_skeleton]; unfold k0_part21_skel
  simp only [semSignalWord, semWaitWord, Prog.lift, Prog.bind_op, Prog.bind_ret, Prog.pure_eq_ret, wp_deviceId]
  iintro ⟨#HR, Ht0_4, HO, HB0, Ht0_6, Hk⟩
  iapply (wait_s ξ K c (g := 0) (j := 4) (l := evs.drop 18) rfl rfl (by decide) rfl)
  isplitr; · iexact HR
  isplitl [Ht0_4]; · iexact Ht0_4
  isplitl [HO]; · iexact HO
  iintro Ht0_4 HO HP0_4
  iapply (wait_r ξ K c (g := 0) (j := 4) (l := evs.drop 18) rfl rfl (by decide) rfl)
  isplitr; · iexact HR
  isplitl [Ht0_4]; · iexact Ht0_4
  isplitl [HO]; · iexact HO
  iintro Ht0_4 HO HG0_4
  ihave HG0_4 := (Entails.of_eq (got_4 ξ c 0)) $$ HG0_4
  icases HG0_4 with ⟨HG0_4, HD0_6⟩
  iapply (ld_o c (n := sz 0 2) (off54 c) fullShare (A1 ξ 0 c))
  isplitl [HB0]; · iexact HB0
  iintro %v569 %h569 HB0
  iapply (ld_s c (g := 0) (kS := 2) (a := 0) (n := sz 0 2) rfl (SG2 ξ 0 c))
  isplitl [HG0_4]; · iexact HG0_4
  iintro %v571 %h571 HG0_4
  iapply (ld_o c (n := sz 0 2) (off54 c) fullShare (A1 ξ 0 c))
  isplitl [HB0]; · iexact HB0
  iintro %v575 %h575 HB0
  ihave HB0 := (ptO_any c _ _ _) $$ HB0
  iapply (st_o c (n := sz 0 2) (off54 c) (FIN ξ) (by unfold k0_pay18; exact (sums (φ := A1 ξ 0 c) (ψ := SG2 ξ 0 c) (χ := FIN ξ) (a := kp2 0 c) (b := 0) (cast2 h569 _) (cast4 h571 _) (fun r k hr => sum2 ξ c 0 r k hr))))
  isplitl [HB0]; · iexact HB0
  iintro HB0
  ihave HC := (cut_fin ξ c 0) $$ HB0
  icases HC with ⟨HS0_6, HS0_8⟩
  iapply (send6 ξ K c 0 (evs.drop 19) rfl (dev19 c) rfl rfl (off60 c))
  isplitr; · iexact HR
  isplitl [Ht0_6]; · iexact Ht0_6
  isplitl [HS0_6]; · iexact HS0_6
  isplitl [HD0_6]; · iexact HD0_6
  isplitl [HO]; · iexact HO
  iintro Ht0_6 HO
  iapply (done c _)
  iapply Hk $$ Ht0_4 HO HP0_4 HG0_4 HS0_8 Ht0_6

theorem part22 {Q : (FVec F S80x1024 .bf16) → sProp 𝕄} {h0 h1 h2 h3} (v20 v436 v585 : BitVec 32)  :
    iprop(recs ξ K ∗ trI c 0 8 ∗ sSrc ξ c 0 8 ∗ sDst c 0 8 ∗ ow c (evs.drop 19) ∗ trF c 1 4 ∗ ptO c (kp2 1 c) (sz 1 2) fullShare (A1 ξ 1 c)
      ∗ (∀ (v611 : FVec F S80x1024 .bf16), ⌜∀ j, v611 j = FIN ξ (kp2 1 c + (j 0).val) (j 1).val⌝ -∗ trF c 0 8 -∗ ow c (evs.drop 20) -∗ trD c 1 4 -∗ sendPay ξ c 1 4 -∗ ptS c 1 2 0 (sz 1 2) (SG2 ξ 1 c) -∗ sDst c 1 6 -∗ ptO c (kp2 1 c) (sz 1 2) fullShare (A1 ξ 1 c) -∗ Q v611))
    ⊢ WP c (k0_part22 xM h0 oM h1 sM h2 zM h3 cc0_scratch2 cc0_scratch3 c v20 v436 v585) Q := by
  simp only [k0_part22_eq_skeleton]; unfold k0_part22_skel
  simp only [semSignalWord, semWaitWord, Prog.lift, Prog.bind_op, Prog.bind_ret, Prog.pure_eq_ret, wp_deviceId]
  iintro ⟨#HR, Ht0_8, HS0_8, HD0_8, HO, Ht1_4, HB1, Hk⟩
  iapply (send8 ξ K c 0 (evs.drop 20) rfl (dev20 c) rfl rfl (off60 c))
  isplitr; · iexact HR
  isplitl [Ht0_8]; · iexact Ht0_8
  isplitl [HS0_8]; · iexact HS0_8
  isplitl [HD0_8]; · iexact HD0_8
  isplitl [HO]; · iexact HO
  iintro Ht0_8 HO
  iapply (wait_s ξ K c (g := 1) (j := 4) (l := evs.drop 20) rfl rfl (by decide) rfl)
  isplitr; · iexact HR
  isplitl [Ht1_4]; · iexact Ht1_4
  isplitl [HO]; · iexact HO
  iintro Ht1_4 HO HP1_4
  iapply (wait_r ξ K c (g := 1) (j := 4) (l := evs.drop 20) rfl rfl (by decide) rfl)
  isplitr; · iexact HR
  isplitl [Ht1_4]; · iexact Ht1_4
  isplitl [HO]; · iexact HO
  iintro Ht1_4 HO HG1_4
  ihave HG1_4 := (Entails.of_eq (got_4 ξ c 1)) $$ HG1_4
  icases HG1_4 with ⟨HG1_4, HD1_6⟩
  iapply (ld_o c (n := sz 1 2) (off56 c) fullShare (A1 ξ 1 c))
  isplitl [HB1]; · iexact HB1
  iintro %v607 %h607 HB1
  iapply (ld_s c (g := 1) (kS := 2) (a := 0) (n := sz 1 2) rfl (SG2 ξ 1 c))
  isplitl [HG1_4]; · iexact HG1_4
  iintro %v609 %h609 HG1_4
  iapply (done c _)
  iapply Hk $$ [] Ht0_8 HO Ht1_4 HP1_4 HG1_4 HD1_6 HB1
  ipureintro; exact (by unfold k0_pay19; exact (sums (φ := A1 ξ 1 c) (ψ := SG2 ξ 1 c) (χ := FIN ξ) (a := kp2 1 c) (b := 0) (cast2 h607 _) (cast4 h609 _) (fun r k hr => sum2 ξ c 1 r k hr)))

theorem part23 {Q : (Σ' (v614 : BitVec 32), BitVec 32) → sProp 𝕄} {h0 h1 h2 h3} (v2 : BitVec 32) (v611 : FVec F S80x1024 .bf16) (h611 : ∀ j, v611 j = FIN ξ (kp2 1 c + (j 0).val) (j 1).val) :
    iprop(recs ξ K ∗ ptO c (kp2 1 c) (sz 1 2) fullShare (A1 ξ 1 c) ∗ trI c 1 6 ∗ sDst c 1 6 ∗ ow c (evs.drop 20) ∗ trI c 1 8 ∗ sDst c 1 8 ∗ trF c 2 4
      ∗ (∀ u0 u1, trF c 1 6 -∗ ow c (evs.drop 22) -∗ trF c 1 8 -∗ trW c 2 4 -∗ sendPay ξ c 2 4 -∗ Q ⟨u0, u1⟩))
    ⊢ WP c (k0_part23 xM h0 oM h1 sM h2 zM h3 cc0_scratch2 cc0_scratch3 c v2 v611) Q := by
  simp only [k0_part23_eq_skeleton]; unfold k0_part23_skel
  simp only [semSignalWord, semWaitWord, Prog.lift, Prog.bind_op, Prog.bind_ret, Prog.pure_eq_ret, wp_deviceId]
  iintro ⟨#HR, HB1, Ht1_6, HD1_6, HO, Ht1_8, HD1_8, Ht2_4, Hk⟩
  iapply (ld_o c (n := sz 1 2) (off56 c) fullShare (A1 ξ 1 c))
  isplitl [HB1]; · iexact HB1
  iintro %v613 %h613 HB1
  ihave HB1 := (ptO_any c _ _ _) $$ HB1
  iapply (st_o c (n := sz 1 2) (off56 c) (FIN ξ) h611)
  isplitl [HB1]; · iexact HB1
  iintro HB1
  ihave HC := (cut_fin ξ c 1) $$ HB1
  icases HC with ⟨HS1_6, HS1_8⟩
  iapply (send6 ξ K c 1 (evs.drop 21) rfl (dev21 c) rfl rfl (off61 c))
  isplitr; · iexact HR
  isplitl [Ht1_6]; · iexact Ht1_6
  isplitl [HS1_6]; · iexact HS1_6
  isplitl [HD1_6]; · iexact HD1_6
  isplitl [HO]; · iexact HO
  iintro Ht1_6 HO
  iapply (send8 ξ K c 1 (evs.drop 22) rfl (dev22 c) rfl rfl (off61 c))
  isplitr; · iexact HR
  isplitl [Ht1_8]; · iexact Ht1_8
  isplitl [HS1_8]; · iexact HS1_8
  isplitl [HD1_8]; · iexact HD1_8
  isplitl [HO]; · iexact HO
  iintro Ht1_8 HO
  iapply (wait_s ξ K c (g := 2) (j := 4) (l := evs.drop 22) rfl rfl (by decide) rfl)
  isplitr; · iexact HR
  isplitl [Ht2_4]; · iexact Ht2_4
  isplitl [HO]; · iexact HO
  iintro Ht2_4 HO HP2_4
  iapply (done c _)
  iapply Hk $$ Ht1_6 HO Ht1_8 Ht2_4 HP2_4

theorem part24 {Q : (Σ' (v652 : BitVec 32), BitVec 32) → sProp 𝕄} {h0 h1 h2 h3} (v2 v26 v474 : BitVec 32)  :
    iprop(recs ξ K ∗ trW c 2 4 ∗ ow c (evs.drop 22) ∗ ptO c (kp2 2 c) (sz 2 2) fullShare (A1 ξ 2 c) ∗ trI c 2 6
      ∗ (∀ u0 u1, trD c 2 4 -∗ ow c (evs.drop 23) -∗ ptS c 2 2 0 (sz 2 2) (SG2 ξ 2 c) -∗ sSrc ξ c 2 8 -∗ trF c 2 6 -∗ Q ⟨u0, u1⟩))
    ⊢ WP c (k0_part24 xM h0 oM h1 sM h2 zM h3 cc0_scratch2 cc0_scratch3 c v2 v26 v474) Q := by
  simp only [k0_part24_eq_skeleton]; unfold k0_part24_skel
  simp only [semSignalWord, semWaitWord, Prog.lift, Prog.bind_op, Prog.bind_ret, Prog.pure_eq_ret, wp_deviceId]
  iintro ⟨#HR, Ht2_4, HO, HB2, Ht2_6, Hk⟩
  iapply (wait_r ξ K c (g := 2) (j := 4) (l := evs.drop 22) rfl rfl (by decide) rfl)
  isplitr; · iexact HR
  isplitl [Ht2_4]; · iexact Ht2_4
  isplitl [HO]; · iexact HO
  iintro Ht2_4 HO HG2_4
  ihave HG2_4 := (Entails.of_eq (got_4 ξ c 2)) $$ HG2_4
  icases HG2_4 with ⟨HG2_4, HD2_6⟩
  iapply (ld_o c (n := sz 2 2) (off58 c) fullShare (A1 ξ 2 c))
  isplitl [HB2]; · iexact HB2
  iintro %v645 %h645 HB2
  iapply (ld_s c (g := 2) (kS := 2) (a := 0) (n := sz 2 2) rfl (SG2 ξ 2 c))
  isplitl [HG2_4]; · iexact HG2_4
  iintro %v647 %h647 HG2_4
  iapply (ld_o c (n := sz 2 2) (off58 c) fullShare (A1 ξ 2 c))
  isplitl [HB2]; · iexact HB2
  iintro %v651 %h651 HB2
  ihave HB2 := (ptO_any c _ _ _) $$ HB2
  iapply (st_o c (n := sz 2 2) (off58 c) (FIN ξ) (by unfold k0_pay20; exact (sums (φ := A1 ξ 2 c) (ψ := SG2 ξ 2 c) (χ := FIN ξ) (a := kp2 2 c) (b := 0) (cast2 h645 _) (cast4 h647 _) (fun r k hr => sum2 ξ c 2 r k hr))))
  isplitl [HB2]; · iexact HB2
  iintro HB2
  ihave HC := (cut_fin ξ c 2) $$ HB2
  icases HC with ⟨HS2_6, HS2_8⟩
  iapply (send6 ξ K c 2 (evs.drop 23) rfl (dev23 c) rfl rfl (off62 c))
  isplitr; · iexact HR
  isplitl [Ht2_6]; · iexact Ht2_6
  isplitl [HS2_6]; · iexact HS2_6
  isplitl [HD2_6]; · iexact HD2_6
  isplitl [HO]; · iexact HO
  iintro Ht2_6 HO
  iapply (done c _)
  iapply Hk $$ Ht2_4 HO HG2_4 HS2_8 Ht2_6

end Cert.Butterfly

end
-- ==== Proof.Parts5.lean ====
/-
# The body, fifth window: the finished blocks on their way back

One lemma per window of the body: what the window takes and what it leaves, for any continuation `Q`.
-/
module

public import proofs.«01_k».proof.Proof.Moves
public import proofs.«01_k».proof.Proof.Gen.KernelIdeal.Skeleton

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem part25 {Q : (BitVec 32) → sProp 𝕄} {h0 h1 h2 h3} (v2 v7 v14 v576 : BitVec 32)  :
    iprop(recs ξ K ∗ trI c 2 8 ∗ sSrc ξ c 2 8 ∗ sDst c 2 8 ∗ ow c (evs.drop 23) ∗ trF c 0 6
      ∗ (∀ u0, trF c 2 8 -∗ ow c (evs.drop 24) -∗ trD c 0 6 -∗ sSrc ξ c 0 9 -∗ sSrc ξ c 0 10 -∗ Q u0))
    ⊢ WP c (k0_part25 xM h0 oM h1 sM h2 zM h3 cc0_scratch2 cc0_scratch3 c v2 v7 v14 v576) Q := by
  simp only [k0_part25_eq_skeleton]; unfold k0_part25_skel
  simp only [semSignalWord, semWaitWord, Prog.lift, Prog.bind_op, Prog.bind_ret, Prog.pure_eq_ret, wp_deviceId]
  iintro ⟨#HR, Ht2_8, HS2_8, HD2_8, HO, Ht0_6, Hk⟩
  iapply (send8 ξ K c 2 (evs.drop 24) rfl (dev24 c) rfl rfl (off62 c))
  isplitr; · iexact HR
  isplitl [Ht2_8]; · iexact Ht2_8
  isplitl [HS2_8]; · iexact HS2_8
  isplitl [HD2_8]; · iexact HD2_8
  isplitl [HO]; · iexact HO
  iintro Ht2_8 HO
  iapply (wait_s ξ K c (g := 0) (j := 6) (l := evs.drop 24) rfl rfl (by decide) rfl)
  isplitr; · iexact HR
  isplitl [Ht0_6]; · iexact Ht0_6
  isplitl [HO]; · iexact HO
  iintro Ht0_6 HO HP0_6
  iapply (wait_r ξ K c (g := 0) (j := 6) (l := evs.drop 24) rfl rfl (by decide) rfl)
  isplitr; · iexact HR
  isplitl [Ht0_6]; · iexact Ht0_6
  isplitl [HO]; · iexact HO
  iintro Ht0_6 HO HG0_6
  ihave HC := (next_0 ξ c 0) $$ [HP0_6 HG0_6]
  · isplitl [HP0_6]; · iexact HP0_6
    iexact HG0_6
  icases HC with ⟨HS0_9, HS0_10⟩
  iapply (done c _)
  iapply Hk $$ Ht2_8 HO Ht0_6 HS0_9 HS0_10

theorem part26 {Q : (Σ' (v694 : BitVec 32), BitVec 32) → sProp 𝕄} {h0 h1 h2 h3} (v2 v8 v20 v614 : BitVec 32)  :
    iprop(recs ξ K ∗ trI c 0 9 ∗ sSrc ξ c 0 9 ∗ sDst c 0 9 ∗ ow c (evs.drop 24) ∗ trI c 0 10 ∗ sSrc ξ c 0 10 ∗ sDst c 0 10 ∗ trF c 1 6
      ∗ (∀ u0 u1, trF c 0 9 -∗ ow c (evs.drop 26) -∗ trF c 0 10 -∗ trD c 1 6 -∗ sSrc ξ c 1 9 -∗ sSrc ξ c 1 10 -∗ Q ⟨u0, u1⟩))
    ⊢ WP c (k0_part26 xM h0 oM h1 sM h2 zM h3 cc0_scratch2 cc0_scratch3 c v2 v8 v20 v614) Q := by
  simp only [k0_part26_eq_skeleton]; unfold k0_part26_skel
  simp only [semSignalWord, semWaitWord, Prog.lift, Prog.bind_op, Prog.bind_ret, Prog.pure_eq_ret, wp_deviceId]
  iintro ⟨#HR, Ht0_9, HS0_9, HD0_9, HO, Ht0_10, HS0_10, HD0_10, Ht1_6, Hk⟩
  iapply (send9 ξ K c 0 (evs.drop 25) rfl (dev25 c) rfl rfl (off63 c))
  isplitr; · iexact HR
  isplitl [Ht0_9]; · iexact Ht0_9
  isplitl [HS0_9]; · iexact HS0_9
  isplitl [HD0_9]; · iexact HD0_9
  isplitl [HO]; · iexact HO
  iintro Ht0_9 HO
  iapply (send10 ξ K c 0 (evs.drop 26) rfl (dev26 c) rfl rfl (off64 c))
  isplitr; · iexact HR
  isplitl [Ht0_10]; · iexact Ht0_10
  isplitl [HS0_10]; · iexact HS0_10
  isplitl [HD0_10]; · iexact HD0_10
  isplitl [HO]; · iexact HO
  iintro Ht0_10 HO
  iapply (wait_s ξ K c (g := 1) (j := 6) (l := evs.drop 26) rfl rfl (by decide) rfl)
  isplitr; · iexact HR
  isplitl [Ht1_6]; · iexact Ht1_6
  isplitl [HO]; · iexact HO
  iintro Ht1_6 HO HP1_6
  iapply (wait_r ξ K c (g := 1) (j := 6) (l := evs.drop 26) rfl rfl (by decide) rfl)
  isplitr; · iexact HR
  isplitl [Ht1_6]; · iexact Ht1_6
  isplitl [HO]; · iexact HO
  iintro Ht1_6 HO HG1_6
  ihave HC := (next_0 ξ c 1) $$ [HP1_6 HG1_6]
  · isplitl [HP1_6]; · iexact HP1_6
    iexact HG1_6
  icases HC with ⟨HS1_9, HS1_10⟩
  iapply (done c _)
  iapply Hk $$ Ht0_9 HO Ht0_10 Ht1_6 HS1_9 HS1_10

theorem part27 {Q : (Σ' (v727 : BitVec 32), BitVec 32) → sProp 𝕄} {h0 h1 h2 h3} (v2 v5 v26 v718 : BitVec 32)  :
    iprop(recs ξ K ∗ trI c 1 9 ∗ sSrc ξ c 1 9 ∗ sDst c 1 9 ∗ ow c (evs.drop 26) ∗ trI c 1 10 ∗ sSrc ξ c 1 10 ∗ sDst c 1 10 ∗ trF c 2 6
      ∗ (∀ u0 u1, trF c 1 9 -∗ ow c (evs.drop 28) -∗ trF c 1 10 -∗ trW c 2 6 -∗ sendPay ξ c 2 6 -∗ Q ⟨u0, u1⟩))
    ⊢ WP c (k0_part27 xM h0 oM h1 sM h2 zM h3 cc0_scratch2 cc0_scratch3 c v2 v5 v26 v718) Q := by
  simp only [k0_part27_eq_skeleton]; unfold k0_part27_skel
  simp only [semSignalWord, semWaitWord, Prog.lift, Prog.bind_op, Prog.bind_ret, Prog.pure_eq_ret, wp_deviceId]
  iintro ⟨#HR, Ht1_9, HS1_9, HD1_9, HO, Ht1_10, HS1_10, HD1_10, Ht2_6, Hk⟩
  iapply (send9 ξ K c 1 (evs.drop 27) rfl (dev27 c) rfl rfl (off65 c))
  isplitr; · iexact HR
  isplitl [Ht1_9]; · iexact Ht1_9
  isplitl [HS1_9]; · iexact HS1_9
  isplitl [HD1_9]; · iexact HD1_9
  isplitl [HO]; · iexact HO
  iintro Ht1_9 HO
  iapply (send10 ξ K c 1 (evs.drop 28) rfl (dev28 c) rfl rfl (off66 c))
  isplitr; · iexact HR
  isplitl [Ht1_10]; · iexact Ht1_10
  isplitl [HS1_10]; · iexact HS1_10
  isplitl [HD1_10]; · iexact HD1_10
  isplitl [HO]; · iexact HO
  iintro Ht1_10 HO
  iapply (wait_s ξ K c (g := 2) (j := 6) (l := evs.drop 28) rfl rfl (by decide) rfl)
  isplitr; · iexact HR
  isplitl [Ht2_6]; · iexact Ht2_6
  isplitl [HO]; · iexact HO
  iintro Ht2_6 HO HP2_6
  iapply (done c _)
  iapply Hk $$ Ht1_9 HO Ht1_10 Ht2_6 HP2_6

theorem part28 {Q : (Σ' (v751 : BitVec 32) (v760 : BitVec 32) (v773 : BitVec 32), BitVec 32) → sProp 𝕄} {h0 h1 h2 h3} (v2 v5 v7 v14 v652 c1_i32_767 : BitVec 32)  :
    iprop(recs ξ K ∗ trW c 2 6 ∗ ow c (evs.drop 28) ∗ sendPay ξ c 2 6 ∗ trI c 2 9 ∗ sDst c 2 9 ∗ trI c 2 10 ∗ sDst c 2 10
      ∗ (∀ u0 u1 u2 u3, trD c 2 6 -∗ ow c (evs.drop 30) -∗ trF c 2 9 -∗ trF c 2 10 -∗ Q ⟨u0, u1, u2, u3⟩))
    ⊢ WP c (k0_part28 xM h0 oM h1 sM h2 zM h3 cc0_scratch2 cc0_scratch3 c v2 v5 v7 v14 v652 c1_i32_767) Q := by
  simp only [k0_part28_eq_skeleton]; unfold k0_part28_skel
  simp only [semSignalWord, semWaitWord, Prog.lift, Prog.bind_op, Prog.bind_ret, Prog.pure_eq_ret, wp_deviceId]
  iintro ⟨#HR, Ht2_6, HO, HP2_6, Ht2_9, HD2_9, Ht2_10, HD2_10, Hk⟩
  iapply (wait_r ξ K c (g := 2) (j := 6) (l := evs.drop 28) rfl rfl (by decide) rfl)
  isplitr; · iexact HR
  isplitl [Ht2_6]; · iexact Ht2_6
  isplitl [HO]; · iexact HO
  iintro Ht2_6 HO HG2_6
  ihave HC := (next_0 ξ c 2) $$ [HP2_6 HG2_6]
  · isplitl [HP2_6]; · iexact HP2_6
    iexact HG2_6
  icases HC with ⟨HS2_9, HS2_10⟩
  iapply (send9 ξ K c 2 (evs.drop 29) rfl (dev29 c) rfl rfl (off67 c))
  isplitr; · iexact HR
  isplitl [Ht2_9]; · iexact Ht2_9
  isplitl [HS2_9]; · iexact HS2_9
  isplitl [HD2_9]; · iexact HD2_9
  isplitl [HO]; · iexact HO
  iintro Ht2_9 HO
  iapply (send10 ξ K c 2 (evs.drop 30) rfl (dev30 c) rfl rfl (off68 c))
  isplitr; · iexact HR
  isplitl [Ht2_10]; · iexact Ht2_10
  isplitl [HS2_10]; · iexact HS2_10
  isplitl [HD2_10]; · iexact HD2_10
  isplitl [HO]; · iexact HO
  iintro Ht2_10 HO
  iapply (done c _)
  iapply Hk $$ Ht2_6 HO Ht2_9 Ht2_10

theorem part29 {Q : (BitVec 32) → sProp 𝕄} {h0 h1 h2 h3} (v2 v585 v685 v773 v775 : BitVec 32)  :
    iprop(recs ξ K ∗ trF c 0 8 ∗ ow c (evs.drop 30) ∗ trF c 0 9
      ∗ (∀ u0, trD c 0 8 -∗ ow c (evs.drop 30) -∗ sendPay ξ c 0 8 -∗ trD c 0 9 -∗ sendPay ξ c 0 9 -∗ sSrc ξ c 0 11 -∗ Q u0))
    ⊢ WP c (k0_part29 xM h0 oM h1 sM h2 zM h3 cc0_scratch2 cc0_scratch3 c v2 v585 v685 v773 v775) Q := by
  simp only [k0_part29_eq_skeleton]; unfold k0_part29_skel
  simp only [semSignalWord, semWaitWord, Prog.lift, Prog.bind_op, Prog.bind_ret, Prog.pure_eq_ret, wp_deviceId]
  iintro ⟨#HR, Ht0_8, HO, Ht0_9, Hk⟩
  iapply (wait_s ξ K c (g := 0) (j := 8) (l := evs.drop 30) rfl rfl (by decide) rfl)
  isplitr; · iexact HR
  isplitl [Ht0_8]; · iexact Ht0_8
  isplitl [HO]; · iexact HO
  iintro Ht0_8 HO HP0_8
  iapply (wait_r ξ K c (g := 0) (j := 8) (l := evs.drop 30) rfl rfl (by decide) rfl)
  isplitr; · iexact HR
  isplitl [Ht0_8]; · iexact Ht0_8
  isplitl [HO]; · iexact HO
  iintro Ht0_8 HO HG0_8
  iapply (wait_s ξ K c (g := 0) (j := 9) (l := evs.drop 30) rfl rfl (by decide) rfl)
  isplitr; · iexact HR
  isplitl [Ht0_9]; · iexact Ht0_9
  isplitl [HO]; · iexact HO
  iintro Ht0_9 HO HP0_9
  iapply (wait_r ξ K c (g := 0) (j := 9) (l := evs.drop 30) rfl rfl (by decide) rfl)
  isplitr; · iexact HR
  isplitl [Ht0_9]; · iexact Ht0_9
  isplitl [HO]; · iexact HO
  iintro Ht0_9 HO HG0_9
  ihave HS0_11 := (next_1 ξ c 0) $$ [HG0_8 HG0_9]
  · isplitl [HG0_8]; · iexact HG0_8
    iexact HG0_9
  iapply (done c _)
  iapply Hk $$ Ht0_8 HO HP0_8 Ht0_9 HP0_9 HS0_11

theorem part30 {Q : (PUnit) → sProp 𝕄} {h0 h1 h2 h3} (v7 v8 v20 v623 v798 : BitVec 32)  :
    iprop(recs ξ K ∗ trI c 0 11 ∗ sSrc ξ c 0 11 ∗ sDst c 0 11 ∗ ow c (evs.drop 30) ∗ trF c 1 8
      ∗ (trF c 0 11 -∗ ow c (evs.drop 31) -∗ trD c 1 8 -∗ sendPay ξ c 1 8 -∗ recvPay ξ c 1 8 -∗ Q ⟨⟩))
    ⊢ WP c (k0_part30 xM h0 oM h1 sM h2 zM h3 cc0_scratch2 cc0_scratch3 c v7 v8 v20 v623 v798) Q := by
  simp only [k0_part30_eq_skeleton]; unfold k0_part30_skel
  simp only [semSignalWord, semWaitWord, Prog.lift, Prog.bind_op, Prog.bind_ret, Prog.pure_eq_ret, wp_deviceId]
  iintro ⟨#HR, Ht0_11, HS0_11, HD0_11, HO, Ht1_8, Hk⟩
  iapply (send11 ξ K c 0 (evs.drop 31) rfl (dev31 c) rfl rfl (off69 c))
  isplitr; · iexact HR
  isplitl [Ht0_11]; · iexact Ht0_11
  isplitl [HS0_11]; · iexact HS0_11
  isplitl [HD0_11]; · iexact HD0_11
  isplitl [HO]; · iexact HO
  iintro Ht0_11 HO
  iapply (wait_s ξ K c (g := 1) (j := 8) (l := evs.drop 31) rfl rfl (by decide) rfl)
  isplitr; · iexact HR
  isplitl [Ht1_8]; · iexact Ht1_8
  isplitl [HO]; · iexact HO
  iintro Ht1_8 HO HP1_8
  iapply (wait_r ξ K c (g := 1) (j := 8) (l := evs.drop 31) rfl rfl (by decide) rfl)
  isplitr; · iexact HR
  isplitl [Ht1_8]; · iexact Ht1_8
  isplitl [HO]; · iexact HO
  iintro Ht1_8 HO HG1_8
  iapply (done c _)
  iapply Hk $$ Ht0_11 HO Ht1_8 HP1_8 HG1_8

theorem part31 {Q : (BitVec 32) → sProp 𝕄} {h0 h1 h2 h3} (v2 v5 v8 v26 v718 : BitVec 32)  :
    iprop(recs ξ K ∗ trF c 1 9 ∗ ow c (evs.drop 31) ∗ recvPay ξ c 1 8 ∗ trI c 1 11 ∗ sDst c 1 11
      ∗ (∀ u0, trD c 1 9 -∗ ow c (evs.drop 32) -∗ sendPay ξ c 1 9 -∗ trF c 1 11 -∗ Q u0))
    ⊢ WP c (k0_part31 xM h0 oM h1 sM h2 zM h3 cc0_scratch2 cc0_scratch3 c v2 v5 v8 v26 v718) Q := by
  simp only [k0_part31_eq_skeleton]; unfold k0_part31_skel
  simp only [semSignalWord, semWaitWord, Prog.lift, Prog.bind_op, Prog.bind_ret, Prog.pure_eq_ret, wp_deviceId]
  iintro ⟨#HR, Ht1_9, HO, HG1_8, Ht1_11, HD1_11, Hk⟩
  iapply (wait_s ξ K c (g := 1) (j := 9) (l := evs.drop 31) rfl rfl (by decide) rfl)
  isplitr; · iexact HR
  isplitl [Ht1_9]; · iexact Ht1_9
  isplitl [HO]; · iexact HO
  iintro Ht1_9 HO HP1_9
  iapply (wait_r ξ K c (g := 1) (j := 9) (l := evs.drop 31) rfl rfl (by decide) rfl)
  isplitr; · iexact HR
  isplitl [Ht1_9]; · iexact Ht1_9
  isplitl [HO]; · iexact HO
  iintro Ht1_9 HO HG1_9
  ihave HS1_11 := (next_1 ξ c 1) $$ [HG1_8 HG1_9]
  · isplitl [HG1_8]; · iexact HG1_8
    iexact HG1_9
  iapply (send11 ξ K c 1 (evs.drop 32) rfl (dev32 c) rfl rfl (off70 c))
  isplitr; · iexact HR
  isplitl [Ht1_11]; · iexact Ht1_11
  isplitl [HS1_11]; · iexact HS1_11
  isplitl [HD1_11]; · iexact HD1_11
  isplitl [HO]; · iexact HO
  iintro Ht1_11 HO
  iapply (done c _)
  iapply Hk $$ Ht1_9 HO HP1_9 Ht1_11

theorem part32 {Q : (Σ' (v874 : BitVec 32), BitVec 32) → sProp 𝕄} {h0 h1 h2 h3} (v2 v661 v751 : BitVec 32)  :
    iprop(recs ξ K ∗ trF c 2 8 ∗ ow c (evs.drop 32) ∗ trF c 2 9
      ∗ (∀ u0 u1, trD c 2 8 -∗ ow c (evs.drop 32) -∗ sendPay ξ c 2 8 -∗ trD c 2 9 -∗ sendPay ξ c 2 9 -∗ sSrc ξ c 2 11 -∗ Q ⟨u0, u1⟩))
    ⊢ WP c (k0_part32 xM h0 oM h1 sM h2 zM h3 cc0_scratch2 cc0_scratch3 c v2 v661 v751) Q := by
  simp only [k0_part32_eq_skeleton]; unfold k0_part32_skel
  simp only [semSignalWord, semWaitWord, Prog.lift, Prog.bind_op, Prog.bind_ret, Prog.pure_eq_ret, wp_deviceId]
  iintro ⟨#HR, Ht2_8, HO, Ht2_9, Hk⟩
  iapply (wait_s ξ K c (g := 2) (j := 8) (l := evs.drop 32) rfl rfl (by decide) rfl)
  isplitr; · iexact HR
  isplitl [Ht2_8]; · iexact Ht2_8
  isplitl [HO]; · iexact HO
  iintro Ht2_8 HO HP2_8
  iapply (wait_r ξ K c (g := 2) (j := 8) (l := evs.drop 32) rfl rfl (by decide) rfl)
  isplitr; · iexact HR
  isplitl [Ht2_8]; · iexact Ht2_8
  isplitl [HO]; · iexact HO
  iintro Ht2_8 HO HG2_8
  iapply (wait_s ξ K c (g := 2) (j := 9) (l := evs.drop 32) rfl rfl (by decide) rfl)
  isplitr; · iexact HR
  isplitl [Ht2_9]; · iexact Ht2_9
  isplitl [HO]; · iexact HO
  iintro Ht2_9 HO HP2_9
  iapply (wait_r ξ K c (g := 2) (j := 9) (l := evs.drop 32) rfl rfl (by decide) rfl)
  isplitr; · iexact HR
  isplitl [Ht2_9]; · iexact Ht2_9
  isplitl [HO]; · iexact HO
  iintro Ht2_9 HO HG2_9
  ihave HS2_11 := (next_1 ξ c 2) $$ [HG2_8 HG2_9]
  · isplitl [HG2_8]; · iexact HG2_8
    iexact HG2_9
  iapply (done c _)
  iapply Hk $$ Ht2_8 HO HP2_8 Ht2_9 HP2_9 HS2_11

theorem part33 {Q : (PUnit) → sProp 𝕄} {h0 h1 h2 h3} (v694 v798 v874 c1_i32_919 : BitVec 32)  :
    iprop(recs ξ K ∗ trI c 2 11 ∗ sSrc ξ c 2 11 ∗ sDst c 2 11 ∗ ow c (evs.drop 32) ∗ trF c 0 10 ∗ trF c 0 11
      ∗ (trF c 2 11 -∗ ow c (evs.drop 33) -∗ trD c 0 10 -∗ sendPay ξ c 0 10 -∗ recvPay ξ c 0 10 -∗ trW c 0 11 -∗ sendPay ξ c 0 11 -∗ Q ⟨⟩))
    ⊢ WP c (k0_part33 xM h0 oM h1 sM h2 zM h3 cc0_scratch2 cc0_scratch3 c v694 v798 v874 c1_i32_919) Q := by
  simp only [k0_part33_eq_skeleton]; unfold k0_part33_skel
  simp only [semSignalWord, semWaitWord, Prog.lift, Prog.bind_op, Prog.bind_ret, Prog.pure_eq_ret, wp_deviceId]
  iintro ⟨#HR, Ht2_11, HS2_11, HD2_11, HO, Ht0_10, Ht0_11, Hk⟩
  iapply (send11 ξ K c 2 (evs.drop 33) rfl (dev33 c) rfl rfl (off71 c))
  isplitr; · iexact HR
  isplitl [Ht2_11]; · iexact Ht2_11
  isplitl [HS2_11]; · iexact HS2_11
  isplitl [HD2_11]; · iexact HD2_11
  isplitl [HO]; · iexact HO
  iintro Ht2_11 HO
  iapply (wait_s ξ K c (g := 0) (j := 10) (l := evs.drop 33) rfl rfl (by decide) rfl)
  isplitr; · iexact HR
  isplitl [Ht0_10]; · iexact Ht0_10
  isplitl [HO]; · iexact HO
  iintro Ht0_10 HO HP0_10
  iapply (wait_r ξ K c (g := 0) (j := 10) (l := evs.drop 33) rfl rfl (by decide) rfl)
  isplitr; · iexact HR
  isplitl [Ht0_10]; · iexact Ht0_10
  isplitl [HO]; · iexact HO
  iintro Ht0_10 HO HG0_10
  iapply (wait_s ξ K c (g := 0) (j := 11) (l := evs.drop 33) rfl rfl (by decide) rfl)
  isplitr; · iexact HR
  isplitl [Ht0_11]; · iexact Ht0_11
  isplitl [HO]; · iexact HO
  iintro Ht0_11 HO HP0_11
  iapply (done c _)
  iapply Hk $$ Ht2_11 HO Ht0_10 HP0_10 HG0_10 Ht0_11 HP0_11

theorem part34 {Q : (PUnit) → sProp 𝕄} {h0 h1 h2 h3} (v727 v836 : BitVec 32)  :
    iprop(recs ξ K ∗ trW c 0 11 ∗ ow c (evs.drop 33) ∗ trF c 1 10 ∗ trF c 1 11
      ∗ (trD c 0 11 -∗ ow c (evs.drop 33) -∗ recvPay ξ c 0 11 -∗ trD c 1 10 -∗ sendPay ξ c 1 10 -∗ recvPay ξ c 1 10 -∗ trD c 1 11 -∗ sendPay ξ c 1 11 -∗ recvPay ξ c 1 11 -∗ Q ⟨⟩))
    ⊢ WP c (k0_part34 xM h0 oM h1 sM h2 zM h3 cc0_scratch2 cc0_scratch3 c v727 v836) Q := by
  simp only [k0_part34_eq_skeleton]; unfold k0_part34_skel
  simp only [semSignalWord, semWaitWord, Prog.lift, Prog.bind_op, Prog.bind_ret, Prog.pure_eq_ret, wp_deviceId]
  iintro ⟨#HR, Ht0_11, HO, Ht1_10, Ht1_11, Hk⟩
  iapply (wait_r ξ K c (g := 0) (j := 11) (l := evs.drop 33) rfl rfl (by decide) rfl)
  isplitr; · iexact HR
  isplitl [Ht0_11]; · iexact Ht0_11
  isplitl [HO]; · iexact HO
  iintro Ht0_11 HO HG0_11
  iapply (wait_s ξ K c (g := 1) (j := 10) (l := evs.drop 33) rfl rfl (by decide) rfl)
  isplitr; · iexact HR
  isplitl [Ht1_10]; · iexact Ht1_10
  isplitl [HO]; · iexact HO
  iintro Ht1_10 HO HP1_10
  iapply (wait_r ξ K c (g := 1) (j := 10) (l := evs.drop 33) rfl rfl (by decide) rfl)
  isplitr; · iexact HR
  isplitl [Ht1_10]; · iexact Ht1_10
  isplitl [HO]; · iexact HO
  iintro Ht1_10 HO HG1_10
  iapply (wait_s ξ K c (g := 1) (j := 11) (l := evs.drop 33) rfl rfl (by decide) rfl)
  isplitr; · iexact HR
  isplitl [Ht1_11]; · iexact Ht1_11
  isplitl [HO]; · iexact HO
  iintro Ht1_11 HO HP1_11
  iapply (wait_r ξ K c (g := 1) (j := 11) (l := evs.drop 33) rfl rfl (by decide) rfl)
  isplitr; · iexact HR
  isplitl [Ht1_11]; · iexact Ht1_11
  isplitl [HO]; · iexact HO
  iintro Ht1_11 HO HG1_11
  iapply (done c _)
  iapply Hk $$ Ht0_11 HO HG0_11 Ht1_10 HP1_10 HG1_10 Ht1_11 HP1_11 HG1_11

end Cert.Butterfly

end
-- ==== Proof.Body.lean ====
/-
# The body, put together

`body` runs the whole kernel on one device: from its blocks, tokens and positions to the finished result, what it
sent and what landed in its slots.
-/
module

public import proofs.«01_k».proof.Proof.Whole
public import proofs.«01_k».proof.Proof.Parts1
public import proofs.«01_k».proof.Proof.Parts2
public import proofs.«01_k».proof.Proof.Parts3
public import proofs.«01_k».proof.Proof.Parts4
public import proofs.«01_k».proof.Proof.Parts5

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (ξ : Dev nD → S1x2048x1024.Idx → Elt F .bf16) (K : Dev nD × Kx → ℕ) (c : Dev nD)

theorem chain {α β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p >>= k) Q := by
  unfold WP; rw [wp_bind]

/-- One thing per used cell of a group. -/
def perCell (P : Dev nD → Fin 3 → Fin 12 → sProp 𝕄) (c : Dev nD) (g : Fin 3) : sProp 𝕄 :=
  iprop(P c g 0 ∗ P c g 1 ∗ P c g 2 ∗ P c g 3 ∗ P c g 4 ∗ P c g 6 ∗ P c g 8 ∗ P c g 9 ∗ P c g 10 ∗ P c g 11)

/-- The blocks a group starts from. -/
def fresh (c : Dev nD) (g : Fin 3) : sProp 𝕄 := iprop(anyZ c (zs g) (sz g 0) ∗ anyO c (kp1 g c) (sz g 1) ∗ anyO c (rv1 g c) (sz g 1))

/-- What has come back of the copies sent in step 0. -/
def sent0 (c : Dev nD) (g : Fin 3) : sProp 𝕄 := iprop(sendPay ξ c g 0 ∗ sendPay ξ c g 1)

/-- A group's finished blocks: read by the last transfers or landed by them. -/
def fin (c : Dev nD) (g : Fin 3) : sProp 𝕄 :=
  iprop(sendPay ξ c g 8 ∗ sendPay ξ c g 9 ∗ sendPay ξ c g 10 ∗ sendPay ξ c g 11 ∗ recvPay ξ c g 10 ∗ recvPay ξ c g 11)

set_option maxHeartbeats 4000000 in
theorem part35 {Q : (Σ' (d0 : Dev nD), BitVec 32) → sProp 𝕄} {h0 h1 h2 h3} :
    iprop(recs ξ K ∗ xpt ξ c ∗ ow c (evs.drop 0) ∗ bI c ∗ dutyTok ER (barCell (pr 0 c)) 0 0 ∗ dutyTok ER (barCell (pr 1 c)) 0 1 ∗ dutyTok ER (barCell (pr 2 c)) 0 2 ∗ pieces c (pr 0 c) 0 ∗ pieces c (pr 1 c) 1 ∗ pieces c (pr 2 c) 2
      ∗ fresh c 0 ∗ fresh c 1 ∗ fresh c 2 ∗ perCell trI c 0 ∗ perCell trI c 1 ∗ perCell trI c 2
      ∗ (∀ u, xpt ξ c -∗ ow c (evs.drop 33) -∗ bD c -∗ trD c 0 0 -∗ trD c 0 1 -∗ trD c 0 2 -∗ trD c 0 3 -∗ trD c 0 4 -∗ trD c 0 6 -∗ trD c 0 8 -∗ trD c 0 9 -∗ trD c 0 10 -∗ trD c 0 11 -∗ trD c 1 0 -∗ trD c 1 1 -∗ trD c 1 2 -∗ trD c 1 3 -∗ trD c 1 4 -∗ trD c 1 6 -∗ trD c 1 8 -∗ trD c 1 9 -∗ trD c 1 10 -∗ trD c 1 11 -∗ trD c 2 0 -∗ trD c 2 1 -∗ trD c 2 2 -∗ trD c 2 3 -∗ trD c 2 4 -∗ trD c 2 6 -∗ trD c 2 8 -∗ trD c 2 9 -∗ trW c 2 10 -∗ trF c 2 11 -∗ sendPay ξ c 0 0 -∗ ptS c 0 0 ((1 - bb 0 1 c) * sz 0 1) (sz 0 1) (SG0 ξ 0 c) -∗ sendPay ξ c 1 0 -∗ ptS c 1 0 ((1 - bb 1 1 c) * sz 1 1) (sz 1 1) (SG0 ξ 1 c) -∗ sendPay ξ c 2 0 -∗ ptS c 2 0 ((1 - bb 2 1 c) * sz 2 1) (sz 2 1) (SG0 ξ 2 c) -∗ sendPay ξ c 0 1 -∗ ptS c 0 0 (bb 0 1 c * sz 0 1) (sz 0 1) (SG0 ξ 0 c) -∗ sendPay ξ c 1 1 -∗ ptS c 1 0 (bb 1 1 c * sz 1 1) (sz 1 1) (SG0 ξ 1 c) -∗ sendPay ξ c 2 1 -∗ ptS c 2 0 (bb 2 1 c * sz 2 1) (sz 2 1) (SG0 ξ 2 c) -∗ sendPay ξ c 0 2 -∗ ptS c 0 1 ((1 - bb 0 2 c) * sz 0 2) (sz 0 2) (SG1 ξ 0 c) -∗ sendPay ξ c 1 2 -∗ ptS c 1 1 ((1 - bb 1 2 c) * sz 1 2) (sz 1 2) (SG1 ξ 1 c) -∗ sendPay ξ c 2 2 -∗ ptS c 2 1 ((1 - bb 2 2 c) * sz 2 2) (sz 2 2) (SG1 ξ 2 c) -∗ sendPay ξ c 0 3 -∗ ptS c 0 1 (bb 0 2 c * sz 0 2) (sz 0 2) (SG1 ξ 0 c) -∗ sendPay ξ c 1 3 -∗ ptS c 1 1 (bb 1 2 c * sz 1 2) (sz 1 2) (SG1 ξ 1 c) -∗ sendPay ξ c 2 3 -∗ ptS c 2 1 (bb 2 2 c * sz 2 2) (sz 2 2) (SG1 ξ 2 c) -∗ sendPay ξ c 0 4 -∗ ptS c 0 2 0 (sz 0 2) (SG2 ξ 0 c) -∗ sendPay ξ c 1 4 -∗ ptS c 1 2 0 (sz 1 2) (SG2 ξ 1 c) -∗ sendPay ξ c 2 4 -∗ ptS c 2 2 0 (sz 2 2) (SG2 ξ 2 c) -∗ sendPay ξ c 0 8 -∗ sendPay ξ c 0 9 -∗ sendPay ξ c 1 8 -∗ sendPay ξ c 1 9 -∗ sendPay ξ c 2 8 -∗ sendPay ξ c 2 9 -∗ sendPay ξ c 0 10 -∗ recvPay ξ c 0 10 -∗ sendPay ξ c 0 11 -∗ recvPay ξ c 0 11 -∗ sendPay ξ c 1 10 -∗ recvPay ξ c 1 10 -∗ sendPay ξ c 1 11 -∗ recvPay ξ c 1 11 -∗ sendPay ξ c 2 10 -∗ Q ⟨c, u⟩))
    ⊢ WP c (k0_part35 xM h0 oM h1 sM h2 zM h3 cc0_scratch2 cc0_scratch3) Q := by
  unfold fresh perCell
  simp only [k0_part35_eq_skeleton]; unfold k0_part35_skel
  iintro ⟨#HR, HX, HO, HbI, HT0, HT1, HT2, HB0, HB1, HB2, ⟨HZ0, HK0, HR0⟩, ⟨HZ1, HK1, HR1⟩, ⟨HZ2, HK2, HR2⟩, ⟨Ht0_0, Ht0_1, Ht0_2, Ht0_3, Ht0_4, Ht0_6, Ht0_8, Ht0_9, Ht0_10, Ht0_11⟩, ⟨Ht1_0, Ht1_1, Ht1_2, Ht1_3, Ht1_4, Ht1_6, Ht1_8, Ht1_9, Ht1_10, Ht1_11⟩, ⟨Ht2_0, Ht2_1, Ht2_2, Ht2_3, Ht2_4, Ht2_6, Ht2_8, Ht2_9, Ht2_10, Ht2_11⟩, Hk⟩
  iapply (chain c _ _)
  iapply (part1 ξ K c  )
  isplitr; · iexact HR
  isplitl [HX]; · iexact HX
  iintro %u0 %u1 %u2 %u3 %u4 %u5 %u6 %u7 %u8 %u9 %u10 %u11 %u12 %v32 %h32 HX
  iapply (chain c _ _)
  iapply (part2 ξ K c _ _ _ _ h32)
  isplitr; · iexact HR
  isplitl [HZ0]; · iexact HZ0
  isplitl [HX]; · iexact HX
  isplitl [HZ1]; · iexact HZ1
  isplitl [HZ2]; · iexact HZ2
  isplitl [HO]; · iexact HO
  isplitl [HT0]; · iexact HT0
  isplitl [HB0]; · iexact HB0
  isplitl [HT1]; · iexact HT1
  isplitl [HB1]; · iexact HB1
  iintro %u0 HS0_0 HS0_1 HX HS1_0 HS1_1 HS2_0 HS2_1 HO
  iapply (chain c _ _)
  iapply (part3 ξ K c _ _ _ )
  isplitr; · iexact HR
  isplitl [HO]; · iexact HO
  isplitl [HT2]; · iexact HT2
  isplitl [HB2]; · iexact HB2
  isplitl [HbI]; · iexact HbI
  isplitl [Ht0_0]; · iexact Ht0_0
  isplitl [HS0_0]; · iexact HS0_0
  isplitl [Ht0_1]; · iexact Ht0_1
  isplitl [HS0_1]; · iexact HS0_1
  iintro %u0 %u1 HO HbI HD0_10 HD0_11 HD0_2 HD0_3 HD0_4 HD1_0 HD1_1 HD1_10 HD1_11 HD1_2 HD1_3 HD1_4 HD2_0 HD2_1 HD2_10 HD2_11 HD2_2 HD2_3 HD2_4 Ht0_0 Ht0_1
  iapply (chain c _ _)
  iapply (part4 ξ K c _ _ _ )
  isplitr; · iexact HR
  isplitl [Ht1_0]; · iexact Ht1_0
  isplitl [HS1_0]; · iexact HS1_0
  isplitl [HD1_0]; · iexact HD1_0
  isplitl [HO]; · iexact HO
  isplitl [Ht1_1]; · iexact Ht1_1
  isplitl [HS1_1]; · iexact HS1_1
  isplitl [HD1_1]; · iexact HD1_1
  iintro %u0 %u1 Ht1_0 HO Ht1_1
  iapply (chain c _ _)
  iapply (part5 ξ K c _ _ _ )
  isplitr; · iexact HR
  isplitl [Ht2_0]; · iexact Ht2_0
  isplitl [HS2_0]; · iexact HS2_0
  isplitl [HD2_0]; · iexact HD2_0
  isplitl [HO]; · iexact HO
  isplitl [Ht2_1]; · iexact Ht2_1
  isplitl [HS2_1]; · iexact HS2_1
  isplitl [HD2_1]; · iexact HD2_1
  iintro %u0 %u1 %u2 Ht2_0 HO Ht2_1
  iapply (chain c _ _)
  iapply (part6 ξ K c _ _ _ _ _ _ )
  isplitr; · iexact HR
  isplitl [Ht0_0]; · iexact Ht0_0
  isplitl [HO]; · iexact HO
  isplitl [HX]; · iexact HX
  isplitl [HR0]; · iexact HR0
  iintro %u0 %u1 Ht0_0 HO HP0_0 HG0_0 HX HS0_2 HS0_3
  iapply (chain c _ _)
  iapply (part7 ξ K c _ _ _ _ )
  isplitr; · iexact HR
  isplitl [Ht0_2]; · iexact Ht0_2
  isplitl [HS0_2]; · iexact HS0_2
  isplitl [HD0_2]; · iexact HD0_2
  isplitl [HO]; · iexact HO
  isplitl [Ht0_3]; · iexact Ht0_3
  isplitl [HS0_3]; · iexact HS0_3
  isplitl [HD0_3]; · iexact HD0_3
  isplitl [Ht1_0]; · iexact Ht1_0
  iintro %u0 %u1 Ht0_2 HO Ht0_3 Ht1_0 HP1_0
  iapply (chain c _ _)
  iapply (part8 ξ K c _ _ _ _ _ _ )
  isplitr; · iexact HR
  isplitl [Ht1_0]; · iexact Ht1_0
  isplitl [HO]; · iexact HO
  isplitl [HX]; · iexact HX
  isplitl [HR1]; · iexact HR1
  iintro %u0 %u1 Ht1_0 HO HG1_0 HX HS1_2 HS1_3
  iapply (chain c _ _)
  iapply (part9 ξ K c _ _ _ _ )
  isplitr; · iexact HR
  isplitl [Ht1_2]; · iexact Ht1_2
  isplitl [HS1_2]; · iexact HS1_2
  isplitl [HD1_2]; · iexact HD1_2
  isplitl [HO]; · iexact HO
  isplitl [Ht1_3]; · iexact Ht1_3
  isplitl [HS1_3]; · iexact HS1_3
  isplitl [HD1_3]; · iexact HD1_3
  isplitl [Ht2_0]; · iexact Ht2_0
  iintro %u0 %u1 %u2 %u3 Ht1_2 HO Ht1_3 Ht2_0 HP2_0
  iapply (chain c _ _)
  iapply (part10 ξ K c _ _ _ _ _ _ _ )
  isplitr; · iexact HR
  isplitl [Ht2_0]; · iexact Ht2_0
  isplitl [HO]; · iexact HO
  isplitl [HX]; · iexact HX
  isplitl [HR2]; · iexact HR2
  isplitl [Ht2_2]; · iexact Ht2_2
  isplitl [HD2_2]; · iexact HD2_2
  iintro %u0 %u1 %u2 Ht2_0 HO HG2_0 HX HS2_3 Ht2_2
  iapply (chain c _ _)
  iapply (part11 ξ K c _ _ _ _ _ _ )
  isplitr; · iexact HR
  isplitl [Ht2_3]; · iexact Ht2_3
  isplitl [HS2_3]; · iexact HS2_3
  isplitl [HD2_3]; · iexact HD2_3
  isplitl [HO]; · iexact HO
  isplitl [Ht0_1]; · iexact Ht0_1
  iintro %u0 %u1 %u2 Ht2_3 HO Ht0_1 HP0_1 HG0_1
  iapply (chain c _ _)
  iapply (part12 ξ K c _ _ _ _ _ _ )
  isplitr; · iexact HR
  isplitl [HX]; · iexact HX
  isplitl [HG0_1]; · iexact HG0_1
  isplitl [HK0]; · iexact HK0
  isplitl [Ht1_1]; · iexact Ht1_1
  isplitl [HO]; · iexact HO
  iintro %u0 %v338 %h338 HX HG0_1 HA0 HB0 Ht1_1 HO HP1_1 HG1_1
  iapply (chain c _ _)
  iapply (part13 ξ K c _ _ _ _ _ _ h338)
  isplitr; · iexact HR
  isplitl [HG1_1]; · iexact HG1_1
  isplitl [HK1]; · iexact HK1
  isplitl [Ht2_1]; · iexact Ht2_1
  isplitl [HO]; · iexact HO
  isplitl [HX]; · iexact HX
  iintro %v366 %h366 HG1_1 HA1 HB1 Ht2_1 HO HP2_1 HG2_1 HX
  iapply (chain c _ _)
  iapply (part14 ξ K c _ _ _ _ h366)
  isplitr; · iexact HR
  isplitl [HK2]; · iexact HK2
  isplitl [Ht0_2]; · iexact Ht0_2
  isplitl [HO]; · iexact HO
  isplitl [HA0]; · iexact HA0
  iintro %u0 %u1 HA2 HB2 Ht0_2 HO HP0_2 HG0_2 HD0_9 HS0_4
  iapply (chain c _ _)
  iapply (part15 ξ K c _ _ _ _ _ _ )
  isplitr; · iexact HR
  isplitl [Ht0_4]; · iexact Ht0_4
  isplitl [HS0_4]; · iexact HS0_4
  isplitl [HD0_4]; · iexact HD0_4
  isplitl [HO]; · iexact HO
  isplitl [Ht1_2]; · iexact Ht1_2
  iintro %u0 %u1 Ht0_4 HO Ht1_2 HP1_2
  iapply (chain c _ _)
  iapply (part16 ξ K c _ _ _ _ _ )
  isplitr; · iexact HR
  isplitl [Ht1_2]; · iexact Ht1_2
  isplitl [HO]; · iexact HO
  isplitl [HA1]; · iexact HA1
  isplitl [Ht1_4]; · iexact Ht1_4
  isplitl [HD1_4]; · iexact HD1_4
  iintro %u0 %u1 Ht1_2 HO HG1_2 HD1_9 Ht1_4
  iapply (chain c _ _)
  iapply (part17 ξ K c _ _ _ _ _ )
  isplitr; · iexact HR
  isplitl [Ht2_2]; · iexact Ht2_2
  isplitl [HO]; · iexact HO
  isplitl [HA2]; · iexact HA2
  iintro %u0 Ht2_2 HO HP2_2 HG2_2 HD2_9 HS2_4
  iapply (chain c _ _)
  iapply (part18 ξ K c _ _ _ )
  isplitr; · iexact HR
  isplitl [Ht2_4]; · iexact Ht2_4
  isplitl [HS2_4]; · iexact HS2_4
  isplitl [HD2_4]; · iexact HD2_4
  isplitl [HO]; · iexact HO
  isplitl [Ht0_3]; · iexact Ht0_3
  isplitl [HB0]; · iexact HB0
  iintro %v504 %h504 Ht2_4 HO Ht0_3 HP0_3 HG0_3 HD0_8 HB0
  iapply (chain c _ _)
  iapply (part19 ξ K c _ _ _ _ _ h504)
  isplitr; · iexact HR
  isplitl [HB0]; · iexact HB0
  isplitl [Ht1_3]; · iexact Ht1_3
  isplitl [HO]; · iexact HO
  isplitl [HB1]; · iexact HB1
  iintro %u0 HB0 Ht1_3 HO HP1_3 HG1_3 HD1_8 HB1
  iapply (chain c _ _)
  iapply (part20 ξ K c _ _ _ )
  isplitr; · iexact HR
  isplitl [Ht2_3]; · iexact Ht2_3
  isplitl [HO]; · iexact HO
  isplitl [HB2]; · iexact HB2
  iintro Ht2_3 HO HP2_3 HG2_3 HD2_8 HB2
  iapply (chain c _ _)
  iapply (part21 ξ K c _ _ _ )
  isplitr; · iexact HR
  isplitl [Ht0_4]; · iexact Ht0_4
  isplitl [HO]; · iexact HO
  isplitl [HB0]; · iexact HB0
  isplitl [Ht0_6]; · iexact Ht0_6
  iintro %u0 %u1 Ht0_4 HO HP0_4 HG0_4 HS0_8 Ht0_6
  iapply (chain c _ _)
  iapply (part22 ξ K c _ _ _ )
  isplitr; · iexact HR
  isplitl [Ht0_8]; · iexact Ht0_8
  isplitl [HS0_8]; · iexact HS0_8
  isplitl [HD0_8]; · iexact HD0_8
  isplitl [HO]; · iexact HO
  isplitl [Ht1_4]; · iexact Ht1_4
  isplitl [HB1]; · iexact HB1
  iintro %v611 %h611 Ht0_8 HO Ht1_4 HP1_4 HG1_4 HD1_6 HB1
  iapply (chain c _ _)
  iapply (part23 ξ K c _ _ h611)
  isplitr; · iexact HR
  isplitl [HB1]; · iexact HB1
  isplitl [Ht1_6]; · iexact Ht1_6
  isplitl [HD1_6]; · iexact HD1_6
  isplitl [HO]; · iexact HO
  isplitl [Ht1_8]; · iexact Ht1_8
  isplitl [HD1_8]; · iexact HD1_8
  isplitl [Ht2_4]; · iexact Ht2_4
  iintro %u0 %u1 Ht1_6 HO Ht1_8 Ht2_4 HP2_4
  iapply (chain c _ _)
  iapply (part24 ξ K c _ _ _ )
  isplitr; · iexact HR
  isplitl [Ht2_4]; · iexact Ht2_4
  isplitl [HO]; · iexact HO
  isplitl [HB2]; · iexact HB2
  isplitl [Ht2_6]; · iexact Ht2_6
  iintro %u0 %u1 Ht2_4 HO HG2_4 HS2_8 Ht2_6
  iapply (chain c _ _)
  iapply (part25 ξ K c _ _ _ _ )
  isplitr; · iexact HR
  isplitl [Ht2_8]; · iexact Ht2_8
  isplitl [HS2_8]; · iexact HS2_8
  isplitl [HD2_8]; · iexact HD2_8
  isplitl [HO]; · iexact HO
  isplitl [Ht0_6]; · iexact Ht0_6
  iintro %u0 Ht2_8 HO Ht0_6 HS0_9 HS0_10
  iapply (chain c _ _)
  iapply (part26 ξ K c _ _ _ _ )
  isplitr; · iexact HR
  isplitl [Ht0_9]; · iexact Ht0_9
  isplitl [HS0_9]; · iexact HS0_9
  isplitl [HD0_9]; · iexact HD0_9
  isplitl [HO]; · iexact HO
  isplitl [Ht0_10]; · iexact Ht0_10
  isplitl [HS0_10]; · iexact HS0_10
  isplitl [HD0_10]; · iexact HD0_10
  isplitl [Ht1_6]; · iexact Ht1_6
  iintro %u0 %u1 Ht0_9 HO Ht0_10 Ht1_6 HS1_9 HS1_10
  iapply (chain c _ _)
  iapply (part27 ξ K c _ _ _ _ )
  isplitr; · iexact HR
  isplitl [Ht1_9]; · iexact Ht1_9
  isplitl [HS1_9]; · iexact HS1_9
  isplitl [HD1_9]; · iexact HD1_9
  isplitl [HO]; · iexact HO
  isplitl [Ht1_10]; · iexact Ht1_10
  isplitl [HS1_10]; · iexact HS1_10
  isplitl [HD1_10]; · iexact HD1_10
  isplitl [Ht2_6]; · iexact Ht2_6
  iintro %u0 %u1 Ht1_9 HO Ht1_10 Ht2_6 HP2_6
  iapply (chain c _ _)
  iapply (part28 ξ K c _ _ _ _ _ _ )
  isplitr; · iexact HR
  isplitl [Ht2_6]; · iexact Ht2_6
  isplitl [HO]; · iexact HO
  isplitl [HP2_6]; · iexact HP2_6
  isplitl [Ht2_9]; · iexact Ht2_9
  isplitl [HD2_9]; · iexact HD2_9
  isplitl [Ht2_10]; · iexact Ht2_10
  isplitl [HD2_10]; · iexact HD2_10
  iintro %u0 %u1 %u2 %u3 Ht2_6 HO Ht2_9 Ht2_10
  iapply (chain c _ _)
  iapply (part29 ξ K c _ _ _ _ _ )
  isplitr; · iexact HR
  isplitl [Ht0_8]; · iexact Ht0_8
  isplitl [HO]; · iexact HO
  isplitl [Ht0_9]; · iexact Ht0_9
  iintro %u0 Ht0_8 HO HP0_8 Ht0_9 HP0_9 HS0_11
  iapply (chain c _ _)
  iapply (part30 ξ K c _ _ _ _ _ )
  isplitr; · iexact HR
  isplitl [Ht0_11]; · iexact Ht0_11
  isplitl [HS0_11]; · iexact HS0_11
  isplitl [HD0_11]; · iexact HD0_11
  isplitl [HO]; · iexact HO
  isplitl [Ht1_8]; · iexact Ht1_8
  iintro Ht0_11 HO Ht1_8 HP1_8 HG1_8
  iapply (chain c _ _)
  iapply (part31 ξ K c _ _ _ _ _ )
  isplitr; · iexact HR
  isplitl [Ht1_9]; · iexact Ht1_9
  isplitl [HO]; · iexact HO
  isplitl [HG1_8]; · iexact HG1_8
  isplitl [Ht1_11]; · iexact Ht1_11
  isplitl [HD1_11]; · iexact HD1_11
  iintro %u0 Ht1_9 HO HP1_9 Ht1_11
  iapply (chain c _ _)
  iapply (part32 ξ K c _ _ _ )
  isplitr; · iexact HR
  isplitl [Ht2_8]; · iexact Ht2_8
  isplitl [HO]; · iexact HO
  isplitl [Ht2_9]; · iexact Ht2_9
  iintro %u0 %u1 Ht2_8 HO HP2_8 Ht2_9 HP2_9 HS2_11
  iapply (chain c _ _)
  iapply (part33 ξ K c _ _ _ _ )
  isplitr; · iexact HR
  isplitl [Ht2_11]; · iexact Ht2_11
  isplitl [HS2_11]; · iexact HS2_11
  isplitl [HD2_11]; · iexact HD2_11
  isplitl [HO]; · iexact HO
  isplitl [Ht0_10]; · iexact Ht0_10
  isplitl [Ht0_11]; · iexact Ht0_11
  iintro Ht2_11 HO Ht0_10 HP0_10 HG0_10 Ht0_11 HP0_11
  iapply (chain c _ _)
  iapply (part34 ξ K c _ _ )
  isplitr; · iexact HR
  isplitl [Ht0_11]; · iexact Ht0_11
  isplitl [HO]; · iexact HO
  isplitl [Ht1_10]; · iexact Ht1_10
  isplitl [Ht1_11]; · iexact Ht1_11
  iintro Ht0_11 HO HG0_11 Ht1_10 HP1_10 HG1_10 Ht1_11 HP1_11 HG1_11
  simp only [Prog.lift, Prog.bind_op, Prog.bind_ret, Prog.pure_eq_ret]
  iapply (wait_s ξ K c (g := 2) (j := 10) (l := evs.drop 33) rfl rfl (by decide) rfl)
  isplitr; · iexact HR
  isplitl [Ht2_10]; · iexact Ht2_10
  isplitl [HO]; · iexact HO
  iintro Ht2_10 HO HP2_10
  iapply (done c _)
  iapply Hk $$ HX HO HbI Ht0_0 Ht0_1 Ht0_2 Ht0_3 Ht0_4 Ht0_6 Ht0_8 Ht0_9 Ht0_10 Ht0_11 Ht1_0 Ht1_1 Ht1_2 Ht1_3 Ht1_4 Ht1_6 Ht1_8 Ht1_9 Ht1_10 Ht1_11 Ht2_0 Ht2_1 Ht2_2 Ht2_3 Ht2_4 Ht2_6 Ht2_8 Ht2_9 Ht2_10 Ht2_11 HP0_0 HG0_0 HP1_0 HG1_0 HP2_0 HG2_0 HP0_1 HG0_1 HP1_1 HG1_1 HP2_1 HG2_1 HP0_2 HG0_2 HP1_2 HG1_2 HP2_2 HG2_2 HP0_3 HG0_3 HP1_3 HG1_3 HP2_3 HG2_3 HP0_4 HG0_4 HP1_4 HG1_4 HP2_4 HG2_4 HP0_8 HP0_9 HP1_8 HP1_9 HP2_8 HP2_9 HP0_10 HG0_10 HP0_11 HG0_11 HP1_10 HG1_10 HP1_11 HG1_11 HP2_10

set_option maxHeartbeats 4000000 in
/-- The kernel's body on device `c`. -/
theorem body {Q : PUnit → sProp 𝕄} {h0 h1 h2 h3} :
    iprop(recs ξ K ∗ xpt ξ c ∗ ow c (evs.drop 0) ∗ bI c ∗ dutyTok ER (barCell (pr 0 c)) 0 0 ∗ dutyTok ER (barCell (pr 1 c)) 0 1 ∗ dutyTok ER (barCell (pr 2 c)) 0 2 ∗ pieces c (pr 0 c) 0 ∗ pieces c (pr 1 c) 1 ∗ pieces c (pr 2 c) 2
      ∗ fresh c 0 ∗ fresh c 1 ∗ fresh c 2 ∗ perCell trI c 0 ∗ perCell trI c 1 ∗ perCell trI c 2
      ∗ (xpt ξ c -∗ ow c (evs.drop 33) -∗ bD c -∗ perCell trD c 0 -∗ perCell trD c 1 -∗ perCell trD c 2
        -∗ sent0 ξ c 0 -∗ sent0 ξ c 1 -∗ sent0 ξ c 2 -∗ landed ξ c 0 -∗ landed ξ c 1 -∗ landed ξ c 2
        -∗ fin ξ c 0 -∗ fin ξ c 1 -∗ fin ξ c 2 -∗ Q ⟨⟩))
    ⊢ WP c (cc0_body xM h0 oM h1 sM h2 zM h3 cc0_scratch2 cc0_scratch3) Q := by
  simp only [cc0_body_eq_skeleton]; unfold cc0_body_skel
  iintro ⟨#HR, HX, HO, HbI, HT0, HT1, HT2, HB0, HB1, HB2, F0, F1, F2, C0, C1, C2, Hk⟩
  iapply (chain c _ _)
  iapply (part35 ξ K c)
  isplitr; · iexact HR
  isplitl [HX]; · iexact HX
  isplitl [HO]; · iexact HO
  isplitl [HbI]; · iexact HbI
  isplitl [HT0]; · iexact HT0
  isplitl [HT1]; · iexact HT1
  isplitl [HT2]; · iexact HT2
  isplitl [HB0]; · iexact HB0
  isplitl [HB1]; · iexact HB1
  isplitl [HB2]; · iexact HB2
  isplitl [F0]; · iexact F0
  isplitl [F1]; · iexact F1
  isplitl [F2]; · iexact F2
  isplitl [C0]; · iexact C0
  isplitl [C1]; · iexact C1
  isplitl [C2]; · iexact C2
  iintro %u HX HO HbI Ht0_0 Ht0_1 Ht0_2 Ht0_3 Ht0_4 Ht0_6 Ht0_8 Ht0_9 Ht0_10 Ht0_11 Ht1_0 Ht1_1 Ht1_2 Ht1_3 Ht1_4 Ht1_6 Ht1_8 Ht1_9 Ht1_10 Ht1_11 Ht2_0 Ht2_1 Ht2_2 Ht2_3 Ht2_4 Ht2_6 Ht2_8 Ht2_9 Ht2_10 Ht2_11 HP0_0 HG0_0 HP1_0 HG1_0 HP2_0 HG2_0 HP0_1 HG0_1 HP1_1 HG1_1 HP2_1 HG2_1 HP0_2 HG0_2 HP1_2 HG1_2 HP2_2 HG2_2 HP0_3 HG0_3 HP1_3 HG1_3 HP2_3 HG2_3 HP0_4 HG0_4 HP1_4 HG1_4 HP2_4 HG2_4 HP0_8 HP0_9 HP1_8 HP1_9 HP2_8 HP2_9 HP0_10 HG0_10 HP0_11 HG0_11 HP1_10 HG1_10 HP1_11 HG1_11 HP2_10
  simp only [Prog.lift, Prog.bind_op, Prog.bind_ret, Prog.pure_eq_ret]
  iapply (wait_r ξ K c (g := 2) (j := 10) (l := evs.drop 33) rfl rfl (by decide) rfl)
  isplitr; · iexact HR
  isplitl [Ht2_10]; · iexact Ht2_10
  isplitl [HO]; · iexact HO
  iintro Ht2_10 HO HG2_10
  iapply (wait_s ξ K c (g := 2) (j := 11) (l := evs.drop 33) rfl rfl (by decide) rfl)
  isplitr; · iexact HR
  isplitl [Ht2_11]; · iexact Ht2_11
  isplitl [HO]; · iexact HO
  iintro Ht2_11 HO HP2_11
  iapply (wait_r ξ K c (g := 2) (j := 11) (l := evs.drop 33) rfl rfl (by decide) rfl)
  isplitr; · iexact HR
  isplitl [Ht2_11]; · iexact Ht2_11
  isplitl [HO]; · iexact HO
  iintro Ht2_11 HO HG2_11
  iapply (done c _)
  unfold perCell sent0 landed fin
  iapply Hk $$ HX HO HbI [Ht0_0 Ht0_1 Ht0_2 Ht0_3 Ht0_4 Ht0_6 Ht0_8 Ht0_9 Ht0_10 Ht0_11] [Ht1_0 Ht1_1 Ht1_2 Ht1_3 Ht1_4 Ht1_6 Ht1_8 Ht1_9 Ht1_10 Ht1_11] [Ht2_0 Ht2_1 Ht2_2 Ht2_3 Ht2_4 Ht2_6 Ht2_8 Ht2_9 Ht2_10 Ht2_11] [HP0_0 HP0_1] [HP1_0 HP1_1] [HP2_0 HP2_1] [HG0_0 HG0_1 HG0_2 HG0_3 HG0_4] [HG1_0 HG1_1 HG1_2 HG1_3 HG1_4] [HG2_0 HG2_1 HG2_2 HG2_3 HG2_4] [HP0_8 HP0_9 HP0_10 HP0_11 HG0_10 HG0_11] [HP1_8 HP1_9 HP1_10 HP1_11 HG1_10 HG1_11] [HP2_8 HP2_9 HP2_10 HP2_11 HG2_10 HG2_11]
  · isplitl [Ht0_0]; iexact Ht0_0; isplitl [Ht0_1]; iexact Ht0_1; isplitl [Ht0_2]; iexact Ht0_2; isplitl [Ht0_3]; iexact Ht0_3; isplitl [Ht0_4]; iexact Ht0_4; isplitl [Ht0_6]; iexact Ht0_6; isplitl [Ht0_8]; iexact Ht0_8; isplitl [Ht0_9]; iexact Ht0_9; isplitl [Ht0_10]; iexact Ht0_10; iexact Ht0_11
  · isplitl [Ht1_0]; iexact Ht1_0; isplitl [Ht1_1]; iexact Ht1_1; isplitl [Ht1_2]; iexact Ht1_2; isplitl [Ht1_3]; iexact Ht1_3; isplitl [Ht1_4]; iexact Ht1_4; isplitl [Ht1_6]; iexact Ht1_6; isplitl [Ht1_8]; iexact Ht1_8; isplitl [Ht1_9]; iexact Ht1_9; isplitl [Ht1_10]; iexact Ht1_10; iexact Ht1_11
  · isplitl [Ht2_0]; iexact Ht2_0; isplitl [Ht2_1]; iexact Ht2_1; isplitl [Ht2_2]; iexact Ht2_2; isplitl [Ht2_3]; iexact Ht2_3; isplitl [Ht2_4]; iexact Ht2_4; isplitl [Ht2_6]; iexact Ht2_6; isplitl [Ht2_8]; iexact Ht2_8; isplitl [Ht2_9]; iexact Ht2_9; isplitl [Ht2_10]; iexact Ht2_10; iexact Ht2_11
  · isplitl [HP0_0]; iexact HP0_0; iexact HP0_1
  · isplitl [HP1_0]; iexact HP1_0; iexact HP1_1
  · isplitl [HP2_0]; iexact HP2_0; iexact HP2_1
  · isplitl [HG0_0]; iexact HG0_0; isplitl [HG0_1]; iexact HG0_1; isplitl [HG0_2]; iexact HG0_2; isplitl [HG0_3]; iexact HG0_3; iexact HG0_4
  · isplitl [HG1_0]; iexact HG1_0; isplitl [HG1_1]; iexact HG1_1; isplitl [HG1_2]; iexact HG1_2; isplitl [HG1_3]; iexact HG1_3; iexact HG1_4
  · isplitl [HG2_0]; iexact HG2_0; isplitl [HG2_1]; iexact HG2_1; isplitl [HG2_2]; iexact HG2_2; isplitl [HG2_3]; iexact HG2_3; iexact HG2_4
  · isplitl [HP0_8]; iexact HP0_8; isplitl [HP0_9]; iexact HP0_9; isplitl [HP0_10]; iexact HP0_10; isplitl [HP0_11]; iexact HP0_11; isplitl [HG0_10]; iexact HG0_10; iexact HG0_11
  · isplitl [HP1_8]; iexact HP1_8; isplitl [HP1_9]; iexact HP1_9; isplitl [HP1_10]; iexact HP1_10; isplitl [HP1_11]; iexact HP1_11; isplitl [HG1_10]; iexact HG1_10; iexact HG1_11
  · isplitl [HP2_8]; iexact HP2_8; isplitl [HP2_9]; iexact HP2_9; isplitl [HP2_10]; iexact HP2_10; isplitl [HP2_11]; iexact HP2_11; isplitl [HG2_10]; iexact HG2_10; iexact HG2_11

end Cert.Butterfly

end
-- ==== Proof.Deal.lean ====
/-
# What the launch deals

The launch allocates every cell's invariant for all devices at once and mints every cell's tokens. A device's own
cells' tokens go to the devices that pay them, each across the direction of its cell; the credits come from what all
devices owe at the start.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ξ : Dev nD → S1x2048x1024.Idx → Elt F .bf16)

/-- A group and a column. -/
abbrev GJ : Type := Fin 3 × Fin 12
/-- The kernel's own semaphores, as the launch indexes them. -/
abbrev osem : Bool × GJ → SemLoc sig := fun p => .dma (xSem p.1 p.2.1 p.2.2)

theorem xSem_inj {p p' : Bool × GJ} (h : xSem p.1 p.2.1 p.2.2 = xSem p'.1 p'.2.1 p'.2.2) : p = p' := by
  have := congrArg dec h
  rw [dec_xSem, dec_xSem] at this
  exact Option.some.inj this

theorem xSem_stage : ∀ p : Bool × GJ, 2 ≤ (xSem p.1 p.2.1 p.2.2).val := by decide
theorem ownSemFacts : Pipeline.OwnSemFacts cfg0.spec osem where
  isScoped := by decide
  inj p p' h := xSem_inj (SemLoc.dma.inj h)
  disj k w s h := by
    have h1 := xSem_stage k
    have h2 := SemLoc.dma.inj h
    rw [h2] at h1
    fin_cases w <;> fin_cases s <;> exact absurd h1 (by decide)

theorem csem_inj : Function.Injective csem := by
  rintro (_ | ⟨b, g, j⟩) (_ | ⟨b', g', j'⟩) h
  · rfl
  · exact absurd h.symm (dma_ne_bar _)
  · exact absurd h (dma_ne_bar _)
  · exact congrArg some (xSem_inj (p := (b, g, j)) (p' := (b', g', j')) (SemLoc.dma.inj h))

theorem kcell_inj : Function.Injective (kcell : Dev nD × Kx → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- A device's own cells' tokens, as minted. -/
abbrev Tx : Type := Fin 3 ⊕ (Bool × GJ)
abbrev tokOf (ct : Dev nD × Tx) : GSem nD τ sig × ℕ × Fin 3 := match ct.2 with
  | .inl d => (barCell ct.1, 0, d)
  | .inr p => (xCell p.1 ct.1 p.2.1 p.2.2, 0, 0)
theorem tokOf_inj : Function.Injective (tokOf : Dev nD × Tx → GSem nD τ sig × ℕ × Fin 3) := by
  rintro ⟨c, (d | p)⟩ ⟨c', (d' | p')⟩ h
  · have h1 : c = c' := congrArg (fun x : GSem nD τ sig × ℕ × Fin 3 => x.1.1.1) h
    have h2 : d = d' := congrArg (fun x : GSem nD τ sig × ℕ × Fin 3 => x.2.2) h
    rw [h1, h2]
  · exact absurd (congrArg (fun x : GSem nD τ sig × ℕ × Fin 3 => x.1.2) h).symm (dma_ne_bar _)
  · exact absurd (congrArg (fun x : GSem nD τ sig × ℕ × Fin 3 => x.1.2) h) (dma_ne_bar _)
  · have h1 : c = c' := congrArg (fun x : GSem nD τ sig × ℕ × Fin 3 => x.1.1.1) h
    have h2 : p = p' := xSem_inj (SemLoc.dma.inj (congrArg (fun x : GSem nD τ sig × ℕ × Fin 3 => x.1.2) h))
    rw [h1, h2]
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-! ## Finite conjunctions -/

theorem bools (Φ : Bool × GJ → sProp 𝕄) : bigSep Finset.univ Φ
    = iprop((bigSep Finset.univ fun p : GJ => Φ (false, p)) ∗ bigSep Finset.univ fun p : GJ => Φ (true, p)) := by
  rw [bigSep_univ_prod, bigSep_univ_eq_bigSepL [false, true] (by decide) (by decide)]; rfl

theorem erase_none : (Finset.univ.erase none : Finset Kx) = Finset.univ.map ⟨some, Option.some_injective _⟩ := by
  ext x; cases x <;> simp

theorem cells_split (Φ : Kx → sProp 𝕄) : bigSep Finset.univ Φ = iprop(Φ none ∗ bigSep Finset.univ fun p : Bool × GJ => Φ (some p)) := by
  rw [bigSep_univ_at Φ none, erase_none, bigSep_map]; rfl

/-- A group's twelve columns: the ten in use and two more. -/
theorem columns (P : Dev nD → Fin 3 → Fin 12 → sProp 𝕄) (c : Dev nD) (g : Fin 3) :
    (bigSep Finset.univ fun j : Fin 12 => P c g j) ⊣⊢ iprop(perCell P c g ∗ P c g 5 ∗ P c g 7) := by
  rw [bigSep_univ_eq_bigSepL [0, 1, 2, 3, 4, 5, 6, 7, 8, 9, 10, 11] (by decide) (by decide)]
  unfold perCell
  constructor
  · show iprop(P c g 0 ∗ P c g 1 ∗ P c g 2 ∗ P c g 3 ∗ P c g 4 ∗ P c g 5 ∗ P c g 6 ∗ P c g 7 ∗ P c g 8 ∗ P c g 9 ∗ P c g 10 ∗ P c g 11) ⊢ _
    iintro ⟨H0, H1, H2, H3, H4, H5, H6, H7, H8, H9, H10, H11⟩
    isplitr [H5 H7]
    · isplitl [H0]; · iexact H0
      isplitl [H1]; · iexact H1
      isplitl [H2]; · iexact H2
      isplitl [H3]; · iexact H3
      isplitl [H4]; · iexact H4
      isplitl [H6]; · iexact H6
      isplitl [H8]; · iexact H8
      isplitl [H9]; · iexact H9
      isplitl [H10]; · iexact H10
      iexact H11
    · isplitl [H5]; · iexact H5
      iexact H7
  · show _ ⊢ iprop(P c g 0 ∗ P c g 1 ∗ P c g 2 ∗ P c g 3 ∗ P c g 4 ∗ P c g 5 ∗ P c g 6 ∗ P c g 7 ∗ P c g 8 ∗ P c g 9 ∗ P c g 10 ∗ P c g 11)
    iintro ⟨⟨H0, H1, H2, H3, H4, H6, H8, H9, H10, H11⟩, H5, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem threes (Φ : Fin 3 → sProp 𝕄) : bigSep Finset.univ Φ = iprop(Φ 0 ∗ Φ 1 ∗ Φ 2) :=
  bigSep_univ_eq_bigSepL [0, 1, 2] (by decide) (by decide) Φ

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Tokens -/

/-- The tokens of device `c`'s own cells. -/
def toks (c : Dev nD) : sProp 𝕄 :=
  iprop((bigSep Finset.univ fun d : Fin 3 => dutyTok ER (barCell c) 0 d)
    ∗ (bigSep Finset.univ fun p : GJ => dutyTok ER (sCell c p.1 p.2) 0 0) ∗ bigSep Finset.univ fun p : GJ => dutyTok ER (rCell c p.1 p.2) 0 0)
/-- The tokens of the duties device `c` pays. -/
def payToks (c : Dev nD) : sProp 𝕄 :=
  iprop((bigSep Finset.univ fun d : Fin 3 => dutyTok ER (barCell (pr d c)) 0 d)
    ∗ (bigSep Finset.univ fun p : GJ => dutyTok ER (sCell c p.1 p.2) 0 0) ∗ bigSep Finset.univ fun p : GJ => dutyTok ER (rCell (peer p.1 p.2 c) p.1 p.2) 0 0)

def barAcross : Equiv.Perm (Dev nD × Fin 3) := ⟨fun x => (pr x.2 x.1, x.2), fun x => (pr x.2 x.1, x.2), fun x => Prod.ext (pr_pr _ _) rfl, fun x => Prod.ext (pr_pr _ _) rfl⟩
def xAcross : Equiv.Perm (Dev nD × GJ) :=
  ⟨fun x => (peer x.2.1 x.2.2 x.1, x.2), fun x => (peer x.2.1 x.2.2 x.1, x.2), fun x => Prod.ext (px_px _ _ _) rfl, fun x => Prod.ext (px_px _ _ _) rfl⟩

theorem toks_across : (bigSep Finset.univ fun c : Dev nD => toks (F := F) c) ⊢ bigSep Finset.univ fun c : Dev nD => payToks c := by
  unfold toks payToks
  rw [bigSep_sep', bigSep_sep', bigSep_sep', bigSep_sep',
    ← bigSep_univ_prod (fun x : Dev nD × Fin 3 => (dutyTok ER (barCell x.1) 0 x.2 : sProp 𝕄)),
    bigSep_univ_equiv barAcross (fun x : Dev nD × Fin 3 => (dutyTok ER (barCell x.1) 0 x.2 : sProp 𝕄)),
    bigSep_univ_prod (fun x : Dev nD × Fin 3 => (dutyTok ER (barCell (barAcross x).1) 0 (barAcross x).2 : sProp 𝕄)),
    ← bigSep_univ_prod (fun x : Dev nD × GJ => (dutyTok ER (rCell x.1 x.2.1 x.2.2) 0 0 : sProp 𝕄)),
    bigSep_univ_equiv xAcross (fun x : Dev nD × GJ => (dutyTok ER (rCell x.1 x.2.1 x.2.2) 0 0 : sProp 𝕄)),
    bigSep_univ_prod (fun x : Dev nD × GJ => (dutyTok ER (rCell (xAcross x).1 (xAcross x).2.1 (xAcross x).2.2) 0 0 : sProp 𝕄))]
  exact .rfl

/-! ## Allocation -/

/-- What the launch mints for device `c`. -/
def G (c : Dev nD) : sProp 𝕄 :=
  iprop((bigSep Finset.univ fun k : Kx => roundState ER (Rd ξ) (kcell (c, k)) 0)
    ∗ (bigSep Finset.univ fun k : Kx => iprop(atPos ER (kcell (c, k)) 0 ∅ 0 ∗ reached ER (kcell (c, k)) 0)) ∗ toks c)

theorem fund_cells : BI.own (ER (initOf allCells allToks)) ⊢ (|==> bigSep Finset.univ (G ξ) : sProp 𝕄) := by
  have hX (Φ : GSem nD τ sig → sProp 𝕄) : bigSep allCells Φ = bigSep Finset.univ fun c : Dev nD => bigSep Finset.univ fun k : Kx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bools]; rfl
  iintro HX
  imod (Rounds.fund ER (Rd ξ) allCells allToks) $$ HX with ⟨Hst, Hr, Hat, Htok⟩
  imodintro
  ihave Hst' := (Entails.of_eq (hX fun g => roundState ER (Rd ξ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The device's semaphores at zero: its own, and the barrier semaphore. -/
abbrev own0 (c : Dev nD) : sProp 𝕄 := Pipeline.ownSems0 (Ix := Unit) (Name := ℕ) (U := UU) (Lvl := ℕ) (Val := Elt F) (τ := τ) osem c
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : iprop(own0 (F := F) c ∗ unscopedSems0 c) ⊢ (bigSep Finset.univ fun k : Kx => semVal (kcell (c, k)) 0 : sProp 𝕄) := by
  rw [unscopedSems0_eq, cells_split]
  unfold own0 Pipeline.ownSems0
  iintro ⟨HS, HB⟩
  isplitl [HB]; · iexact HB
  iexact HS

theorem core_alloc (c : Dev nD) :
    iprop(own0 c ∗ unscopedSems0 c ∗ G ξ c)
      ⊢ |={Set.univ}=> iprop((bigSep Finset.univ fun k => iprop(∃ κ : ℕ, cellInv ER (Rd ξ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kx => semVal (kcell (c, k)) 0) ∗ bigSep Finset.univ fun k : Kx => roundState ER (Rd ξ) (kcell (c, k)) 0)
      ⊢ (|={Set.univ}=> bigSep Finset.univ fun k => iprop(∃ κ : ℕ, cellInv ER (Rd ξ) κ (kcell (c, k))) : sProp 𝕄) from by
        rw [← bigSep_sep']
        exact (bigSep_mono fun k _ => (Rounds.body_intro ER (Rd ξ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records without the levels. -/
def recs₀ (K : Dev nD × Kx → ℕ) : sProp 𝕄 :=
  iprop((bigSep Finset.univ fun ck : Dev nD × Kx => cellInv ER (Rd ξ) (K ck) (kcell ck)) ∗ bigSep Finset.univ fun ck : Dev nD × Kx => reached ER (kcell ck) 0)
instance recs₀_persistent (K : Dev nD × Kx → ℕ) : BI.Persistent (recs₀ ξ K) := by unfold recs₀; infer_instance
/-- A device's positions and the tokens it pays with. -/
def linear (c : Dev nD) : sProp 𝕄 := iprop((bigSep Finset.univ fun k : Kx => atPos ER (kcell (c, k)) 0 ∅ 0) ∗ payToks c)
def G' (c : Dev nD) : sProp 𝕄 := iprop((∃ K, recs₀ ξ K) ∗ linear c)

theorem regroup :
    (bigSep Finset.univ fun c : Dev nD => iprop((bigSep Finset.univ fun k => iprop(∃ κ : ℕ, cellInv ER (Rd ξ) κ (kcell (c, k))))
          ∗ (bigSep Finset.univ fun k => iprop(atPos ER (kcell (c, k)) 0 ∅ 0 ∗ reached ER (kcell (c, k)) 0)) ∗ toks c) : sProp 𝕄)
      ⊢ bigSep Finset.univ (G' ξ) := by
  rw [bigSep_sep', bigSep_sep', ← bigSep_univ_prod (fun ck : Dev nD × Kx => iprop(∃ κ : ℕ, cellInv ER (Rd ξ) κ (kcell ck))),
    bigSep_congr (s := Finset.univ) (fun (c : Dev nD) _ => bigSep_sep' Finset.univ (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄))]
  iintro ⟨HI, ⟨Hat, #HR⟩, Htok⟩
  ihave HK := (BI.bigSep_exists_pi Finset.univ (fun (ck : Dev nD × Kx) (κ : ℕ) => (cellInv ER (Rd ξ) κ (kcell ck) : sProp 𝕄))) $$ HI
  icases HK with ⟨%K, #HI⟩
  ihave Htk := (toks_across (F := F)) $$ Htok
  iapply (with_persistent (R := recs₀ ξ K) (Φ := fun c => linear (F := F) c) (Ψ := G' ξ) fun c _ => by
    unfold G'
    iintro ⟨HR, HL⟩
    isplitl [HR]
    · iexists K; iexact HR
    iexact HL)
  isplitr
  · unfold recs₀; isplitl; · iexact HI
    iexact HR
  · unfold linear
    rw [bigSep_sep']
    isplitl [Hat]; · iexact Hat
    iexact Htk

/-- All devices' cells at once. -/
theorem glob : (bigSep Finset.univ fun c => iprop(own0 c ∗ unscopedSems0 c ∗ G ξ c) : sProp 𝕄) ⊢ |={Set.univ}=> bigSep Finset.univ (G' ξ) :=
  ((bigSep_mono fun c _ => core_alloc ξ c).trans (bigSep_fupd _ _)).trans (BI.fupd_mono (regroup ξ))

/-! ## Credits -/

/-- What device `c` owes at the start. -/
abbrev O₀ (c : Dev nD) : CellTallies nD τ sig Unit := owedL c evs

theorem owed_sum (l : List Ev) (g : GSem nD τ sig) :
    (∑ d : Dev nD, owedL d l g ()) = (l.map fun p => ∑ d : Dev nD, if g = evCell d p then evAmt p else 0).sum := by
  induction l with
  | nil => exact Finset.sum_const_zero
  | cons p l ih =>
    rw [List.map_cons, List.sum_cons, ← ih, Nat.add_comm, ← Finset.sum_add_distrib]
    refine Finset.sum_congr rfl fun d _ => ?_
    rw [show owedL d (p :: l) = owedL d l + tallyAt (evCell d p) () (evAmt p) from rfl, Pi.add_apply, Finsupp.add_apply, tallyAt_apply]
    simp only [and_true]

theorem peer_peer (g : Fin 3) (j : Fin 12) (c : Dev nD) : peer g j (peer g j c) = c := px_px _ _ _

theorem cell_dev {a b : Dev nD} {s s' : SemLoc sig} (h : (((a : Thread nD τ), s) : GSem nD τ sig) = ((b : Thread nD τ), s')) : a = b :=
  congrArg (fun g : GSem nD τ sig => g.1.1) h

theorem owed_r (c : Dev nD) (g : Fin 3) (j : Fin 12) (p : Ev) :
    (∑ d : Dev nD, if rCell c g j = evCell d p then evAmt p else 0) = if p = tx g j then amt g j else 0 := by
  match p with
  | .inl δ =>
    rw [if_neg (fun h => by cases h)]
    exact Finset.sum_eq_zero fun d _ => if_neg fun h => dma_ne_bar _ (congrArg Prod.snd h)
  | .inr (g', j') =>
    by_cases e : (g', j') = (g, j)
    · cases e
      rw [if_pos rfl, Finset.sum_eq_single (peer g j c)]
      · exact if_pos (by show rCell c g j = rCell (peer g j (peer g j c)) g j; rw [peer_peer])
      · intro d _ hd
        exact if_neg fun h => hd (by rw [show c = peer g j d from cell_dev h, peer_peer])
      · intro h; exact absurd (Finset.mem_univ _) h
    · rw [if_neg fun h => e (Sum.inr.inj h)]
      refine Finset.sum_eq_zero fun d _ => if_neg fun h => e ?_
      have := xSem_inj (p := (true, g, j)) (p' := (true, g', j')) (SemLoc.dma.inj (congrArg Prod.snd h))
      exact (congrArg Prod.snd this).symm

theorem owed_b (c : Dev nD) (p : Ev) : (∑ d : Dev nD, if barCell c = evCell d p then evAmt p else 0) = match p with | .inl _ => 1 | .inr _ => 0 := by
  match p with
  | .inl δ =>
    rw [Finset.sum_eq_single (pr δ c)]
    · exact if_pos (by show barCell c = barCell (pr δ (pr δ c)); rw [pr_pr])
    · intro d _ hd
      exact if_neg fun h => hd (by rw [show c = pr δ d from cell_dev h, pr_pr])
    · intro h; exact absurd (Finset.mem_univ _) h
  | .inr (g', j') => exact Finset.sum_eq_zero fun d _ => if_neg fun h => dma_ne_bar _ (congrArg Prod.snd h).symm

theorem sum_once (l : List Ev) (a : Ev) (n : ℕ) :
    (l.map fun p => if p = a then n else 0).sum = (l.map fun p => if p = a then 1 else 0).sum * n := by
  induction l with
  | nil => exact (Nat.zero_mul n).symm
  | cons p l ih =>
    rw [List.map_cons, List.sum_cons, ih, List.map_cons, List.sum_cons, Nat.add_mul]
    by_cases h : p = a
    · rw [if_pos h, if_pos h, Nat.one_mul]
    · rw [if_neg h, if_neg h, Nat.zero_mul]

theorem once : ∀ (g : Fin 3) (j : Fin 12), used j = true → (evs.map fun p => if p = tx g j then 1 else 0).sum = 1 := by decide

theorem launch_r (c : Dev nD) (g : Fin 3) (j : Fin 12) (h : used j = true) :
    tallyOn (rCell c g j) (launchCredit (Pipeline.owing O₀) 0 (rCell c g j)) = (tallyAt (rCell c g j) () (amt g j) : CellTallies nD τ sig Unit) := by
  unfold tallyAt; refine congrArg _ (Finsupp.ext fun u => ?_); cases u
  rw [Pipeline.launchCredit_owing, Finsupp.single_eq_same, owed_sum, List.map_congr_left fun p _ => owed_r c g j p, sum_once, once g j h, Nat.one_mul]
theorem launch_b (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_sum, List.map_congr_left fun p _ => owed_b c p]; rfl

/-- The launch's credit on a receive cell. -/
def rcred (c : Dev nD) (g : Fin 3) (j : Fin 12) : sProp 𝕄 :=
  cred (tallyOn (rCell c g j) (launchCredit (Pipeline.owing O₀) 0 (rCell c g j)))

theorem creds (c : Dev nD) : (Pipeline.launchCred O₀ c : sProp 𝕄)
    ⊢ iprop(cred (tallyAt (barCell c) () 3) ∗ bigSep Finset.univ fun p : GJ => rcred c p.1 p.2) := by
  have h : (Pipeline.launchCred O₀ c : sProp 𝕄)
      ⊢ bigSep Finset.univ fun k : Kx => cred (tallyOn (kcell (c, k)) (launchCredit (Pipeline.owing O₀) 0 (kcell (c, k)))) := by
    unfold Pipeline.launchCred
    refine (BI.bigSep_subset (Finset.subset_univ (Finset.univ.map ⟨csem, csem_inj⟩))).trans ?_
    rw [bigSep_map]; exact BI.Entails.refl _
  refine h.trans ?_
  rw [cells_split, bools]
  iintro ⟨HB, -, HR⟩
  isplitl [HB]
  · rw [← launch_b]; iexact HB
  iexact HR

/-! ## A transfer's start, assembled -/

/-- A column's tokens, positions and credit, in use or not. -/
def col (c : Dev nD) (g : Fin 3) (j : Fin 12) : sProp 𝕄 :=
  iprop(dutyTok ER (sCell c g j) 0 0 ∗ dutyTok ER (rCell (peer g j c) g j) 0 0
    ∗ atPos ER (sCell c g j) 0 ∅ 0 ∗ atPos ER (rCell c g j) 0 ∅ 0 ∗ rcred c g j)

theorem col_used (c : Dev nD) (g : Fin 3) (j : Fin 12) (h : used j = true) : col (F := F) c g j = trI c g j := by
  unfold col trI rcred; rw [launch_r c g j h]

theorem col_unused (K : Dev nD × Kx → ℕ) (c : Dev nD) (g : Fin 3) (j : Fin 12) (h : used j = false) : iprop(recs ξ K ∗ col c g j) ⊢ |={Set.univ}=> trD c g j := by
  unfold col trD
  iintro ⟨#HR, -, -, Hs, Hr, -⟩
  imod (Rounds.cell_close ER (Rd ξ) (Set.mem_univ (K (c, some (false, g, j)))) (fun h => h) (R := 0) (duties_unused ξ c false g j h)) $$ [Hs] with Hs
  · isplitr; · iapply (recs_inv ξ K (c, some (false, g, j))); iexact HR
    iexact Hs
  imod (Rounds.cell_close ER (Rd ξ) (Set.mem_univ (K (c, some (true, g, j)))) (fun h => h) (R := 0) (duties_unused ξ c true g j h)) $$ [Hr] with Hr
  · isplitr; · iapply (recs_inv ξ K (c, some (true, g, j))); iexact HR
    iexact Hr
  imodintro
  isplitl [Hs]; · iexact Hs
  iexact Hr

theorem cols_used (c : Dev nD) (g : Fin 3) : perCell (col (F := F)) c g = perCell trI c g := by
  unfold perCell
  rw [col_used c g 0 rfl, col_used c g 1 rfl, col_used c g 2 rfl, col_used c g 3 rfl, col_used c g 4 rfl, col_used c g 6 rfl, col_used c g 8 rfl,
    col_used c g 9 rfl, col_used c g 10 rfl, col_used c g 11 rfl]

/-- What a device starts from, column by column. -/
theorem assemble (c : Dev nD) : iprop(linear (F := F) c ∗ Pipeline.launchCred O₀ c)
    ⊢ iprop(bI c ∗ (dutyTok ER (barCell (pr 0 c)) 0 0 ∗ dutyTok ER (barCell (pr 1 c)) 0 1 ∗ dutyTok ER (barCell (pr 2 c)) 0 2)
      ∗ bigSep Finset.univ fun p : GJ => col c p.1 p.2) := by
  unfold linear payToks col bI
  rw [cells_split, bools, threes, bigSep_sep', bigSep_sep', bigSep_sep', bigSep_sep']
  iintro ⟨⟨⟨HaB, HaS, HaR⟩, HtB, HtS, HtR⟩, HC⟩
  ihave HC := (creds c) $$ HC
  icases HC with ⟨HcB, HcR⟩
  isplitl [HaB HcB]
  · isplitl [HaB]; · iexact HaB
    iexact HcB
  isplitl [HtB]; · iexact HtB
  isplitl [HtS]; · iexact HtS
  isplitl [HtR]; · iexact HtR
  isplitl [HaS]; · iexact HaS
  isplitl [HaR]; · iexact HaR
  iexact HcR

/-- The same by groups, the unused columns closed. -/
theorem by_groups (K : Dev nD × Kx → ℕ) (c : Dev nD) : iprop(recs ξ K ∗ bigSep Finset.univ fun p : GJ => col (F := F) c p.1 p.2)
    ⊢ |={Set.univ}=> iprop((perCell trI c 0 ∗ perCell trI c 1 ∗ perCell trI c 2)
      ∗ (trD c 0 5 ∗ trD c 0 7) ∗ (trD c 1 5 ∗ trD c 1 7) ∗ (trD c 2 5 ∗ trD c 2 7)) := by
  rw [bigSep_univ_prod, threes]
  iintro ⟨#HR, H0, H1, H2⟩
  ihave H0 := (columns col c 0).1 $$ H0
  icases H0 with ⟨P0, A0, B0⟩
  ihave H1 := (columns col c 1).1 $$ H1
  icases H1 with ⟨P1, A1, B1⟩
  ihave H2 := (columns col c 2).1 $$ H2
  icases H2 with ⟨P2, A2, B2⟩
  imod (col_unused ξ K c 0 5 rfl) $$ [A0] with A0
  · isplitr; · iexact HR
    iexact A0
  imod (col_unused ξ K c 0 7 rfl) $$ [B0] with B0
  · isplitr; · iexact HR
    iexact B0
  imod (col_unused ξ K c 1 5 rfl) $$ [A1] with A1
  · isplitr; · iexact HR
    iexact A1
  imod (col_unused ξ K c 1 7 rfl) $$ [B1] with B1
  · isplitr; · iexact HR
    iexact B1
  imod (col_unused ξ K c 2 5 rfl) $$ [A2] with A2
  · isplitr; · iexact HR
    iexact A2
  imod (col_unused ξ K c 2 7 rfl) $$ [B2] with B2
  · isplitr; · iexact HR
    iexact B2
  imodintro
  isplitl [P0 P1 P2]
  · rw [← cols_used, ← cols_used, ← cols_used]
    isplitl [P0]; · iexact P0
    isplitl [P1]; · iexact P1
    iexact P2
  isplitl [A0 B0]
  · isplitl [A0]; · iexact A0
    iexact B0
  isplitl [A1 B1]
  · isplitl [A1]; · iexact A1
    iexact B1
  isplitl [A2]; · iexact A2
  iexact B2

/-- All columns' semaphores at zero again. -/
theorem all_zero (c : Dev nD) : iprop((perCell (trD (F := F)) c 0 ∗ perCell trD c 1 ∗ perCell trD c 2)
      ∗ (trD c 0 5 ∗ trD c 0 7) ∗ (trD c 1 5 ∗ trD c 1 7) ∗ (trD c 2 5 ∗ trD c 2 7)) ⊢ own0 c := by
  have e : own0 (F := F) c = bigSep Finset.univ fun p : GJ => trD c p.1 p.2 := by
    unfold own0 Pipeline.ownSems0 trD
    rw [bools, bigSep_sep']
  rw [e, bigSep_univ_prod, threes]
  iintro ⟨⟨P0, P1, P2⟩, H0, H1, H2⟩
  isplitl [P0 H0]
  · iapply (columns trD c 0).2
    isplitl [P0]; · iexact P0
    iexact H0
  isplitl [P1 H1]
  · iapply (columns trD c 1).2
    isplitl [P1]; · iexact P1
    iexact H1
  iapply (columns trD c 2).2
  isplitl [P2]; · iexact P2
  iexact H2

end Cert.Butterfly

end
-- ==== Proof.Region.lean ====
/-
# The launch

The pipeline's proof data — the input window's block before and after, the result window at the sum after — the body
obligation, and the run of the whole program on eight devices.
-/
module

public import proofs.«01_k».proof.Proof.Deal
public import Idealize.ShloMosaic.Lib.Pipeline.CollectiveSegs
public import Idealize.ShloMosaic.Lib.Pipeline.ValueKit

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at the start. -/
abbrev s₀ : MemSt nD τ sig (Elt F) := ⟨m, fun _ => 0, ρ⟩

/-- Device `c`'s input, as staged. -/
def xi (c : Dev nD) : S1x2048x1024.Idx → Elt F .bf16 :=
  (win0_0.blk (0 : Fin 1)).view.read (Elt F) ((s₀ m ρ).mem ((c : Thread nD τ).loc main_arg0))

/-- What device `c`'s body starts from. -/
def start (c : Dev nD) : sProp 𝕄 := iprop((∃ K, recs (xi m ρ) K) ∗ linear c ∗ Pipeline.launchCred O₀ c)
def Φ₀ (c : Dev nD) : sProp 𝕄 := iprop(start m ρ c ∗ wS c ∗ wZ c)
/-- After the body: every semaphore at zero, and the scratch buffers. -/
def Φ₁ (c : Dev nD) : sProp 𝕄 := iprop(semVal (barCell c) 0 ∗ own0 c ∗ wS c ∗ wZ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xi m ρ c
    | ⟨1, _⟩ => cO (FIN (xi m ρ))
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 60000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 60000 in
def bodyPost (c : Dev nD) : sProp 𝕄 :=
  iprop(Φ₁ c ∗ (dats m ρ 0 c).owesAt () t0_0.succ ∗ stg c cc0_stg0_0 (xi m ρ c) ∗ stg c cc0_stg1_0 (cO (FIN (xi m ρ))))

/-- Everything the body leaves, put together. -/
theorem after_body (ξ : Dev nD → S1x2048x1024.Idx → Elt F .bf16) (c : Dev nD) :
    iprop((sent0 ξ c 0 ∗ sent0 ξ c 1 ∗ sent0 ξ c 2) ∗ (landed ξ c 0 ∗ landed ξ c 1 ∗ landed ξ c 2) ∗ (fin ξ c 0 ∗ fin ξ c 1 ∗ fin ξ c 2)
      ∗ idle c 0 ∗ idle c 1 ∗ idle c 2)
    ⊢ iprop(wS c ∗ wZ c ∗ (lO c ↦{fullShare} cO (FIN ξ))) := by
  unfold sent0 fin
  iintro ⟨HZ, HS, ⟨H0, H1, H2⟩, HI⟩
  isplitl [HS HI]
  · iapply (whole_S ξ c)
    isplitl [HS]; · iexact HS
    iexact HI
  isplitl [HZ]
  · iapply (whole_Z ξ c); iexact HZ
  iapply (whole_O ξ c)
  isplitl [H0]; · iapply (join_fin ξ c 0); iexact H0
  isplitl [H1]; · iapply (join_fin ξ c 1); iexact H1
  iapply (join_fin ξ c 2); iexact H2

theorem run_body (c : Dev nD) : bodyPre m ρ c ⊢ WP (F := F) c (cc0_body xM (Memref.isWhole_whole _) oM (Memref.isWhole_whole _)
    sM (Memref.isWhole_whole _) zM (Memref.isWhole_whole _) cc0_scratch2 cc0_scratch3) (fun _ => bodyPost m ρ c) := by
  unfold bodyPre bodyPost Φ₀ Φ₁ start Dat.owesAt Pipeline.owesWithin
  iintro ⟨⟨⟨⟨%K, #HR⟩, HL⟩, HS, HZ⟩, ⟨%W, %hW, HO⟩, ⟨%d0, %g0, %hg0, Hx⟩, ⟨%d1, %g1, %hg1, Ho⟩⟩
  have hx : g0 = xi m ρ c := by rw [hg0]; unfold Dat.before; rw [if_pos (fetch_0 t0_0)]; rfl
  subst hx
  ihave HA := (assemble (F := F) c) $$ HL
  icases HA with ⟨HbI, ⟨Ht0, Ht1, Ht2⟩, HC⟩
  imod (by_groups (xi m ρ) K c) $$ [HC] with ⟨⟨HT0, HT1, HT2⟩, HU⟩
  · isplitr; · iexact HR
    iexact HC
  ihave HW := (setup (F := F) c) $$ [Ho HS HZ]
  · isplitl [Ho]
    · unfold wO; iexists g1; iexact Ho
    isplitl [HS]; · iexact HS
    iexact HZ
  icases HW with ⟨⟨HP0, HP1, HP2⟩, ⟨⟨HK0, HV0⟩, ⟨HK1, HV1⟩, ⟨HK2, HV2⟩⟩, ⟨HZ0, HZ1, HZ2⟩, HI⟩
  iapply (body (xi m ρ) K c (Q := fun _ => bodyPost m ρ c))
  isplitr; · iexact HR
  isplitl [Hx]
  · unfold xpt; iexact Hx
  isplitl [HO]
  · unfold ow; iexists W; iexact HO
  isplitl [HbI]; · iexact HbI
  isplitl [Ht0]; · iexact Ht0
  isplitl [Ht1]; · iexact Ht1
  isplitl [Ht2]; · iexact Ht2
  isplitl [HP0]; · iexact HP0
  isplitl [HP1]; · iexact HP1
  isplitl [HP2]; · iexact HP2
  isplitl [HZ0 HK0 HV0]
  · unfold fresh
    isplitl [HZ0]; · iexact HZ0
    isplitl [HK0]; · iexact HK0
    iexact HV0
  isplitl [HZ1 HK1 HV1]
  · unfold fresh
    isplitl [HZ1]; · iexact HZ1
    isplitl [HK1]; · iexact HK1
    iexact HV1
  isplitl [HZ2 HK2 HV2]
  · unfold fresh
    isplitl [HZ2]; · iexact HZ2
    isplitl [HK2]; · iexact HK2
    iexact HV2
  isplitl [HT0]; · iexact HT0
  isplitl [HT1]; · iexact HT1
  isplitl [HT2]; · iexact HT2
  iintro Hx HO HbD HD0 HD1 HD2 Hs0 Hs1 Hs2 Hl0 Hl1 Hl2 Hf0 Hf1 Hf2
  ihave HW := (after_body (xi m ρ) c) $$ [Hs0 Hs1 Hs2 Hl0 Hl1 Hl2 Hf0 Hf1 Hf2 HI]
  · isplitl [Hs0 Hs1 Hs2]
    · isplitl [Hs0]; · iexact Hs0
      isplitl [Hs1]; · iexact Hs1
      iexact Hs2
    isplitl [Hl0 Hl1 Hl2]
    · isplitl [Hl0]; · iexact Hl0
      isplitl [Hl1]; · iexact Hl1
      iexact Hl2
    isplitl [Hf0 Hf1 Hf2]
    · isplitl [Hf0]; · iexact Hf0
      isplitl [Hf1]; · iexact Hf1
      iexact Hf2
    iexact HI
  icases HW with ⟨HS, HZ, Ho⟩
  unfold bodyPost Φ₁ Dat.owesAt Pipeline.owesWithin
  isplitl [HbD HD0 HD1 HD2 HU HS HZ]
  · isplitl [HbD]
    · unfold bD; iexact HbD
    isplitl [HD0 HD1 HD2 HU]
    · iapply (all_zero (F := F) c)
      isplitl [HD0 HD1 HD2]
      · isplitl [HD0]; · iexact HD0
        isplitl [HD1]; · iexact HD1
        iexact HD2
      iexact HU
    isplitl [HS]; · iexact HS
    iexact HZ
  isplitl [HO]
  · unfold ow
    icases HO with ⟨%W', HO⟩
    iexists W'
    isplitr; · ipureintro; exact fun _ _ => Or.inl (Set.mem_univ _)
    iexact HO
  isplitl [Hx]
  · unfold xpt; iexists _
    isplitr; · (ipureintro; rfl)
    iexact Hx
  iexists _
  isplitr; · (ipureintro; rfl)
  iexact Ho

set_option maxRecDepth 60000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) sM (Memref.isWhole_whole _) zM (Memref.isWhole_whole _) cc0_scratch2 cc0_scratch3)
      (fun _ => bodyPost m ρ c)
  exact run_body m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xi m ρ) c)
      ⊢ |={Set.univ}=> iprop(start m ρ c ∗ emp) := by
  unfold start G' recs₀
  iintro ⟨-, #Hlev, Hcr, -, ⟨⟨%K, HI, HR⟩, HL⟩⟩
  imodintro
  isplitl
  · isplitl [HI HR]
    · iexists K; unfold recs
      isplitl [HI]; · iexact HI
      isplitl [HR]; · iexact HR
      iexact Hlev
    isplitl [HL]; · iexact HL
    iexact Hcr
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ wS wZ
  iintro ⟨Hs, -, HS, HZ⟩
  isplitl [Hs]; · iexact Hs
  isplitl [HS]; · iexact HS
  iexact HZ

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ wS wZ
  iintro ⟨HB, HX, HS, HZ⟩
  isplitl [HB]; · iexact HB
  isplitl [HX]; · iexact HX
  isplitl [HS]; · iexact HS
  iexact HZ

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ evs (by fin_cases w <;> fin_cases s <;> decide)
    · show _ ⊢ MayWait (c : Thread nD τ) _ () 0
      rw [MayWait_zero]; iintro -; iempintro

/-- An array's contents at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 60000 in
/-- Every run ends, with the arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xi m ρ)) (G' := G' (xi m ρ)) (u₀ := u₀)
    (hu₀ := by
      unfold u₀
      iintro Hu
      ihave H := (ownU_pair _ _) $$ Hu
      icases H with ⟨HP, HX⟩
      imod (fund_cells (xi m ρ)) $$ HX with HG
      imodintro
      isplitl [HP] <;> iassumption)
    (hglob := glob (xi m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 2) = m ((c : Thread nD τ).loc main_arg0) :=
  (dats (F := F) m ρ 0 c).arrAt_in (0 : Fin 2) rfl _

/-- The result array ends at the sum. -/
theorem finalA_o (c : Dev nD) : finalA m ρ c (1 : Fin 2) = cO (FIN (xi m ρ)) := by
  unfold finalA
  refine (dats (F := F) m ρ 0 c).arrAt_eq_of_after_last (1 : Fin 2) t0_0 (by decide +kernel) _ fun j => ?_
  blk_simp
  rfl

end Cert.Butterfly

end
-- ==== Proof.Value.lean ====
/-
# The value

Over the extended reals the pairwise sums a block is formed by are, for every group and device, the sum over all eight
devices. The eight blocks of the three groups fill the rows, so the result is that sum everywhere — the reference's.
-/
module

public import proofs.«01_k».proof.Proof.Region
public import proofs.«01_k».proof.Proof.Gen.ReferenceIdeal.Run
public import Idealize.ShloMosaic.Lib.IdealHost
public import Idealize.ShloMosaic.Lib.Pointwise.Reduce
public import Idealize.ShloMosaic.PureOps.Ideal.Laws
public import Idealize.ShloMosaic.Lib.Layout

@[expose] public section

noncomputable section

namespace Cert.Butterfly

open Cert.KernelIdeal Cert.KernelIdeal.Gen
open Idealize.ShloMosaic Idealize.ShloMosaic.TcCoe
open Idealize.ShloMosaic.ValueIdx
open scoped BigOperators

/-! ## The sum over the devices -/

/-- The devices in the order the pairwise sums meet them. -/
abbrev order (g : Fin 3) (c : Dev nD) : List (Dev nD) :=
  [c, px g 0 c, px g 1 c, px g 0 (px g 1 c), px g 2 c, px g 0 (px g 2 c), px g 1 (px g 2 c), px g 0 (px g 1 (px g 2 c))]
theorem order_nodup : ∀ (g : Fin 3) (c : Dev nD), (order g c).Nodup := by decide
theorem order_all : ∀ (g : Fin 3) (c : Dev nD), (order g c).toFinset = Finset.univ := by decide

theorem eight {M : Type} [AddCommMonoid M] (s : Dev nD → M) (g : Fin 3) (c : Dev nD) :
    ((s c + s (px g 0 c)) + (s (px g 1 c) + s (px g 0 (px g 1 c))))
      + ((s (px g 2 c) + s (px g 0 (px g 2 c))) + (s (px g 1 (px g 2 c)) + s (px g 0 (px g 1 (px g 2 c))))) = ∑ d : Dev nD, s d := by
  rw [← order_all g c, List.sum_toFinset _ (order_nodup g c)]
  simp only [List.map_cons, List.map_nil, List.sum_cons, List.sum_nil, add_zero, add_assoc]

variable (ξ : Dev nD → S1x2048x1024.Idx → Elt Ideal .bf16)

theorem A2_sum (g : Fin 3) (c : Dev nD) (r k : ℕ) : A2 ξ g c r k = (∑ d : Dev nD, (X ξ d r k : EReal) : EReal) :=
  eight (M := EReal) (fun d => X ξ d r k) g c

/-! ## The blocks fill the rows -/

theorem block_at : ∀ (g : Fin 3) (i : Fin 8), ∃ c : Dev nD, kp2 g c = st g + i.val * sz g 2 := by decide

theorem within (g : Fin 3) (r : ℕ) (h1 : st g ≤ r) (h2 : r < st g + 8 * sz g 2) (h3 : 0 < sz g 2) :
    ∃ c : Dev nD, kp2 g c ≤ r ∧ r < kp2 g c + sz g 2 := by
  have hi : (r - st g) / sz g 2 < 8 := Nat.div_lt_of_lt_mul (by omega)
  obtain ⟨c, hc⟩ := block_at g ⟨(r - st g) / sz g 2, hi⟩
  have hd := Nat.div_add_mod (r - st g) (sz g 2)
  have hm := Nat.mod_lt (r - st g) h3
  rw [Nat.mul_comm] at hd
  simp only at hc
  exact ⟨c, by omega, by omega⟩

theorem filled (r : ℕ) (h : r < 2048) : ∃ (g : Fin 3) (c : Dev nD), kp2 g c ≤ r ∧ r < kp2 g c + sz g 2 := by
  by_cases h0 : r < 768
  · exact ⟨0, within 0 r (Nat.zero_le _) h0 (by decide)⟩
  by_cases h1 : r < 1408
  · exact ⟨1, within 1 r (Nat.not_lt.mp h0) h1 (by decide)⟩
  exact ⟨2, within 2 r (Nat.not_lt.mp h1) h (by decide)⟩

theorem FIN_sum (r k : ℕ) (h : r < 2048) : FIN ξ r k = (∑ d : Dev nD, (X ξ d r k : EReal) : EReal) := by
  obtain ⟨g, c, h1, h2⟩ := filled r h
  rw [FIN_at ξ g c r k h1 h2, A2_sum]

/-! ## Against the reference -/

/-- The staged input is the device's argument. -/
theorem xi_eq (m : (ℓ : Loc nD τ sig) → Buf (Elt Ideal) ℓ) (ρ : Dev nD → PrngReg) (c : Dev nD) :
    xi m ρ c = m ((c : Thread nD τ).loc main_arg0) := by
  unfold xi
  funext j
  refine congrArg (m ((c : Thread nD τ).loc main_arg0)) (funext fun a => Fin.ext ?_)
  exact win0_0.rect_emb_val_of_index_zero t0_0 a (by revert a; decide) j

/-- The reference's term. -/
abbrev refTerm (Y : Cert.ReferenceIdeal.S8x2048x1024.Idx → Elt Ideal .bf16) : Cert.ReferenceIdeal.S2048x1024.Idx → Elt Ideal .bf16 :=
  truncf (F := Ideal) (s := Cert.ReferenceIdeal.S2048x1024) (φ := .f32) .bf16 (Host.reduceAdd (F := Ideal) (φ := .f32) (extf (F := Ideal) (s := Cert.ReferenceIdeal.S8x2048x1024) (φ := .bf16) .f32 Y Cert.ReferenceIdeal.Facts₀.bitsLt_bf16_f32)
    (constant (F := Ideal) Cert.ReferenceIdeal.S_ .f32 0x00000000#32) Cert.ReferenceIdeal.Facts₀.reducesTo_S8x2048x1024_S2048x1024_d0 Cert.ReferenceIdeal.Facts₀.h_S_) Cert.ReferenceIdeal.Facts₀.bitsLt_bf16_f32

theorem refTerm_apply (Y : Cert.ReferenceIdeal.S8x2048x1024.Idx → Elt Ideal .bf16) (j : Cert.ReferenceIdeal.S2048x1024.Idx) :
    refTerm Y j = (∑ d : Fin 8, (Y (ValueIdx.ix3 d (j 0) (j 1)) : EReal) : EReal) := by
  unfold refTerm
  pointwise
  rfl

theorem agree (m : (ℓ : Loc nD τ sig) → Buf (Elt Ideal) ℓ) (ρ : Dev nD → PrngReg) (Y : Cert.ReferenceIdeal.S8x2048x1024.Idx → Elt Ideal .bf16)
    (h : ∀ c : Dev nD, m ((c : Thread nD τ).loc main_arg0) = Layout.block ⟨3, ![1, 2048, 1024]⟩ ⟨3, ![8, 2048, 1024]⟩ 0 8 c Y) :
    (cO (FIN (xi m ρ)) : S2048x1024.Idx → Elt Ideal .bf16) = refTerm Y := by
  funext j
  rw [refTerm_apply]
  show FIN (xi m ρ) (j 0).val (j 1).val = _
  rw [FIN_sum _ _ _ (j 0).isLt]
  refine Finset.sum_congr rfl fun d _ => ?_
  unfold X
  rw [xi_eq, h d, Layout.block_apply]
  refine congrArg Y (funext fun a => Fin.ext ?_)
  match a with
  | ⟨0, _⟩ => exact Nat.add_zero _ |>.trans (Nat.mul_one _)
  | ⟨1, _⟩ => exact Nat.mod_eq_of_lt (j 0).isLt
  | ⟨2, _⟩ => exact Nat.mod_eq_of_lt (j 1).isLt

end Cert.Butterfly

end
-- ==== Proof.Same.lean ====
/-
# One text, two programs

The kernel and its idealization have the same text: their body tables at the bit patterns are equal.
-/
module

public import proofs.«01_k».proof.Defs
public import proofs.«01_k».proof.Proof.Gen.Kernel
public import proofs.«01_k».proof.Proof.Gen.KernelIdeal

@[expose] public section

set_option maxRecDepth 100000

namespace Cert.Butterfly

open Idealize.ShloMosaic Idealize.SL.Sem

theorem body_same (x0 h0 x1 h1 x2 h2 x3 h3 s2 s3) :
    Cert.Kernel.cc0_body (F := Bits) x0 h0 x1 h1 x2 h2 x3 h3 s2 s3 = Cert.KernelIdeal.cc0_body (F := Bits) x0 h0 x1 h1 x2 h2 x3 h3 s2 s3 := by
  unfold Cert.Kernel.cc0_body Cert.KernelIdeal.cc0_body
  rfl

theorem bodies_same : Cert.Kernel.defs₀ (F := Bits) = Cert.KernelIdeal.defs₀ (F := Bits) := by
  unfold Cert.Kernel.defs₀ Cert.KernelIdeal.defs₀
  refine congrArg _ (funext fun l => funext fun a => ?_)
  match l, a with
  | 0, (t, s) => exact body_same _ _ _ _ _ _ _ _ _ _

theorem defs_same : Cert.Kernel.defs (F := Bits) = Cert.KernelIdeal.defs (F := Bits) := by
  unfold Cert.Kernel.defs Cert.KernelIdeal.defs
  exact congrArg (Pipeline.defs (Cert.KernelIdeal.pcfgs (F := Bits))) bodies_same

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem

open Idealize.ShloMosaic.TcCoe

section KernelSide
open Cert.KernelIdeal

/-- What a run's end says of the argument and the semaphores. -/
theorem quiet {F : FTy → Type} [FloatOps F] {m : (ℓ : Loc nD τ sig) → Buf (Elt F) ℓ} {ρ : Dev nD → PrngReg} {r : PUnit × MemSt nD τ sig (Elt F)}
    (h : Cert.Butterfly.QC m ρ r ∧ r.2.sem = fun _ => 0) :
    (∀ c : Dev nD, r.2.mem ((c.tc : Thread nD τ).loc main_arg0) = m ((c.tc : Thread nD τ).loc main_arg0)) ∧ r.2.sem = fun _ => 0 :=
  ⟨fun c => (h.1 c (0 : Fin 2)).trans (Cert.Butterfly.finalA_x m ρ c), h.2⟩

end KernelSide

theorem frame_kernelIdeal : Cert.quiescent_KernelIdeal := fun m ρ _ =>
  (θ_run Cert.KernelIdeal.defs _ _).mono (fun _ h => quiet h) (Cert.Butterfly.run_main (F := Ideal) m ρ)

/-- The two programs have one text, so the run at the bit patterns is the other's. -/
theorem frame_kernel : Cert.quiescent_Kernel := fun m ρ _ => by
  rw [Cert.Butterfly.defs_same]
  exact (θ_run Cert.KernelIdeal.defs _ _).mono (fun _ h => quiet h) (Cert.Butterfly.run_main (F := Bits) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ h =>
  ⟨Cert.Butterfly.refTerm (m' (((0 : Dev Cert.ReferenceIdeal.nD).tc : Thread Cert.ReferenceIdeal.nD Cert.ReferenceIdeal.τ).loc Cert.ReferenceIdeal.main_arg0)),
    (θ_run Cert.KernelIdeal.defs _ _).mono
      (fun _ hr c => ⟨(hr.1 c (1 : Fin 2)).trans ((Cert.Butterfly.finalA_o m ρ c).trans (Cert.Butterfly.agree m ρ _ h)), (quiet hr).1 c⟩)
      (Cert.Butterfly.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
